-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_v44) = v2 c
          ∧ r.2.mem ((c.tc : Thread Cert.Reference7Ideal.nD Cert.Reference7Ideal.τ).loc Cert.Reference7Ideal.main_v45) = v3 c
          ∧ r.2.mem ((c.tc : Thread Cert.Reference7Ideal.nD Cert.Reference7Ideal.τ).loc Cert.Reference7Ideal.main_v46) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v35) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v48) = v0 c
          ∧ r.2.mem ((c.tc : Thread Cert.Reference15Ideal.nD Cert.Reference15Ideal.τ).loc Cert.Reference15Ideal.main_v49) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_v32) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  IdealRules.named_const.Statement Cert.Kernel16Ideal.κ "gelu_cubic" .f32 0x3D122279#32 ((80338380498831 / 2251799813685248 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v45) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S512x1024 : Shape := ⟨2, ![512, 1024]⟩
abbrev S2x512x1024 : Shape := ⟨3, ![2, 512, 1024]⟩
abbrev S2x2 : Shape := ⟨2, ![2, 2]⟩
abbrev S1x1024 : Shape := ⟨2, ![1, 1024]⟩
abbrev S1x512x1024 : Shape := ⟨3, ![1, 512, 1024]⟩
abbrev S1024 : Shape := ⟨1, ![1024]⟩
abbrev S1x1 : Shape := ⟨2, ![1, 1]⟩
abbrev S_ : Shape := ⟨0, ![]⟩
abbrev S8192x2048 : Shape := ⟨2, ![8192, 2048]⟩

abbrev nBuf : Space → Nat
  | .hbm => 24
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x7168, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x7168, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x7168, .bf16⟩
  | .hbm, ⟨22, _⟩ => ⟨S2x1024, .f32⟩
  | .hbm, ⟨23, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S2x1024, .f32⟩
  | .local _ .vmem, ⟨23, _⟩ => ⟨S2x512x1024, .bf16⟩
  | .local _ .vmem, ⟨24, _⟩ => ⟨S2x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v66 : Index := Scalar.indexCast v10
  let c0_29 : Index := 0#32
  let c0_30 : Index := 0#32
  ![v66.toNat, 0, 0]
def k0_cond2 (i : grid0.Coords) : BitVec 1 :=
  let arg0 : BitVec 32 := BitVec.ofNat 32 (i 0).val
  let c0_i32_55 : BitVec 32 := 0#32
  let v100 : BitVec 1 := Scalar.cmpi .sgt arg0 c0_i32_55
  let v101 : BitVec 32 := Scalar.extui v100
  let c0_i32_56 : BitVec 32 := 0#32
  let v102 : BitVec 1 := Scalar.cmpi .ne v101 c0_i32_56
  v102

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg0 : BitVec 32 := BitVec.ofNat 32 (i 0).val
  let c512_i32 : BitVec 32 := 512#32
  let v0 : BitVec 32 := Scalar.muli arg0 c512_i32
  v0
def k0_off2 (i : grid0.Coords) : Fin 2 → Nat :=
  let c1_i32_64 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v117 : BitVec 32 := Scalar.subi c1_i32_64 v10
  let c0_i32_65 : BitVec 32 := 0#32
  ![v117.toNat, 0]
def k0_off3 (i : grid0.Coords) : Fin 2 → Nat :=
  let arg0 : BitVec 32 := BitVec.ofNat 32 (i 0).val
  let c512_i32 : BitVec 32 := 512#32
  let v0 : BitVec 32 := Scalar.muli arg0 c512_i32
  let v118 : BitVec 32 := v0
  let c5120_i32_66 : BitVec 32 := 5120#32
  ![v118.toNat, 5120]
def k0_off4 (i : grid0.Coords) : Fin 3 → Nat :=
  let c1_i32_64 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v117 : BitVec 32 := Scalar.subi c1_i32_64 v10
  let c0_i32_67 : BitVec 32 := 0#32
  let c0_i32_68 : BitVec 32 := 0#32
  ![v117.toNat, 0, 0]
def k0_off5 (i : grid0.Coords) : Fin 2 → Nat :=
  let c1_i32_64 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v117 : BitVec 32 := Scalar.subi c1_i32_64 v10
  let c1_i32_69 : BitVec 32 := 1#32
  ![v117.toNat, 1]
def k0_off6 (i : grid0.Coords) : Fin 2 → Nat :=
  let arg0 : BitVec 32 := BitVec.ofNat 32 (i 0).val
  let c512_i32 : BitVec 32 := 512#32
  let v0 : BitVec 32 := Scalar.muli arg0 c512_i32
  let v119 : BitVec 32 := v0
  let c6144_i32_70 : BitVec 32 := 6144#32
  ![v119.toNat, 6144]
def k0_mult3 (i : grid0.Coords) : BitVec 32 :=
  let arg0 : BitVec 32 := BitVec.ofNat 32 (i 0).val
  let c512_i32 : BitVec 32 := 512#32
  let v0 : BitVec 32 := Scalar.muli arg0 c512_i32
  v0
def k0_mult4 (i : grid0.Coords) : BitVec 32 :=
  let arg0 : BitVec 32 := BitVec.ofNat 32 (i 0).val
  let c512_i32 : BitVec 32 := 512#32
  let v0 : BitVec 32 := Scalar.muli arg0 c512_i32
  v0
def k0_off7 (i : grid0.Coords) : Fin 2 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_57 : BitVec 32 := 0#32
  ![v10.toNat, 0]
def k0_off8 (i : grid0.Coords) : Fin 2 → Nat :=
  let arg0 : BitVec 32 := BitVec.ofNat 32 (i 0).val
  let c512_i32 : BitVec 32 := 512#32
  let v0 : BitVec 32 := Scalar.muli arg0 c512_i32
  let v103 : BitVec 32 := v0
  let c5120_i32 : BitVec 32 := 5120#32
  ![v103.toNat, 5120]
def k0_off9 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_58 : BitVec 32 := 0#32
  let c0_i32_59 : BitVec 32 := 0#32
  ![v10.toNat, 0, 0]
def k0_off10 (i : grid0.Coords) : Fin 2 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c1_i32_60 : BitVec 32 := 1#32
  ![v10.toNat, 1]
def k0_off11 (i : grid0.Coords) : Fin 2 → Nat :=
  let arg0 : BitVec 32 := BitVec.ofNat 32 (i 0).val
  let c512_i32 : BitVec 32 := 512#32
  let v0 : BitVec 32 := Scalar.muli arg0 c512_i32
  let v104 : BitVec 32 := v0
  let c6144_i32 : BitVec 32 := 6144#32
  ![v104.toNat, 6144]
def k0_cond3 (i : grid0.Coords) : BitVec 1 :=
  let arg0 : BitVec 32 := BitVec.ofNat 32 (i 0).val
  let c15_i32 : BitVec 32 := 15#32
  let v11 : BitVec 1 := Scalar.cmpi .eq arg0 c15_i32
  let v115 : BitVec 32 := Scalar.extui v11
  let c0_i32_63 : BitVec 32 := 0#32
  let v116 : BitVec 1 := Scalar.cmpi .ne v115 c0_i32_63
  v116

def k0_mult5 (i : grid0.Coords) : BitVec 32 :=
  let arg0 : BitVec 32 := BitVec.ofNat 32 (i 0).val
  let c512_i32 : BitVec 32 := 512#32
  let v0 : BitVec 32 := Scalar.muli arg0 c512_i32
  v0
def k0_mult6 (i : grid0.Coords) : BitVec 32 :=
  let arg0 : BitVec 32 := BitVec.ofNat 32 (i 0).val
  let c512_i32 : BitVec 32 := 512#32
  let v0 : BitVec 32 := Scalar.muli arg0 c512_i32
  v0
def k0_off12 (i : grid0.Coords) : Fin 2 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_64 : BitVec 32 := 0#32
  ![v10.toNat, 0]
def k0_off13 (i : grid0.Coords) : Fin 2 → Nat :=
  let arg0 : BitVec 32 := BitVec.ofNat 32 (i 0).val
  let c512_i32 : BitVec 32 := 512#32
  let v0 : BitVec 32 := Scalar.muli arg0 c512_i32
  let v117 : BitVec 32 := v0
  let c5120_i32_65 : BitVec 32 := 5120#32
  ![v117.toNat, 5120]
def k0_off14 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_66 : BitVec 32 := 0#32
  let c0_i32_67 : BitVec 32 := 0#32
  ![v10.toNat, 0, 0]
def k0_off15 (i : grid0.Coords) : Fin 2 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c1_i32_68 : BitVec 32 := 1#32
  ![v10.toNat, 1]
def k0_off16 (i : grid0.Coords) : Fin 2 → Nat :=
  let arg0 : BitVec 32 := BitVec.ofNat 32 (i 0).val
  let c512_i32 : BitVec 32 := 512#32
  let v0 : BitVec 32 := Scalar.muli arg0 c512_i32
  let v118 : BitVec 32 := v0
  let c6144_i32_69 : BitVec 32 := 6144#32
  ![v118.toNat, 6144]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S8192x2048 : Shape := ⟨2, ![8192, 2048]⟩
abbrev S_ : Shape := ⟨0, ![]⟩
abbrev S1x1024 : Shape := ⟨2, ![1, 1024]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x7168, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S2x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S8192x2048, .f32⟩
  | .hbm, ⟨80, _⟩ => ⟨S_, .f32⟩
  | .hbm, ⟨81, _⟩ => ⟨S8192x2048, .f32⟩
  | .hbm, ⟨82, _⟩ => ⟨S8192x2048, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Kernel2.lean ====
abbrev S8192x1024 : Shape := ⟨2, ![8192, 1024]⟩
abbrev S8192x6144 : Shape := ⟨2, ![8192, 6144]⟩
abbrev S1024x6144 : Shape := ⟨2, ![1024, 6144]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S1024x6144, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x3072 : Shape := ⟨2, ![8192, 3072]⟩
abbrev S8192x1024 : Shape := ⟨2, ![8192, 1024]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S3072x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S3072x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x6144 : Shape := ⟨2, ![1024, 6144]⟩
abbrev S8192x6144 : Shape := ⟨2, ![8192, 6144]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x1024, .bf16⟩
  | .hbm, ⟨3, _⟩ => ⟨S1024x6144, .bf16⟩
  | .hbm, ⟨4, _⟩ => ⟨S8192x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x3072 : Shape := ⟨2, ![8192, 3072]⟩
abbrev S3072x1024 : Shape := ⟨2, ![3072, 1024]⟩
abbrev S8192x1024 : Shape := ⟨2, ![8192, 1024]⟩
abbrev S1024x3072 : Shape := ⟨2, ![1024, 3072]⟩
abbrev S1024x1024 : Shape := ⟨2, ![1024, 1024]⟩
abbrev S8x128 : Shape := ⟨2, ![8, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x3072, .bf16⟩
  | .hbm, ⟨4, _⟩ => ⟨S3072x1024, .bf16⟩
  | .hbm, ⟨5, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7168, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S1x1024, .f32⟩
  | .hbm, ⟨9, _⟩ => ⟨S8192x1024, .bf16⟩
  | .hbm, ⟨10, _⟩ => ⟨S8192x1024, .bf16⟩
  | .hbm, ⟨11, _⟩ => ⟨S8192x7168, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7168, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel8.lean ====
abbrev S8192x1024 : Shape := ⟨2, ![8192, 1024]⟩
abbrev S1024x7168 : Shape := ⟨2, ![1024, 7168]⟩
abbrev S8192x7168 : Shape := ⟨2, ![8192, 7168]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x1024, .bf16⟩
  | .hbm, ⟨3, _⟩ => ⟨S1024x7168, .bf16⟩
  | .hbm, ⟨4, _⟩ => ⟨S8192x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .f32⟩
  | .hbm, ⟨2, _⟩ => ⟨S8192x7168, .f32⟩
  | .hbm, ⟨3, _⟩ => ⟨S8192x7168, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x1024 : Shape := ⟨2, ![8192, 1024]⟩
abbrev S8192x7168 : Shape := ⟨2, ![8192, 7168]⟩
abbrev S1024x7168 : Shape := ⟨2, ![1024, 7168]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .bf16⟩
  | .hbm, ⟨3, _⟩ => ⟨S8192x7168, .bf16⟩
  | .hbm, ⟨4, _⟩ => ⟨S1024x7168, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S_, .f32⟩
  | .hbm, ⟨3, _⟩ => ⟨S1024x7168, .f32⟩
  | .hbm, ⟨4, _⟩ => ⟨S8192x7168, .f32⟩
  | .hbm, ⟨5, _⟩ => ⟨S7168x1024, .f32⟩
  | .hbm, ⟨6, _⟩ => ⟨S1024x7168, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S3072x1024 : Shape := ⟨2, ![3072, 1024]⟩
abbrev S8192x3072 : Shape := ⟨2, ![8192, 3072]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S8192x1024, .bf16⟩
  | .hbm, ⟨3, _⟩ => ⟨S3072x1024, .bf16⟩
  | .hbm, ⟨4, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S_, .f32⟩
  | .hbm, ⟨3, _⟩ => ⟨S8192x3072, .f32⟩
  | .hbm, ⟨4, _⟩ => ⟨S8192x1024, .f32⟩
  | .hbm, ⟨5, _⟩ => ⟨S8192x3072, .f32⟩
  | .hbm, ⟨6, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x6144 : Shape := ⟨2, ![8192, 6144]⟩
abbrev S1024x6144 : Shape := ⟨2, ![1024, 6144]⟩
abbrev S8192x1024 : Shape := ⟨2, ![8192, 1024]⟩
abbrev S1024x3072 : Shape := ⟨2, ![1024, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S8192x6144, .bf16⟩
  | .hbm, ⟨3, _⟩ => ⟨S1024x6144, .bf16⟩
  | .hbm, ⟨4, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x6144 : Shape := ⟨2, ![8192, 6144]⟩
abbrev S1024x6144 : Shape := ⟨2, ![1024, 6144]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S_, .f32⟩
  | .hbm, ⟨3, _⟩ => ⟨S8192x1024, .f32⟩
  | .hbm, ⟨4, _⟩ => ⟨S8192x6144, .f32⟩
  | .hbm, ⟨5, _⟩ => ⟨S8192x1024, .f32⟩
  | .hbm, ⟨6, _⟩ => ⟨S8192x1024, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x7168 : Shape := ⟨2, ![8192, 7168]⟩
abbrev S1024x7168 : Shape := ⟨2, ![1024, 7168]⟩
abbrev S8192x1024 : Shape := ⟨2, ![8192, 1024]⟩
abbrev S1024x3584 : Shape := ⟨2, ![1024, 3584]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x7168, .f32⟩
  | .hbm, ⟨1, _⟩ => ⟨S1024x7168, .f32⟩
  | .hbm, ⟨2, _⟩ => ⟨S8192x7168, .bf16⟩
  | .hbm, ⟨3, _⟩ => ⟨S1024x7168, .bf16⟩
  | .hbm, ⟨4, _⟩ => ⟨S8192x1024, .bf16⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S1024x7168, .f32⟩
  | .hbm, ⟨2, _⟩ => ⟨S_, .f32⟩
  | .hbm, ⟨3, _⟩ => ⟨S8192x1024, .f32⟩
  | .hbm, ⟨4, _⟩ => ⟨S8192x7168, .f32⟩
  | .hbm, ⟨5, _⟩ => ⟨S8192x1024, .f32⟩
  | .hbm, ⟨6, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S8x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x128, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel16.lean ====
abbrev S8192x6144 : Shape := ⟨2, ![8192, 6144]⟩
abbrev S3x3072 : Shape := ⟨2, ![3, 3072]⟩
abbrev S1x3072 : Shape := ⟨2, ![1, 3072]⟩
abbrev S8192x3072 : Shape := ⟨2, ![8192, 3072]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S1x3072, .f32⟩
  | .hbm, ⟨3, _⟩ => ⟨S8192x6144, .bf16⟩
  | .hbm, ⟨4, _⟩ => ⟨S8192x3072, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel16Ideal.lean ====
variable {F : FTy → Type} [FloatOps F] [Named F]
def κ : String → Option EReal := fun
  | "gelu_cubic" => some ((80338380498831 / 2251799813685248 : ℝ) : EReal)
  | _ => none
-- ==== Reference16Ideal.lean ====
abbrev S8192x6144 : Shape := ⟨2, ![8192, 6144]⟩
abbrev S3x3072 : Shape := ⟨2, ![3, 3072]⟩
abbrev S1x3072 : Shape := ⟨2, ![1, 3072]⟩
abbrev S4x2048x6144 : Shape := ⟨3, ![4, 2048, 6144]⟩
abbrev S4x2048x3072 : Shape := ⟨3, ![4, 2048, 3072]⟩
abbrev S3072 : Shape := ⟨1, ![3072]⟩
abbrev S_ : Shape := ⟨0, ![]⟩
abbrev S4x2050x3072 : Shape := ⟨3, ![4, 2050, 3072]⟩
abbrev S1x1x3072 : Shape := ⟨3, ![1, 1, 3072]⟩
abbrev S8192x3072 : Shape := ⟨2, ![8192, 3072]⟩

abbrev nBuf : Space → Nat
  | .hbm => 56
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S1x3072, .f32⟩
  | .hbm, ⟨3, _⟩ => ⟨S4x2048x6144, .f32⟩
  | .hbm, ⟨4, _⟩ => ⟨S4x2048x3072, .f32⟩
  | .hbm, ⟨5, _⟩ => ⟨S3072, .f32⟩
  | .hbm, ⟨6, _⟩ => ⟨S_, .i32⟩
  | .hbm, ⟨7, _⟩ => ⟨S_, .f32⟩
  | .hbm, ⟨8, _⟩ => ⟨S4x2050x3072, .f32⟩
  | .hbm, ⟨9, _⟩ => ⟨S1x3072, .f32⟩
  | .hbm, ⟨10, _⟩ => ⟨S3072, .f32⟩
  | .hbm, ⟨11, _⟩ => ⟨S4x2048x3072, .f32⟩
  | .hbm, ⟨12, _⟩ => ⟨S1x1x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S1x3072, .f32⟩
  | .hbm, ⟨19, _⟩ => ⟨S3072, .f32⟩
  | .hbm, ⟨20, _⟩ => ⟨S4x2048x3072, .f32⟩
  | .hbm, ⟨21, _⟩ => ⟨S1x1x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S1x3072, .f32⟩
  | .hbm, ⟨26, _⟩ => ⟨S3072, .f32⟩
  | .hbm, ⟨27, _⟩ => ⟨S4x2048x3072, .f32⟩
  | .hbm, ⟨28, _⟩ => ⟨S1x1x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S1x1x3072, .f32⟩
  | .hbm, ⟨33, _⟩ => ⟨S4x2048x3072, .f32⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S_, .f32⟩
  | .hbm, ⟨42, _⟩ => ⟨S4x2048x3072, .f32⟩
  | .hbm, ⟨43, _⟩ => ⟨S4x2048x3072, .f32⟩
  | .hbm, ⟨44, _⟩ => ⟨S4x2048x3072, .f32⟩
  | .hbm, ⟨45, _⟩ => ⟨S_, .f32⟩
  | .hbm, ⟨46, _⟩ => ⟨S4x2048x3072, .f32⟩
  | .hbm, ⟨47, _⟩ => ⟨S4x2048x3072, .f32⟩
  | .hbm, ⟨48, _⟩ => ⟨S_, .f32⟩
  | .hbm, ⟨49, _⟩ => ⟨S4x2048x3072, .f32⟩
  | .hbm, ⟨50, _⟩ => ⟨S4x2048x3072, .f32⟩
  | .hbm, ⟨51, _⟩ => ⟨S4x2048x3072, .f32⟩
  | .hbm, ⟨52, _⟩ => ⟨S4x2048x3072, .f32⟩
  | .hbm, ⟨53, _⟩ => ⟨S4x2048x3072, .f32⟩
  | .hbm, ⟨54, _⟩ => ⟨S8192x3072, .f32⟩
  | .hbm, ⟨55, _⟩ => ⟨S8192x3072, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Proof.NormRow.lean ====
/-
  The gradient of the root-mean-square norm, a row at a time: two ways of writing it agree on all extended reals.
-/
module

public import Idealize.ShloMosaic.Lib.Pointwise

@[expose] public section

noncomputable section

namespace Cert.NormRow

open Idealize.ShloMosaic

/-- The two forms' constants. -/
theorem word_1024 : (Ideal.ofBits .f32 0x44800000#32 : EReal) = ((1024 : ℝ) : EReal) := by
  simp [Ideal.ofBits, Ideal.ieee, -EReal.coe_mul]; norm_num
theorem word_neg_half : (Ideal.ofBits .f32 0xBF000000#32 : EReal) = ((-(1/2) : ℝ) : EReal) := by
  simp [Ideal.ofBits, Ideal.ieee, -EReal.coe_mul]; norm_num
theorem word_recip_1024 : (Ideal.ofBits .f32 0x3A800000#32 : EReal) = ((1/1024 : ℝ) : EReal) := by
  simp [Ideal.ofBits, Ideal.ieee, -EReal.coe_mul]; norm_num
theorem word_half : (Ideal.ofBits .f32 0x3F000000#32 : EReal) = ((1/2 : ℝ) : EReal) := by
  simp [Ideal.ofBits, Ideal.ieee, -EReal.coe_mul]; norm_num
theorem word_two : (Ideal.ofBits .f32 0x40000000#32 : EReal) = ((2 : ℝ) : EReal) := by
  simp [Ideal.ofBits, Ideal.ieee, -EReal.coe_mul]; norm_num
theorem word_one : (Ideal.ofBits .f32 0x3F800000#32 : EReal) = ((1 : ℝ) : EReal) := by
  simp [Ideal.ofBits, Ideal.ieee, -EReal.coe_mul]; norm_num
theorem word_root : (Ideal.ofBits .f32 0x3F4C422A#32 : EReal) = ((13386282 / 16777216 : ℝ) : EReal) := by
  simp [Ideal.ofBits, Ideal.ieee, -EReal.coe_mul]; norm_num
theorem word_cube : (Ideal.ofBits .f32 0x3D372713#32 : EReal) = ((12003091 / 268435456 : ℝ) : EReal) := by
  simp [Ideal.ofBits, Ideal.ieee, -EReal.coe_mul]; norm_num
theorem word_eps : ∃ e : ℝ, 0 < e ∧ (Ideal.ofBits .f32 0x358637BD#32 : EReal) = (e : EReal) := by
  refine ⟨_, ?_, by simp [Ideal.ofBits, Ideal.ieee, -EReal.coe_mul]; rfl⟩
  norm_num

variable {n : ℕ}

/-- The mean of a row's squares with the small number added, and the reciprocal of its root. -/
def meanSq (x : Fin n → EReal) : EReal := Ideal.div (∑ l, x l * x l) (Ideal.ofBits .f32 0x44800000#32) + Ideal.ofBits .f32 0x358637BD#32
def rootRecip (x : Fin n → EReal) : EReal := Ideal.rsqrt (meanSq x)

/-- What flows back to a row's element: with the normed row and one mean; and as the product rule gives it, the mean square's share counted once for each of its two factors. -/
def back (u x : Fin n → EReal) (j : Fin n) : EReal :=
  rootRecip x * (u j - x j * rootRecip x * Ideal.div (∑ l, u l * (x l * rootRecip x)) (Ideal.ofBits .f32 0x44800000#32))
def share (u x : Fin n → EReal) : EReal :=
  Ideal.div ((∑ l, x l * u l) * (Ideal.ofBits .f32 0xBF000000#32 * Ideal.div (rootRecip x) (meanSq x))) (Ideal.ofBits .f32 0x44800000#32)
def backRule (u x : Fin n → EReal) (j : Fin n) : EReal := u j * rootRecip x + x j * share u x + share u x * x j

theorem sq_nonneg (a : EReal) : 0 ≤ a * a := by
  rcases le_total 0 a with h | h
  · exact mul_nonneg h h
  · have h' : 0 ≤ -a := by simpa using h
    simpa using mul_nonneg h' h'

/-- A nonnegative real factor comes out of a sum. -/
theorem sum_mul_real (f : Fin n → EReal) (r : ℝ) (hr : 0 ≤ r) : ∑ l, f l * (r : EReal) = (∑ l, f l) * (r : EReal) := by
  have h0 : (0 : EReal) ≤ (r : EReal) := by exact_mod_cast hr
  induction (Finset.univ : Finset (Fin n)) using Finset.induction_on with
  | empty => simp
  | insert a s ha ih => rw [Finset.sum_insert ha, Finset.sum_insert ha, ih, EReal.right_distrib_of_nonneg_of_ne_top h0 (EReal.coe_ne_top r)]

/-- Twice a real multiple is the multiple and itself. -/
theorem mul_double (t : EReal) (a : ℝ) : t * ((2 * a : ℝ) : EReal) = t * (a : EReal) + t * (a : EReal) := by
  induction t with
  | coe t => norm_cast; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The mean square is `⊤`, or a positive real and every element of the row is real. -/
theorem meanSq_cases (x : Fin n → EReal) : meanSq x = ⊤ ∨ ∃ s : ℝ, 0 < s ∧ meanSq x = (s : EReal) ∧ ∀ j, ∃ a : ℝ, x j = (a : EReal) := by
  obtain ⟨e, he, hw⟩ := word_eps
  have hS : 0 ≤ ∑ l, x l * x l := Finset.sum_nonneg fun l _ => sq_nonneg (x l)
  unfold meanSq
  rw [word_1024, Ideal.div_coe (by norm_num), hw]
  by_cases hT : ∑ l, x l * x l = ⊤
  · left
    rw [hT, EReal.top_mul_coe_of_pos (by norm_num)]
    exact EReal.top_add_coe e
  · right
    obtain ⟨S, hS'⟩ : ∃ S : ℝ, ∑ l, x l * x l = (S : EReal) := ⟨_, (EReal.coe_toReal hT (ne_of_gt (lt_of_lt_of_le (by simp) hS))).symm⟩
    rw [hS'] at hS ⊢
    have hS0 : 0 ≤ S := by exact_mod_cast hS
    refine ⟨S * (1 / 1024) + e, by positivity, by norm_cast, fun j => ?_⟩
    have hj : x j * x j ≤ (S : EReal) := hS' ▸ Finset.single_le_sum (f := fun l => x l * x l) (fun l _ => sq_nonneg (x l)) (Finset.mem_univ j)
    have hlt : x j * x j ≠ ⊤ := ne_of_lt (lt_of_le_of_lt hj (EReal.coe_lt_top S))
    refine ⟨(x j).toReal, (EReal.coe_toReal ?_ ?_).symm⟩ <;> (intro hx; exact hlt (by rw [hx]; rfl))

/-- The two forms agree. -/
theorem back_eq (u x : Fin n → EReal) (j : Fin n) : back u x j = backRule u x j := by
  unfold back backRule share rootRecip
  rw [word_neg_half, word_1024]
  rcases meanSq_cases x with h | ⟨s, hs, h, hx⟩
  · rw [h, Ideal.rsqrt_top]
    simp [Ideal.div]
  · obtain ⟨a, ha⟩ := hx j
    rw [h, Ideal.rsqrt_coe, if_neg (not_lt.mpr hs.le), if_neg hs.ne', Ideal.div_coe hs.ne', Ideal.div_coe (by norm_num), Ideal.div_coe (by norm_num), ha]
    obtain ⟨r, hr⟩ : ∃ r : ℝ, r = (Real.sqrt s)⁻¹ := ⟨_, rfl⟩
    have hr0 : 0 < r := hr ▸ inv_pos.mpr (Real.sqrt_pos.mpr hs)
    have hrs : 1 / s = r * r := by
      rw [hr, ← mul_inv, Real.mul_self_sqrt hs.le, one_div]
    rw [← hr, hrs]
    have hsum : ∑ l, u l * (x l * (r : EReal)) = (∑ l, x l * u l) * (r : EReal) := by
      rw [← sum_mul_real _ r hr0.le]
      exact Finset.sum_congr rfl fun l _ => by rw [← mul_assoc, mul_comm (u l)]
    rw [hsum]
    generalize (∑ l, x l * u l) = T
    have h0 : (0 : EReal) ≤ (r : EReal) := by exact_mod_cast hr0.le
    rw [sub_eq_add_neg, EReal.left_distrib_of_nonneg_of_ne_top h0 (EReal.coe_ne_top r), mul_comm (r : EReal) (u j), add_assoc]
    congr 1
    have e1 : (r : EReal) * -((a : EReal) * (r : EReal) * (T * (r : EReal) * ((1 / 1024 : ℝ) : EReal))) = T * ((2 * (a * (-(1/2) * (r * (r * r))) * (1/1024)) : ℝ) : EReal) := by
      rw [show ((2 * (a * (-(1/2) * (r * (r * r))) * (1/1024)) : ℝ)) = -(r * (a * r * (r * (1 / 1024)))) by ring]
      rw [mul_neg, EReal.coe_neg, mul_neg]
      congr 1
      simp only [EReal.coe_mul]
      ac_rfl
    have e2 : (a : EReal) * (T * (((-(1/2) : ℝ) : EReal) * ((r : EReal) * ((r * r : ℝ) : EReal))) * ((1 / 1024 : ℝ) : EReal)) = T * ((a * (-(1/2) * (r * (r * r))) * (1/1024) : ℝ) : EReal) := by
      simp only [EReal.coe_mul]
      ac_rfl
    rw [e1, mul_double, mul_comm _ (a : EReal), e2]

end Cert.NormRow

end
-- ==== Proof.Products.lean ====
/-
  Products of matrices over the extended reals, and how a product cut into blocks of its summed dimension is put together again.
-/
module

public import Idealize.ShloMosaic.Lib.Pointwise
public import Idealize.ShloMosaic.Lib.Pipeline.ValueKit

@[expose] public section

noncomputable section

namespace Cert.Products

open Idealize.ShloMosaic Idealize.ShloMosaic.TcCoe

/-- A matrix of extended reals. -/
abbrev Mat (n k : ℕ) := (⟨2, ![n, k]⟩ : Shape).Idx → EReal

section
variable {K N M : ℕ}
/-- The product of two matrices; of the first one's transpose with the second; of the first with the second one's transpose. -/
def nn (x : Mat M K) (y : Mat K N) : Mat M N := fun i => ∑ l : Fin K, x (ix2 (i 0) l) * y (ix2 l (i 1))
def tn (x : Mat K M) (y : Mat K N) : Mat M N := fun i => ∑ l : Fin K, x (ix2 l (i 0)) * y (ix2 l (i 1))
def nt (x : Mat M K) (y : Mat N K) : Mat M N := fun i => ∑ l : Fin K, x (ix2 (i 0) l) * y (ix2 (i 1) l)

/-- A sum over twice `h` terms is the sum of its two halves. -/
theorem sum_halves {n h : ℕ} (hn : n = h + h) (f : Fin n → EReal) :
    ∑ l, f l = ∑ l : Fin h, f ⟨0 * h + l.val, by omega⟩ + ∑ l : Fin h, f ⟨1 * h + l.val, by omega⟩ := by
  subst hn
  refine (Fin.sum_univ_add f).trans (congrArg₂ (· + ·) ?_ ?_) <;> refine Finset.sum_congr rfl fun l _ => congrArg f (Fin.ext ?_)
  · show l.val = 0 * h + l.val; omega
  · show h + l.val = 1 * h + l.val; omega

/-- A matrix read at an element whose coordinates are known. -/
theorem at_coords (X : Mat N K) (e : (⟨2, ![N, K]⟩ : Shape).Idx) (i : Fin N) (j : Fin K)
    (h0 : (e 0).val = i.val) (h1 : (e 1).val = j.val) : X e = X (ix2 i j) := by
  congr 1
  funext a
  match a with
  | 0 => exact Fin.ext h0
  | 1 => exact Fin.ext h1
end

/-- The first block of a dimension begins at its beginning. -/
theorem from_zero {k : ℕ} (hk : k = 0) (b l : ℕ) : k * b + l = l := by rw [hk, Nat.zero_mul, Nat.zero_add]

/-- A product over the rows, put together from its two halves' blocks. -/
theorem tn_of_halves {K h M N bm bn : ℕ} (hK : K = h + h) (x : Mat K M) (y : Mat K N) {I : Fin M} {J : Fin N} {i : Fin bm} {j : Fin bn}
    {x0 x1 : Mat h bm} {y0 y1 : Mat h bn}
    (hx0 : ∀ l, x0 (ix2 l i) = x (ix2 ⟨0 * h + l.val, by omega⟩ I)) (hy0 : ∀ l, y0 (ix2 l j) = y (ix2 ⟨0 * h + l.val, by omega⟩ J))
    (hx1 : ∀ l, x1 (ix2 l i) = x (ix2 ⟨1 * h + l.val, by omega⟩ I)) (hy1 : ∀ l, y1 (ix2 l j) = y (ix2 ⟨1 * h + l.val, by omega⟩ J)) :
    ∑ l, x0 (ix2 l i) * y0 (ix2 l j) + ∑ l, x1 (ix2 l i) * y1 (ix2 l j) = tn x y (ix2 I J) :=
  (congrArg₂ (· + ·) (Finset.sum_congr rfl fun l _ => congrArg₂ (· * ·) (hx0 l) (hy0 l))
    (Finset.sum_congr rfl fun l _ => congrArg₂ (· * ·) (hx1 l) (hy1 l))).trans (sum_halves hK fun l => x (ix2 l I) * y (ix2 l J)).symm

/-- The same of a product over the columns of both. -/
theorem nt_of_halves {K h M N bm bn : ℕ} (hK : K = h + h) (x : Mat M K) (y : Mat N K) {I : Fin M} {J : Fin N} {i : Fin bm} {j : Fin bn}
    {x0 x1 : Mat bm h} {y0 y1 : Mat bn h}
    (hx0 : ∀ l, x0 (ix2 i l) = x (ix2 I ⟨0 * h + l.val, by omega⟩)) (hy0 : ∀ l, y0 (ix2 j l) = y (ix2 J ⟨0 * h + l.val, by omega⟩))
    (hx1 : ∀ l, x1 (ix2 i l) = x (ix2 I ⟨1 * h + l.val, by omega⟩)) (hy1 : ∀ l, y1 (ix2 j l) = y (ix2 J ⟨1 * h + l.val, by omega⟩)) :
    ∑ l, x0 (ix2 i l) * y0 (ix2 j l) + ∑ l, x1 (ix2 i l) * y1 (ix2 j l) = nt x y (ix2 I J) :=
  (congrArg₂ (· + ·) (Finset.sum_congr rfl fun l _ => congrArg₂ (· * ·) (hx0 l) (hy0 l))
    (Finset.sum_congr rfl fun l _ => congrArg₂ (· * ·) (hx1 l) (hy1 l))).trans (sum_halves hK fun l => x (ix2 I l) * y (ix2 J l)).symm

theorem zeros : (![0, 0] : Fin 2 → ℕ) = fun _ => 0 := funext fun a => by fin_cases a <;> rfl

end Cert.Products

end
-- ==== Proof.NormGrad.lean ====
/-
  The gradient of the root-mean-square norm over a whole array: what flows back to the rows, what flows back to the weight, and the sum over rows put
  together from blocks of rows.
-/
module

public import proofs.«01_k».proof.Proof.NormRow
public import proofs.«01_k».proof.Proof.Products

@[expose] public section

noncomputable section

namespace Cert.NormGrad

open Idealize.ShloMosaic Cert.Products Cert.NormRow

section
variable {N : ℕ} (g x : Mat N 1024) (w : Mat 1 1024)

/-- A row. -/
def row (r : Fin N) : Fin 1024 → EReal := fun l => x (ix2 r l)
/-- A row's normed elements, before the weight. -/
def normed (r : Fin N) (j : Fin 1024) : EReal := x (ix2 r j) * rootRecip (row x r)
/-- What flows back to the rows from `g`, through the weight and the norm. -/
def toRows : Mat N 1024 := fun i => back (fun l => g (ix2 (i 0) l) * w (ix2 0 l)) (row x (i 0)) (i 1)
/-- The same with what flows back another way added. -/
def addRows (d : Mat N 1024) : Mat N 1024 := fun i => d i + toRows g x w i
/-- What flows back to the weight, one row's share and all. -/
def toWeight (j : Fin 1024) (r : Fin N) : EReal := g (ix2 r j) * normed x r j
def weightGrad : Mat 1 1024 := fun i => ∑ r : Fin N, toWeight g x (i 1) r
end

/-! A row of a block and the same row of the whole array. -/
section
variable {n N : ℕ} {g x : Mat n 1024} {G X : Mat N 1024} {w W : Mat 1 1024} {i : Fin n} {I : Fin N}

theorem row_congr (hx : ∀ l, x (ix2 i l) = X (ix2 I l)) : row x i = row X I := funext hx
theorem toRows_congr (hg : ∀ l, g (ix2 i l) = G (ix2 I l)) (hx : ∀ l, x (ix2 i l) = X (ix2 I l)) (hw : ∀ l, w (ix2 0 l) = W (ix2 0 l)) (j : Fin 1024) :
    toRows g x w (ix2 i j) = toRows G X W (ix2 I j) := by
  show back _ (row x i) j = back _ (row X I) j
  rw [row_congr hx]
  exact congrArg (fun u => back u (row X I) j) (funext fun l => congrArg₂ (· * ·) (hg l) (hw l))
theorem toWeight_congr (hg : ∀ l, g (ix2 i l) = G (ix2 I l)) (hx : ∀ l, x (ix2 i l) = X (ix2 I l)) (j : Fin 1024) : toWeight g x j i = toWeight G X j I := by
  unfold toWeight normed
  rw [row_congr hx, hg, hx]
end

/-- A running total over `N` blocks of `n` terms ends with the sum of all of them. -/
theorem sum_blocks {N n L : ℕ} (hL : L = N * n) (f : Fin L → EReal) (hl : ∀ t < N, ∀ k : Fin n, t * n + k.val < L) (acc : (t : ℕ) → t < N → EReal)
    (h0 : ∀ h : 0 < N, acc 0 h = ∑ k : Fin n, f ⟨0 * n + k.val, hl 0 h k⟩)
    (hs : ∀ t (h : t + 1 < N), acc (t + 1) h = acc t (Nat.lt_of_succ_lt h) + ∑ k : Fin n, f ⟨(t + 1) * n + k.val, hl (t + 1) h k⟩)
    (t : ℕ) (ht : t < N) (hN : t + 1 = N) : acc t ht = ∑ l, f l := by
  have key : ∀ t (h : t < N), acc t h = ∑ s : Fin (t + 1), ∑ k : Fin n, f ⟨s.val * n + k.val, hl s.val (lt_of_lt_of_le s.isLt h) k⟩ := by
    intro t
    induction t with
    | zero => intro h; rw [h0 h, Fin.sum_univ_one]; rfl
    | succ t ih => intro h; rw [hs t h, ih, Fin.sum_univ_castSucc (n := t + 1)]; rfl
  rw [key t ht]
  subst hN
  exact Fin.sum_mul_add_fin (t + 1) n f hL

end Cert.NormGrad

end
-- ==== Proof.NormBack.lean ====
/-
  The gradient of the second norm: the kernel's blocks of rows are those of the whole array's gradient, and its running total the weight's gradient.
-/
module

public import proofs.«01_k».proof.Proof.NormGrad
public import proofs.«01_k».proof.Proof.Gen.Kernel13Ideal.Value

@[expose] public section

set_option maxRecDepth 16384

noncomputable section

namespace Cert.Kernel13Ideal.NormBack

open Idealize.ShloMosaic Idealize.ShloMosaic.TcCoe Idealize.ShloMosaic.StableHlo Idealize.SL.Sem Cert.Kernel13Ideal Cert.Kernel13Ideal.Gen Cert.Products Cert.NormGrad
open Idealize.ShloMosaic.Pipeline (Dat)
open Idealize.ShloMosaic.Pipeline.Window (rect_emb_val)

section Cases
variable {F : FTy → Type} [FloatOps F]
variable (c : Dev nD) (i : grid0.Coords) (a1 : Memref sig .tc .vmem S512x1024 .f32) (h1 : a1.IsWhole) (a2 : Memref sig .tc .vmem S512x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .bf16) (h6 : a6.IsWhole) (a7 : Memref sig .tc .vmem S1x1024 .f32) (h7 : a7.IsWhole)
  (d : Vec F S512x1024 .f32) (g : Vec F S512x1024 .bf16) (x : Vec F S512x1024 .f32) (w : Vec F S1x1024 .f32)

/-- The first point stores its rows' gradient, the same rounded, and its share of the weight's gradient. -/
theorem first_point (g0 : cond0_0 i) (g1 : ¬cond0_1 i) :
    out0_A_4 c i a1 h1 a2 h2 a3 h3 a4 h4 a5 h5 a6 h6 a7 h7 g0 g1 d g x w = k0_pay5 x g w d
    ∧ out0_A_5 c i a1 h1 a2 h2 a3 h3 a4 h4 a5 h5 a6 h6 a7 h7 g0 g1 d g x w = k0_pay6 x g w d
    ∧ out0_A_6 c i a1 h1 a2 h2 a3 h3 a4 h4 a5 h5 a6 h6 a7 h7 g0 g1 d g x w = k0_pay7 x g := by
  refine ⟨?_, ?_, ?_⟩
  · unfold out0_A_4
    rw [View.read_writes_eq_canon _ _ _ (cover0_A_4 c i a1 h1 a2 h2 a3 h3 a4 h4 a5 h5 a6 h6 a7 h7 g0 g1 d g x w)]
    unfold kernelRun0_A
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_A_5
    rw [View.read_writes_eq_canon _ _ _ (cover0_A_5 c i a1 h1 a2 h2 a3 h3 a4 h4 a5 h5 a6 h6 a7 h7 g0 g1 d g x w)]
    unfold kernelRun0_A
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_A_6
    rw [View.read_writes_eq_canon _ _ _ (cover0_A_6 c i a1 h1 a2 h2 a3 h3 a4 h4 a5 h5 a6 h6 a7 h7 g0 g1 d g x w)]
    unfold kernelRun0_A
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]

/-- A later point does the same, its share added to what the points before it left. -/
theorem later_point (g0 : ¬cond0_0 i) (g1 : cond0_1 i) (acc : Vec F S1x1024 .f32) :
    out0_B_4 c i a1 h1 a2 h2 a3 h3 a4 h4 a5 h5 a6 h6 a7 h7 g0 g1 d g x w acc = k0_pay5 x g w d
    ∧ out0_B_5 c i a1 h1 a2 h2 a3 h3 a4 h4 a5 h5 a6 h6 a7 h7 g0 g1 d g x w acc = k0_pay6 x g w d
    ∧ out0_B_6 c i a1 h1 a2 h2 a3 h3 a4 h4 a5 h5 a6 h6 a7 h7 g0 g1 d g x w acc = addf acc (k0_pay7 x g) := by
  refine ⟨?_, ?_, ?_⟩
  · unfold out0_B_4
    rw [View.read_writes_eq_canon _ _ _ (cover0_B_4 c i a1 h1 a2 h2 a3 h3 a4 h4 a5 h5 a6 h6 a7 h7 g0 g1 d g x w acc)]
    unfold kernelRun0_B
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_B_5
    rw [View.read_writes_eq_canon _ _ _ (cover0_B_5 c i a1 h1 a2 h2 a3 h3 a4 h4 a5 h5 a6 h6 a7 h7 g0 g1 d g x w acc)]
    unfold kernelRun0_B
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_B_6
    rw [View.read_writes_eq_canon _ _ _ (cover0_B_6 c i a1 h1 a2 h2 a3 h3 a4 h4 a5 h5 a6 h6 a7 h7 g0 g1 d g x w acc)]
    unfold kernelRun0_B
    dsimp only
    sl_unfold_words
    rw [View.canon_unit_zero zeros]
    unfold k0_pay1
    simp only [View.readAt_eq_ld, h1.read_unread, h2.read_unread, h3.read_unread, h4.read_unread, h7.read_unread, View.ld_unit_zero (S := S512x1024) zeros, View.ld_unit_zero (S := S1x1024) zeros, shapeCast_self]
end Cases

/-! ## A point's values, at an element -/

theorem recip_at (x : Vec Ideal S512x1024 .f32) (i : Fin 512) : k0_pay2 (F := Ideal) x (ix2 i 0) = NormRow.rootRecip (row (N := 512) x i) := by
  unfold NormRow.rootRecip NormRow.meanSq row
  pointwise [k0_pay2]
theorem normed_at (x : Vec Ideal S512x1024 .f32) (i : Fin 512) (j : Fin 1024) : k0_pay3 (F := Ideal) x (ix2 i j) = normed (N := 512) x i j := by
  unfold normed
  rw [← recip_at]
  pointwise [k0_pay3]
theorem rows_at (d : Vec Ideal S512x1024 .f32) (g : Vec Ideal S512x1024 .bf16) (x : Vec Ideal S512x1024 .f32) (w : Vec Ideal S1x1024 .f32) (i : Fin 512) (j : Fin 1024) :
    k0_pay5 (F := Ideal) x g w d (ix2 i j) = d (ix2 i j) + toRows (N := 512) g x w (ix2 i j) := by
  have h2 := recip_at x i
  have h3 := normed_at x i
  unfold normed at h3
  unfold toRows NormRow.back
  generalize hp : k0_pay2 (F := Ideal) x = p at h2
  generalize hq : k0_pay3 (F := Ideal) x = q at h3
  have e : k0_pay5 (F := Ideal) x g w d (ix2 i j) = d (ix2 i j) + p (ix2 i 0) * (g (ix2 i j) * w (ix2 0 j)
      - q (ix2 i j) * Ideal.div (∑ l : Fin 1024, g (ix2 i l) * w (ix2 0 l) * q (ix2 i l)) (Ideal.ofBits .f32 0x44800000#32)) := by
    unfold k0_pay5 k0_pay4
    rw [hp, hq]
    pointwise []
  rw [e, h2]
  simp only [h3]
  rfl
theorem share_at (g : Vec Ideal S512x1024 .bf16) (x : Vec Ideal S512x1024 .f32) (j : Fin 1024) :
    k0_pay7 (F := Ideal) x g (ix2 0 j) = ∑ r : Fin 512, toWeight (N := 512) g x j r := by
  have h3 := fun i => normed_at x i j
  unfold toWeight
  simp only [← h3]
  generalize hq : k0_pay3 (F := Ideal) x = q
  unfold k0_pay7 k0_pay4
  rw [hq]
  pointwise []

variable (m : (ℓ : Loc nD τ sig) → Buf (Elt Ideal) ℓ) (c : Dev nD)

/-- The arguments as launched: what is added, what flows back, the norm's input and its weight. -/
abbrev added : Mat 8192 1024 := m ((c : Thread nD τ).loc main_arg0)
abbrev flow : Mat 8192 1024 := m ((c : Thread nD τ).loc main_arg1)
abbrev input : Mat 8192 1024 := m ((c : Thread nD τ).loc main_arg2)
abbrev weight : Mat 1 1024 := m ((c : Thread nD τ).loc main_arg3)

/-- The host's cast leaves it as it is. -/
theorem host_reads : (V m c main_v0 : Mat 8192 1024) = flow m c := by
  unfold V
  unfold hostOps0
  after_results_simp
  rfl

/-- Each point takes its own rows, and the one weight. -/
theorem index : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 ∧ win0_6.index t 0 = 0 ∧ win0_6.index t 1 = 0 := by
  decide +kernel

section Blocks
variable (t : Fin cfg0.N) (i : Fin 512) (l : Fin 1024) (I : Fin 8192) (hI : t.val * 512 + i.val = I.val)
include hI

theorem added_at : (iblk m c 0 t : Vec Ideal S512x1024 .f32) (ix2 i l) = added m c (ix2 I l) := by
  obtain ⟨e, e', -⟩ := index t
  refine Eq.trans ?_ (congrFun (V_main_arg0 m c) _)
  exact at_coords (V m c main_arg0) _ I l ((rect_emb_val win0_0 t (ix2 i l) 0).trans ((congrArg (· * 512 + i.val) e).trans hI)) ((rect_emb_val win0_0 t (ix2 i l) 1).trans (from_zero e' _ _))
theorem flow_at : (iblk m c 1 t : Vec Ideal S512x1024 .bf16) (ix2 i l) = flow m c (ix2 I l) := by
  obtain ⟨-, -, e, e', -⟩ := index t
  rw [← host_reads m c]
  exact at_coords (V m c main_v0) _ I l ((rect_emb_val win0_1 t (ix2 i l) 0).trans ((congrArg (· * 512 + i.val) e).trans hI)) ((rect_emb_val win0_1 t (ix2 i l) 1).trans (from_zero e' _ _))
theorem input_at : (iblk m c 2 t : Vec Ideal S512x1024 .f32) (ix2 i l) = input m c (ix2 I l) := by
  obtain ⟨-, -, -, -, e, e', -⟩ := index t
  refine Eq.trans ?_ (congrFun (V_main_arg2 m c) _)
  exact at_coords (V m c main_arg2) _ I l ((rect_emb_val win0_2 t (ix2 i l) 0).trans ((congrArg (· * 512 + i.val) e).trans hI)) ((rect_emb_val win0_2 t (ix2 i l) 1).trans (from_zero e' _ _))
end Blocks

theorem weight_at (t : Fin cfg0.N) (l : Fin 1024) : (iblk m c 3 t : Vec Ideal S1x1024 .f32) (ix2 0 l) = weight m c (ix2 0 l) := by
  obtain ⟨-, -, -, -, -, -, e, e', -⟩ := index t
  refine Eq.trans ?_ (congrFun (V_main_arg3 m c) _)
  exact at_coords (V m c main_arg3) _ 0 l ((rect_emb_val win0_3 t (ix2 0 l) 0).trans (from_zero e _ _)) ((rect_emb_val win0_3 t (ix2 0 l) 1).trans (from_zero e' _ _))

/-- What a point leaves in its blocks. -/
theorem rows_left (t : Fin cfg0.N) : (outsAt0 m c t.val t.isLt).1 = k0_pay5 (iblk m c 2 t) (iblk m c 1 t) (iblk m c 3 t) (iblk m c 0 t)
    ∧ (outsAt0 m c t.val t.isLt).2.1 = k0_pay6 (iblk m c 2 t) (iblk m c 1 t) (iblk m c 3 t) (iblk m c 0 t) := by
  have hN : t.val < 16 := lt_of_lt_of_eq t.isLt N_0
  by_cases h : t.val = 0
  · rw [outsAt0_A m c t (by omega) (by omega)]
    dsimp only
    exact ⟨(first_point ..).1, (first_point ..).2.1⟩
  · rw [outsAt0_B m c t (by omega) (by omega)]
    dsimp only
    exact ⟨(later_point ..).1, (later_point ..).2.1⟩

/-- The rows' result: what is added and the gradient through the norm. -/
def rowsResult : Mat 8192 1024 := addRows (flow m c) (input m c) (weight m c) (added m c)

theorem rows_value (t : Fin cfg0.N) (i : Fin 512) (j : Fin 1024) (I : Fin 8192) (hI : t.val * 512 + i.val = I.val) :
    k0_pay5 (F := Ideal) (iblk m c 2 t) (iblk m c 1 t) (iblk m c 3 t) (iblk m c 0 t) (ix2 i j) = rowsResult m c (ix2 I j) :=
  (rows_at _ _ _ _ i j).trans (congrArg₂ (· + ·) (added_at m c t i j I hI)
    (toRows_congr (fun l => flow_at m c t i l I hI) (fun l => input_at m c t i l I hI) (fun l => weight_at m c t l) j))

theorem rows_final : ((dats m 0 c).arrAt 4 cfg0.N : Mat 8192 1024) = rowsResult m c := by
  refine (dats m 0 c).arrAt_eq_of_covers 4 _ (by decide +kernel) fun t hf y => ?_
  blk_simp
  obtain ⟨i, j, rfl⟩ : ∃ (i : Fin 512) (j : Fin 1024), y = ix2 i j := ⟨y 0, y 1, eq_ix2 y⟩
  have hN : t.val < 16 := lt_of_lt_of_eq t.isLt N_0
  obtain ⟨I, hI⟩ : ∃ I : Fin 8192, t.val * 512 + i.val = I.val := ⟨⟨_, by omega⟩, rfl⟩
  obtain ⟨-, -, -, -, -, -, -, -, e, e', -⟩ := index t
  refine Eq.trans ?_ (at_coords (rowsResult m c) _ I j ((rect_emb_val win0_4 t (ix2 i j) 0).trans ((congrArg (· * 512 + i.val) e).trans hI)) ((rect_emb_val win0_4 t (ix2 i j) 1).trans (from_zero e' _ _))).symm
  rw [after0_4, (rows_left m c t).1]
  exact rows_value m c t i j I hI

theorem rounded_final : ((dats m 0 c).arrAt 5 cfg0.N : Mat 8192 1024) = rowsResult m c := by
  refine (dats m 0 c).arrAt_eq_of_covers 5 _ (by decide +kernel) fun t hf y => ?_
  blk_simp
  obtain ⟨i, j, rfl⟩ : ∃ (i : Fin 512) (j : Fin 1024), y = ix2 i j := ⟨y 0, y 1, eq_ix2 y⟩
  have hN : t.val < 16 := lt_of_lt_of_eq t.isLt N_0
  obtain ⟨I, hI⟩ : ∃ I : Fin 8192, t.val * 512 + i.val = I.val := ⟨⟨_, by omega⟩, rfl⟩
  obtain ⟨-, -, -, -, -, -, -, -, -, -, e, e', -⟩ := index t
  refine Eq.trans ?_ (at_coords (rowsResult m c) _ I j ((rect_emb_val win0_5 t (ix2 i j) 0).trans ((congrArg (· * 512 + i.val) e).trans hI)) ((rect_emb_val win0_5 t (ix2 i j) 1).trans (from_zero e' _ _))).symm
  rw [after0_5, (rows_left m c t).2]
  exact rows_value m c t i j I hI

/-- One point's share of the weight's gradient is that of its rows. -/
theorem share_value (t : Fin cfg0.N) (j : Fin 1024) (hl : ∀ k : Fin 512, t.val * 512 + k.val < 8192) :
    k0_pay7 (F := Ideal) (iblk m c 2 t) (iblk m c 1 t) (ix2 0 j) = ∑ k : Fin 512, toWeight (flow m c) (input m c) j ⟨t.val * 512 + k.val, hl k⟩ :=
  (share_at _ _ j).trans (Finset.sum_congr rfl fun k _ => toWeight_congr (fun l => flow_at m c t k l _ rfl) (fun l => input_at m c t k l _ rfl) j)

/-- The last point leaves the sum over all rows. -/
theorem total (t : Fin cfg0.N) (ht : t.val + 1 = cfg0.N) (j : Fin 1024) : (outsAt0 m c t.val t.isLt).2.2 (ix2 0 j) = weightGrad (flow m c) (input m c) (ix2 0 j) := by
  have hN : cfg0.N = 16 := N_0
  refine sum_blocks (N := cfg0.N) (n := 512) (L := 8192) (by rw [hN]) (toWeight (flow m c) (input m c) j) (fun t ht k => by omega)
    (fun t h => (outsAt0 m c t h).2.2 (ix2 0 j)) (fun h => ?_) (fun t h => ?_) t.val t.isLt ht
  · rw [outsAt0_A m c ⟨0, h⟩ (Nat.zero_mod _) (by dsimp only; omega)]
    dsimp only
    exact (congrFun (first_point ..).2.2 _).trans (share_value m c ⟨0, h⟩ j _)
  · have h16 : t + 1 < 16 := lt_of_lt_of_eq h N_0
    rw [outsAt0_B m c ⟨t + 1, h⟩ (by dsimp only; omega) (by dsimp only; omega)]
    dsimp only
    exact (congrFun (later_point ..).2.2 _).trans (congrArg _ (share_value m c ⟨t + 1, h⟩ j _))

theorem weight_final : ((dats m 0 c).arrAt 6 cfg0.N : Mat 1 1024) = weightGrad (flow m c) (input m c) := by
  refine (dats m 0 c).arrAt_eq_of_covers 6 _ (by decide +kernel) fun t hf y => ?_
  blk_simp
  obtain ⟨j, rfl⟩ : ∃ (j : Fin 1024), y = ix2 0 j := ⟨y 1, (eq_ix2 y).trans (congrArg (fun k => ix2 k (y 1)) (Subsingleton.elim (α := Fin 1) (y 0) 0))⟩
  have h15 : t.val % 16 = 15 := (flush0_6 t).mp hf
  have hN : t.val < 16 := lt_of_lt_of_eq t.isLt N_0
  obtain ⟨-, -, -, -, -, -, -, -, -, -, -, -, e, e'⟩ := index t
  refine Eq.trans ?_ (at_coords (weightGrad (flow m c) (input m c)) _ 0 j ((rect_emb_val win0_6 t (ix2 0 j) 0).trans (from_zero e _ _)) ((rect_emb_val win0_6 t (ix2 0 j) 1).trans (from_zero e' _ _))).symm
  rw [after0_6]
  exact total m c t ((show t.val + 1 = 16 by omega).trans N_0.symm) j

/-- From any memory the kernel ends with the gradients, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v1_0) = rowsResult m c
      ∧ r.2.mem ((c : Thread nD τ).loc main_v1_1) = rowsResult m c
      ∧ r.2.mem ((c : Thread nD τ).loc main_v1_2) = weightGrad (flow m c) (input m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h c).1.trans (rows_final m c), (h c).2.1.trans (rounded_final m c), (h c).2.2.1.trans (weight_final m c), (h c).2.2.2⟩)
    (Value.run_blocks m ρ)

end Cert.Kernel13Ideal.NormBack

end
-- ==== Proof.NormBackRef.lean ====
/-
  The gradient of the second norm: the reference's, as the product rule gives it, is that of Proof/NormGrad.lean.
-/
module

public import proofs.«01_k».proof.Proof.NormGrad
public import proofs.«01_k».proof.Proof.Gen.Reference13Ideal.Run

@[expose] public section

set_option maxRecDepth 16384

noncomputable section

namespace Cert.Reference13Ideal.NormBack

open Idealize.ShloMosaic Idealize.ShloMosaic.TcCoe Idealize.ShloMosaic.StableHlo Idealize.SL.Sem Cert.Reference13Ideal Cert.Reference13Ideal.Gen Cert.Products Cert.NormGrad

section
variable (d g x : FVec Ideal S8192x1024 .f32) (w : FVec Ideal S1x1024 .f32)

/-- The mean of a row's squares with the small number added, and the reciprocal of its root. -/
def mean : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def recip : FVec Ideal S8192x1 .f32 := Host.rsqrt (mean x)
/-- What flows back to the norm, through its weight. -/
def scaled : FVec Ideal S8192x1024 .f32 := mulf g (broadcastInDim S8192x1024 ![0, 1] bcast_S1x1024_S8192x1024_0_1 w)
/-- The share of each of a square's two factors, by row. -/
def shares (u : FVec Ideal S8192x1024 .f32) : FVec Ideal S8192 .f32 :=
  Host.reduceAdd (Host.divf (mulf (shapeCast _ (Host.reduceAdd (mulf x u) (constant S_ .f32 0x00000000#32) reducesTo_S8192x1024_S8192_d1 h_S_) shapeCasts_S8192_S8192x1)
    (mulf (broadcastInDim S8192x1 ![] bcast_S_S8192x1 (constant S_ .f32 0xBF000000#32)) (Host.divf (recip x) (mean x))))
    (broadcastInDim S8192x1 ![] bcast_S_S8192x1 (constant S_ .f32 0x44800000#32))) (constant S_ .f32 0x00000000#32) reducesTo_S8192x1_S8192_d1 h_S_
/-- The gradient by rows, and by weight. -/
def rows (u : FVec Ideal S8192x1024 .f32) : FVec Ideal S8192x1024 .f32 :=
  addf (addf (mulf u (broadcastInDim S8192x1024 ![0, 1] bcast_S8192x1_S8192x1024_0_1 (recip x)))
    (mulf x (broadcastInDim S8192x1024 ![0] bcast_S8192_S8192x1024_0 (shares x u)))) (mulf (broadcastInDim S8192x1024 ![0] bcast_S8192_S8192x1024_0 (shares x u)) x)
def weights : FVec Ideal S1x1024 .f32 :=
  shapeCast _ (Host.reduceAdd (mulf (mulf x (broadcastInDim S8192x1024 ![0, 1] bcast_S8192x1_S8192x1024_0_1 (recip x))) g)
    (constant S_ .f32 0x00000000#32) reducesTo_S8192x1024_S1024_d0 h_S_) shapeCasts_S1024_S1x1024

/-! ## Each of them, at an element -/

theorem mean_at (i : Fin 8192) : mean x (ix2 i 0) = NormRow.meanSq (row (N := 8192) x i) := by
  unfold NormRow.meanSq row
  pointwise [mean]
theorem recip_at (i : Fin 8192) : recip x (ix2 i 0) = NormRow.rootRecip (row (N := 8192) x i) := by
  unfold NormRow.rootRecip
  rw [← mean_at]
  pointwise [recip]
theorem scaled_at (i : Fin 8192) (j : Fin 1024) : scaled g w (ix2 i j) = g (ix2 i j) * w (ix2 0 j) := by
  pointwise [scaled]
theorem shares_at (u : FVec Ideal S8192x1024 .f32) (i : Fin 8192) : shares x u (ix1 i) = NormRow.share (row (N := 8192) u i) (row (N := 8192) x i) := by
  unfold NormRow.share
  rw [← recip_at, ← mean_at]
  unfold row
  generalize hr : recip x = r
  generalize hm : mean x = s
  unfold shares
  rw [hr, hm]
  pointwise []
  exact Fin.sum_univ_one _
theorem rows_at (u : FVec Ideal S8192x1024 .f32) (i : Fin 8192) (j : Fin 1024) : rows x u (ix2 i j) = NormRow.backRule (row (N := 8192) u i) (row (N := 8192) x i) j := by
  unfold NormRow.backRule
  rw [← recip_at, ← shares_at]
  unfold row
  generalize hr : recip x = r
  generalize hm : shares x u = s
  unfold rows
  rw [hr, hm]
  pointwise []

/-- The rows' gradient and the weight's are those of the formulas. -/
theorem rows_eq : addf d (rows x (scaled g w)) = addRows (N := 8192) g x w d := by
  funext e
  obtain ⟨i, j, rfl⟩ : ∃ (i : Fin 8192) (j : Fin 1024), e = ix2 i j := ⟨e 0, e 1, eq_ix2 e⟩
  refine congrArg (d (ix2 i j) + ·) ((rows_at x _ i j).trans ((NormRow.back_eq _ _ j).symm.trans ?_))
  exact congrArg (fun u => NormRow.back u (row (N := 8192) x i) j) (funext fun l => scaled_at g w i l)
theorem weights_eq : weights g x = weightGrad (N := 8192) g x := by
  funext e
  obtain ⟨j, rfl⟩ : ∃ (j : Fin 1024), e = ix2 0 j := ⟨e 1, (eq_ix2 e).trans (congrArg (fun k => ix2 k (e 1)) (Subsingleton.elim (α := Fin 1) (e 0) 0))⟩
  show _ = ∑ r : Fin 8192, toWeight (N := 8192) g x j r
  unfold toWeight normed
  simp only [← recip_at]
  generalize hr : recip x = r
  unfold weights
  rw [hr]
  pointwise []
  exact Finset.sum_congr rfl fun l _ => mul_comm _ _
end

variable (m : (ℓ : Loc nD τ sig) → Buf (Elt Ideal) ℓ)

/-- From any memory the reference ends with the gradients, its arguments as launched. -/
theorem results (ρ : Dev nD → PrngReg) : θ_run defs (onTc (τ := τ) (main (F := Ideal))) ⟨m, fun _ => 0, ρ⟩ (fun r => ∀ c : Dev nD,
      r.2.mem ((c.tc : Thread nD τ).loc main_v34) = addRows (N := 8192) (m ((c.tc : Thread nD τ).loc main_arg1)) (m ((c.tc : Thread nD τ).loc main_arg2)) (m ((c.tc : Thread nD τ).loc main_arg3))
        (m ((c.tc : Thread nD τ).loc main_arg0))
      ∧ r.2.mem ((c.tc : Thread nD τ).loc main_v35) = addRows (N := 8192) (m ((c.tc : Thread nD τ).loc main_arg1)) (m ((c.tc : Thread nD τ).loc main_arg2)) (m ((c.tc : Thread nD τ).loc main_arg3))
        (m ((c.tc : Thread nD τ).loc main_arg0))
      ∧ r.2.mem ((c.tc : Thread nD τ).loc main_v17) = weightGrad (N := 8192) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (rows_eq _ _ _ _), (h c).2.1.trans (rows_eq _ _ _ _), (h c).2.2.1.trans (weights_eq _ _), (h c).2.2.2⟩) (Value.run m ρ)

end Cert.Reference13Ideal.NormBack

end
-- ==== Proof.FirstNormBack.lean ====
/-
  The gradient of the first norm: the kernel's blocks of rows are those of the whole array's gradient, and its running total the weight's gradient.
-/
module

public import proofs.«01_k».proof.Proof.NormBack
public import proofs.«01_k».proof.Proof.Gen.Kernel14Ideal.Value

@[expose] public section

set_option maxRecDepth 16384

noncomputable section

namespace Cert.Kernel14Ideal.FirstNormBack

open Idealize.ShloMosaic Idealize.ShloMosaic.TcCoe Idealize.ShloMosaic.StableHlo Idealize.SL.Sem Cert.Kernel14Ideal Cert.Kernel14Ideal.Gen Cert.Products Cert.NormGrad
open Idealize.ShloMosaic.Pipeline (Dat)
open Idealize.ShloMosaic.Pipeline.Window (rect_emb_val)

section Cases
variable {F : FTy → Type} [FloatOps F]
variable (c : Dev nD) (i : grid0.Coords) (a1 : Memref sig .tc .vmem S512x1024 .f32) (h1 : a1.IsWhole) (a2 : Memref sig .tc .vmem S512x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1024 .f32) (h6 : a6.IsWhole)
  (d : Vec F S512x1024 .f32) (g : Vec F S512x1024 .bf16) (x : Vec F S512x1024 .f32) (w : Vec F S1x1024 .f32)

/-- The first point stores its rows' gradient and its share of the weight's gradient. -/
theorem first_point (g0 : cond0_0 i) (g1 : ¬cond0_1 i) :
    out0_A_4 c i a1 h1 a2 h2 a3 h3 a4 h4 a5 h5 a6 h6 g0 g1 d g x w = k0_pay5 x g w d
    ∧ out0_A_5 c i a1 h1 a2 h2 a3 h3 a4 h4 a5 h5 a6 h6 g0 g1 d g x w = k0_pay6 x g := by
  refine ⟨?_, ?_⟩
  · unfold out0_A_4
    rw [View.read_writes_eq_canon _ _ _ (cover0_A_4 c i a1 h1 a2 h2 a3 h3 a4 h4 a5 h5 a6 h6 g0 g1 d g x w)]
    unfold kernelRun0_A
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_A_5
    rw [View.read_writes_eq_canon _ _ _ (cover0_A_5 c i a1 h1 a2 h2 a3 h3 a4 h4 a5 h5 a6 h6 g0 g1 d g x w)]
    unfold kernelRun0_A
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]

/-- A later point does the same, its share added to what the points before it left. -/
theorem later_point (g0 : ¬cond0_0 i) (g1 : cond0_1 i) (acc : Vec F S1x1024 .f32) :
    out0_B_4 c i a1 h1 a2 h2 a3 h3 a4 h4 a5 h5 a6 h6 g0 g1 d g x w acc = k0_pay5 x g w d
    ∧ out0_B_5 c i a1 h1 a2 h2 a3 h3 a4 h4 a5 h5 a6 h6 g0 g1 d g x w acc = addf acc (k0_pay6 x g) := by
  refine ⟨?_, ?_⟩
  · unfold out0_B_4
    rw [View.read_writes_eq_canon _ _ _ (cover0_B_4 c i a1 h1 a2 h2 a3 h3 a4 h4 a5 h5 a6 h6 g0 g1 d g x w acc)]
    unfold kernelRun0_B
    dsimp only
    sl_unfold_words
    rw [View.canon_unit_zero zeros]
    simp only [View.readAt_eq_ld, h1.read_unread, h2.read_unread, h3.read_unread, h4.read_unread, View.ld_unit_zero (S := S512x1024) zeros, View.ld_unit_zero (S := S1x1024) zeros]
  · unfold out0_B_5
    rw [View.read_writes_eq_canon _ _ _ (cover0_B_5 c i a1 h1 a2 h2 a3 h3 a4 h4 a5 h5 a6 h6 g0 g1 d g x w acc)]
    unfold kernelRun0_B
    dsimp only
    sl_unfold_words
    rw [View.canon_unit_zero zeros]
    unfold k0_pay1
    simp only [View.readAt_eq_ld, h1.read_unread, h2.read_unread, h3.read_unread, h4.read_unread, h6.read_unread, View.ld_unit_zero (S := S512x1024) zeros, View.ld_unit_zero (S := S1x1024) zeros, shapeCast_self]
end Cases

/-! ## A point's values, at an element: the same terms as the second norm's -/

theorem rows_at (d : Vec Ideal S512x1024 .f32) (g : Vec Ideal S512x1024 .bf16) (x : Vec Ideal S512x1024 .f32) (w : Vec Ideal S1x1024 .f32) (i : Fin 512) (j : Fin 1024) :
    k0_pay5 (F := Ideal) x g w d (ix2 i j) = d (ix2 i j) + toRows (N := 512) g x w (ix2 i j) :=
  Cert.Kernel13Ideal.NormBack.rows_at d g x w i j
theorem share_at (g : Vec Ideal S512x1024 .bf16) (x : Vec Ideal S512x1024 .f32) (j : Fin 1024) :
    k0_pay6 (F := Ideal) x g (ix2 0 j) = ∑ r : Fin 512, toWeight (N := 512) g x j r :=
  Cert.Kernel13Ideal.NormBack.share_at g x j

variable (m : (ℓ : Loc nD τ sig) → Buf (Elt Ideal) ℓ) (c : Dev nD)

/-- The arguments as launched: what is added, what flows back, the norm's input and its weight. -/
abbrev added : Mat 8192 1024 := m ((c : Thread nD τ).loc main_arg0)
abbrev flow : Mat 8192 1024 := m ((c : Thread nD τ).loc main_arg1)
abbrev input : Mat 8192 1024 := m ((c : Thread nD τ).loc main_arg2)
abbrev weight : Mat 1 1024 := m ((c : Thread nD τ).loc main_arg3)

/-- The host's cast leaves it as it is. -/
theorem host_reads : (V m c main_v0 : Mat 8192 1024) = flow m c := by
  unfold V
  unfold hostOps0
  after_results_simp
  rfl

/-- Each point takes its own rows, and the one weight. -/
theorem index : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0 := by
  decide +kernel

section Blocks
variable (t : Fin cfg0.N) (i : Fin 512) (l : Fin 1024) (I : Fin 8192) (hI : t.val * 512 + i.val = I.val)
include hI

theorem added_at : (iblk m c 0 t : Vec Ideal S512x1024 .f32) (ix2 i l) = added m c (ix2 I l) := by
  obtain ⟨e, e', -⟩ := index t
  refine Eq.trans ?_ (congrFun (V_main_arg0 m c) _)
  exact at_coords (V m c main_arg0) _ I l ((rect_emb_val win0_0 t (ix2 i l) 0).trans ((congrArg (· * 512 + i.val) e).trans hI)) ((rect_emb_val win0_0 t (ix2 i l) 1).trans (from_zero e' _ _))
theorem flow_at : (iblk m c 1 t : Vec Ideal S512x1024 .bf16) (ix2 i l) = flow m c (ix2 I l) := by
  obtain ⟨-, -, e, e', -⟩ := index t
  rw [← host_reads m c]
  exact at_coords (V m c main_v0) _ I l ((rect_emb_val win0_1 t (ix2 i l) 0).trans ((congrArg (· * 512 + i.val) e).trans hI)) ((rect_emb_val win0_1 t (ix2 i l) 1).trans (from_zero e' _ _))
theorem input_at : (iblk m c 2 t : Vec Ideal S512x1024 .f32) (ix2 i l) = input m c (ix2 I l) := by
  obtain ⟨-, -, -, -, e, e', -⟩ := index t
  refine Eq.trans ?_ (congrFun (V_main_arg2 m c) _)
  exact at_coords (V m c main_arg2) _ I l ((rect_emb_val win0_2 t (ix2 i l) 0).trans ((congrArg (· * 512 + i.val) e).trans hI)) ((rect_emb_val win0_2 t (ix2 i l) 1).trans (from_zero e' _ _))
end Blocks

theorem weight_at (t : Fin cfg0.N) (l : Fin 1024) : (iblk m c 3 t : Vec Ideal S1x1024 .f32) (ix2 0 l) = weight m c (ix2 0 l) := by
  obtain ⟨-, -, -, -, -, -, e, e', -⟩ := index t
  refine Eq.trans ?_ (congrFun (V_main_arg3 m c) _)
  exact at_coords (V m c main_arg3) _ 0 l ((rect_emb_val win0_3 t (ix2 0 l) 0).trans (from_zero e _ _)) ((rect_emb_val win0_3 t (ix2 0 l) 1).trans (from_zero e' _ _))

/-- What a point leaves in its blocks. -/
theorem rows_left (t : Fin cfg0.N) : (outsAt0 m c t.val t.isLt).1 = k0_pay5 (iblk m c 2 t) (iblk m c 1 t) (iblk m c 3 t) (iblk m c 0 t) := by
  have hN : t.val < 16 := lt_of_lt_of_eq t.isLt N_0
  by_cases h : t.val = 0
  · rw [outsAt0_A m c t (by omega) (by omega)]
    dsimp only
    exact (first_point ..).1
  · rw [outsAt0_B m c t (by omega) (by omega)]
    dsimp only
    exact (later_point ..).1

/-- The rows' result: what is added and the gradient through the norm. -/
def rowsResult : Mat 8192 1024 := addRows (flow m c) (input m c) (weight m c) (added m c)

theorem rows_value (t : Fin cfg0.N) (i : Fin 512) (j : Fin 1024) (I : Fin 8192) (hI : t.val * 512 + i.val = I.val) :
    k0_pay5 (F := Ideal) (iblk m c 2 t) (iblk m c 1 t) (iblk m c 3 t) (iblk m c 0 t) (ix2 i j) = rowsResult m c (ix2 I j) :=
  (rows_at _ _ _ _ i j).trans (congrArg₂ (· + ·) (added_at m c t i j I hI)
    (toRows_congr (fun l => flow_at m c t i l I hI) (fun l => input_at m c t i l I hI) (fun l => weight_at m c t l) j))

theorem rows_final : ((dats m 0 c).arrAt 4 cfg0.N : Mat 8192 1024) = rowsResult m c := by
  refine (dats m 0 c).arrAt_eq_of_covers 4 _ (by decide +kernel) fun t hf y => ?_
  blk_simp
  obtain ⟨i, j, rfl⟩ : ∃ (i : Fin 512) (j : Fin 1024), y = ix2 i j := ⟨y 0, y 1, eq_ix2 y⟩
  have hN : t.val < 16 := lt_of_lt_of_eq t.isLt N_0
  obtain ⟨I, hI⟩ : ∃ I : Fin 8192, t.val * 512 + i.val = I.val := ⟨⟨_, by omega⟩, rfl⟩
  obtain ⟨-, -, -, -, -, -, -, -, e, e', -⟩ := index t
  refine Eq.trans ?_ (at_coords (rowsResult m c) _ I j ((rect_emb_val win0_4 t (ix2 i j) 0).trans ((congrArg (· * 512 + i.val) e).trans hI)) ((rect_emb_val win0_4 t (ix2 i j) 1).trans (from_zero e' _ _))).symm
  rw [after0_4, rows_left m c t]
  exact rows_value m c t i j I hI

/-- One point's share of the weight's gradient is that of its rows. -/
theorem share_value (t : Fin cfg0.N) (j : Fin 1024) (hl : ∀ k : Fin 512, t.val * 512 + k.val < 8192) :
    k0_pay6 (F := Ideal) (iblk m c 2 t) (iblk m c 1 t) (ix2 0 j) = ∑ k : Fin 512, toWeight (flow m c) (input m c) j ⟨t.val * 512 + k.val, hl k⟩ :=
  (share_at _ _ j).trans (Finset.sum_congr rfl fun k _ => toWeight_congr (fun l => flow_at m c t k l _ rfl) (fun l => input_at m c t k l _ rfl) j)

/-- The last point leaves the sum over all rows. -/
theorem total (t : Fin cfg0.N) (ht : t.val + 1 = cfg0.N) (j : Fin 1024) : (outsAt0 m c t.val t.isLt).2 (ix2 0 j) = weightGrad (flow m c) (input m c) (ix2 0 j) := by
  have hN : cfg0.N = 16 := N_0
  refine sum_blocks (N := cfg0.N) (n := 512) (L := 8192) (by rw [hN]) (toWeight (flow m c) (input m c) j) (fun t ht k => by omega)
    (fun t h => (outsAt0 m c t h).2 (ix2 0 j)) (fun h => ?_) (fun t h => ?_) t.val t.isLt ht
  · rw [outsAt0_A m c ⟨0, h⟩ (Nat.zero_mod _) (by dsimp only; omega)]
    dsimp only
    exact (congrFun (first_point ..).2 _).trans (share_value m c ⟨0, h⟩ j _)
  · have h16 : t + 1 < 16 := lt_of_lt_of_eq h N_0
    rw [outsAt0_B m c ⟨t + 1, h⟩ (by dsimp only; omega) (by dsimp only; omega)]
    dsimp only
    exact (congrFun (later_point ..).2 _).trans (congrArg _ (share_value m c ⟨t + 1, h⟩ j _))

theorem weight_final : ((dats m 0 c).arrAt 5 cfg0.N : Mat 1 1024) = weightGrad (flow m c) (input m c) := by
  refine (dats m 0 c).arrAt_eq_of_covers 5 _ (by decide +kernel) fun t hf y => ?_
  blk_simp
  obtain ⟨j, rfl⟩ : ∃ (j : Fin 1024), y = ix2 0 j := ⟨y 1, (eq_ix2 y).trans (congrArg (fun k => ix2 k (y 1)) (Subsingleton.elim (α := Fin 1) (y 0) 0))⟩
  have h15 : t.val % 16 = 15 := (flush0_5 t).mp hf
  have hN : t.val < 16 := lt_of_lt_of_eq t.isLt N_0
  obtain ⟨-, -, -, -, -, -, -, -, -, -, e, e'⟩ := index t
  refine Eq.trans ?_ (at_coords (weightGrad (flow m c) (input m c)) _ 0 j ((rect_emb_val win0_5 t (ix2 0 j) 0).trans (from_zero e _ _)) ((rect_emb_val win0_5 t (ix2 0 j) 1).trans (from_zero e' _ _))).symm
  rw [after0_5]
  exact total m c t ((show t.val + 1 = 16 by omega).trans N_0.symm) j

/-- From any memory the kernel ends with the gradients, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v1_0) = rowsResult m c
      ∧ r.2.mem ((c : Thread nD τ).loc main_v1_1) = weightGrad (flow m c) (input m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h c).1.trans (rows_final m c), (h c).2.1.trans (weight_final m c), (h c).2.2⟩)
    (Value.run_blocks m ρ)

end Cert.Kernel14Ideal.FirstNormBack

end
-- ==== Proof.FirstNormBackRef.lean ====
/-
  The gradient of the first norm: the reference's, as the product rule gives it, is that of Proof/NormGrad.lean.
-/
module

public import proofs.«01_k».proof.Proof.NormBackRef
public import proofs.«01_k».proof.Proof.Gen.Reference14Ideal.Run

@[expose] public section

set_option maxRecDepth 16384

noncomputable section

namespace Cert.Reference14Ideal.FirstNormBack

open Idealize.ShloMosaic Idealize.ShloMosaic.TcCoe Idealize.ShloMosaic.StableHlo Idealize.SL.Sem Cert.Reference14Ideal Cert.Reference14Ideal.Gen Cert.Products Cert.NormGrad
open Cert.Reference13Ideal.NormBack (rows_eq weights_eq)

variable (m : (ℓ : Loc nD τ sig) → Buf (Elt Ideal) ℓ)

/-- From any memory the reference ends with the gradients, its arguments as launched. -/
theorem results (ρ : Dev nD → PrngReg) : θ_run defs (onTc (τ := τ) (main (F := Ideal))) ⟨m, fun _ => 0, ρ⟩ (fun r => ∀ c : Dev nD,
      r.2.mem ((c.tc : Thread nD τ).loc main_v34) = addRows (N := 8192) (m ((c.tc : Thread nD τ).loc main_arg1)) (m ((c.tc : Thread nD τ).loc main_arg2)) (m ((c.tc : Thread nD τ).loc main_arg3))
        (m ((c.tc : Thread nD τ).loc main_arg0))
      ∧ r.2.mem ((c.tc : Thread nD τ).loc main_v17) = weightGrad (N := 8192) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (rows_eq _ _ _ _), (h c).2.1.trans (weights_eq _ _), (h c).2.2⟩) (Value.run m ρ)

end Cert.Reference14Ideal.FirstNormBack

end
-- ==== Proof.HeadSpec.lean ====
/-
  The loss and its gradients: half the mean square of the last norm's output less the target, summed over the tokens; and what flows back through the norm.
-/
module

public import proofs.«01_k».proof.Proof.NormGrad

@[expose] public section

noncomputable section

namespace Cert.Head

open Idealize.ShloMosaic Cert.Products Cert.NormGrad Cert.NormRow

section
variable {N : ℕ} (x t : Mat N 1024) (w : Mat 1 1024)

/-- The normed row through its weight, less the target. -/
def err : Mat N 1024 := fun i => normed x (i 0) (i 1) * w (ix2 0 (i 1)) - t i
/-- What the loss sends back: the difference over 1024. -/
def flow : Mat N 1024 := fun i => err x t w i * Ideal.ofBits .f32 0x3A800000#32
/-- A token's share of the loss, and the loss. -/
def lossRow (r : Fin N) : EReal := (∑ l : Fin 1024, err x t w (ix2 r l) * err x t w (ix2 r l)) * ((1/2048 : ℝ) : EReal)
def loss : EReal := ∑ r : Fin N, lossRow x t w r

/-- A block's loss, the constants taken out of the sum. -/
theorem loss_eq_block : Ideal.ofBits .f32 0x3F000000#32 * (∑ r : Fin N, ∑ l : Fin 1024, err x t w (ix2 r l) * err x t w (ix2 r l)) * Ideal.ofBits .f32 0x3A800000#32 = loss x t w := by
  unfold loss lossRow
  rw [sum_mul_real _ _ (by norm_num), word_half, word_recip_1024, mul_comm ((1/2 : ℝ) : EReal), mul_assoc, ← EReal.coe_mul]
  norm_num
/-- The loss as half the sum of the tokens' means. -/
theorem loss_eq_means : Ideal.ofBits .f32 0x3F000000#32 * (∑ r : Fin N, Ideal.div (∑ l : Fin 1024, err x t w (ix2 r l) * err x t w (ix2 r l)) (Ideal.ofBits .f32 0x44800000#32)) = loss x t w := by
  unfold loss lossRow
  simp only [word_1024, Ideal.div_coe (show (1024 : ℝ) ≠ 0 by norm_num)]
  rw [sum_mul_real _ _ (by norm_num), sum_mul_real _ _ (by norm_num), word_half, mul_comm ((1/2 : ℝ) : EReal), mul_assoc, ← EReal.coe_mul]
  norm_num
/-- What flows back, as the derivative of the mean of squares gives it. -/
theorem flow_eq_rule (e : EReal) : Ideal.div (Ideal.ofBits .f32 0x3F000000#32) (Ideal.ofBits .f32 0x44800000#32) * (Ideal.ofBits .f32 0x40000000#32 * e) = e * Ideal.ofBits .f32 0x3A800000#32 := by
  rw [word_half, word_1024, word_two, word_recip_1024, Ideal.div_coe (show (1024 : ℝ) ≠ 0 by norm_num), ← mul_assoc, ← EReal.coe_mul, ← EReal.coe_mul, mul_comm]
  norm_num
end

/-- A row of a block and the same row of the whole arrays. -/
theorem err_congr {n N : ℕ} {x t : Mat n 1024} {X T : Mat N 1024} {w W : Mat 1 1024} {i : Fin n} {I : Fin N} (hx : ∀ l, x (ix2 i l) = X (ix2 I l))
    (ht : ∀ l, t (ix2 i l) = T (ix2 I l)) (hw : ∀ l, w (ix2 0 l) = W (ix2 0 l)) (l : Fin 1024) : err x t w (ix2 i l) = err X T W (ix2 I l) := by
  show x (ix2 i l) * rootRecip (row x i) * w (ix2 0 l) - t (ix2 i l) = X (ix2 I l) * rootRecip (row X I) * W (ix2 0 l) - T (ix2 I l)
  rw [row_congr hx, hx, ht, hw]

end Cert.Head

end
-- ==== Proof.Head.lean ====
/-
  The loss and its gradients: the kernel's blocks of rows are those of the formulas, and its two running totals the loss and the weight's gradient.
-/
module

public import proofs.«01_k».proof.Proof.HeadSpec
public import proofs.«01_k».proof.Proof.Gen.Kernel15Ideal.Value

@[expose] public section

set_option maxRecDepth 16384

noncomputable section

namespace Cert.Kernel15Ideal.Head

open Idealize.ShloMosaic Idealize.ShloMosaic.TcCoe Idealize.ShloMosaic.StableHlo Idealize.SL.Sem Cert.Kernel15Ideal Cert.Kernel15Ideal.Gen Cert.Products Cert.NormGrad Cert.Head
open Idealize.ShloMosaic.Pipeline (Dat)
open Idealize.ShloMosaic.Pipeline.Window (rect_emb_val)

section Cases
variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .f32) (h4 : a4.IsWhole)
  (a5 : Memref sig .tc .vmem S512x1024 .bf16) (h5 : a5.IsWhole) (a6 : Memref sig .tc .vmem S8x128 .f32) (h6 : a6.IsWhole) (a7 : Memref sig .tc .vmem S1x1024 .f32) (h7 : a7.IsWhole)
  (x t : Vec F S512x1024 .f32) (w : Vec F S1x1024 .f32)

/-- The first point stores its rows' gradient, the same rounded, and its shares of the loss and of the weight's gradient. -/
theorem first_point (g0 : cond0_0 i) (g1 : ¬cond0_1 i) :
    out0_A_3 c i a1 h1 a2 h2 a3 h3 a4 h4 a5 h5 a6 h6 a7 h7 g0 g1 x t w = k0_pay11 x w t
    ∧ out0_A_4 c i a1 h1 a2 h2 a3 h3 a4 h4 a5 h5 a6 h6 a7 h7 g0 g1 x t w = k0_pay1 (k0_pay11 x w t)
    ∧ out0_A_5 c i a1 h1 a2 h2 a3 h3 a4 h4 a5 h5 a6 h6 a7 h7 g0 g1 x t w = k0_pay3 (k0_pay9 x w t)
    ∧ out0_A_6 c i a1 h1 a2 h2 a3 h3 a4 h4 a5 h5 a6 h6 a7 h7 g0 g1 x t w = k0_pay2 (k0_pay7 x) (k0_pay10 x w t) := by
  refine ⟨?_, ?_, ?_, ?_⟩
  · unfold out0_A_3
    rw [View.read_writes_eq_canon _ _ _ (cover0_A_3 c i a1 h1 a2 h2 a3 h3 a4 h4 a5 h5 a6 h6 a7 h7 g0 g1 x t w)]
    unfold kernelRun0_A
    dsimp only
    sl_unfold_words
    rw [View.canon_unit_zero zeros]
    simp only [View.readAt_eq_ld, h1.read_unread, h2.read_unread, h3.read_unread, View.ld_unit_zero (S := S512x1024) zeros, View.ld_unit_zero (S := S1x1024) zeros]
  · unfold out0_A_4
    rw [View.read_writes_eq_canon _ _ _ (cover0_A_4 c i a1 h1 a2 h2 a3 h3 a4 h4 a5 h5 a6 h6 a7 h7 g0 g1 x t w)]
    unfold kernelRun0_A
    dsimp only
    sl_unfold_words
    rw [View.canon_unit_zero zeros]
    simp only [View.readAt_eq_ld, h1.read_unread, h2.read_unread, h3.read_unread, View.ld_unit_zero (S := S512x1024) zeros, View.ld_unit_zero (S := S1x1024) zeros]
  · unfold out0_A_5
    rw [View.read_writes_eq_canon _ _ _ (cover0_A_5 c i a1 h1 a2 h2 a3 h3 a4 h4 a5 h5 a6 h6 a7 h7 g0 g1 x t w)]
    unfold kernelRun0_A
    dsimp only
    sl_unfold_words
    rw [View.canon_unit_zero zeros]
    simp only [View.readAt_eq_ld, h1.read_unread, h2.read_unread, h3.read_unread, View.ld_unit_zero (S := S512x1024) zeros, View.ld_unit_zero (S := S1x1024) zeros]
  · unfold out0_A_6
    rw [View.read_writes_eq_canon _ _ _ (cover0_A_6 c i a1 h1 a2 h2 a3 h3 a4 h4 a5 h5 a6 h6 a7 h7 g0 g1 x t w)]
    unfold kernelRun0_A
    dsimp only
    sl_unfold_words
    rw [View.canon_unit_zero zeros]
    simp only [View.readAt_eq_ld, h1.read_unread, h2.read_unread, h3.read_unread, View.ld_unit_zero (S := S512x1024) zeros, View.ld_unit_zero (S := S1x1024) zeros]

/-- A later point does the same, its shares added to what the points before it left. -/
theorem later_point (g0 : ¬cond0_0 i) (g1 : cond0_1 i) (l : Vec F S8x128 .f32) (acc : Vec F S1x1024 .f32) :
    out0_B_3 c i a1 h1 a2 h2 a3 h3 a4 h4 a5 h5 a6 h6 a7 h7 g0 g1 x t w l acc = k0_pay11 x w t
    ∧ out0_B_4 c i a1 h1 a2 h2 a3 h3 a4 h4 a5 h5 a6 h6 a7 h7 g0 g1 x t w l acc = k0_pay1 (k0_pay11 x w t)
    ∧ out0_B_5 c i a1 h1 a2 h2 a3 h3 a4 h4 a5 h5 a6 h6 a7 h7 g0 g1 x t w l acc = addf l (k0_pay3 (k0_pay9 x w t))
    ∧ out0_B_6 c i a1 h1 a2 h2 a3 h3 a4 h4 a5 h5 a6 h6 a7 h7 g0 g1 x t w l acc = addf acc (k0_pay2 (k0_pay7 x) (k0_pay10 x w t)) := by
  refine ⟨?_, ?_, ?_, ?_⟩
  · unfold out0_B_3
    rw [View.read_writes_eq_canon _ _ _ (cover0_B_3 c i a1 h1 a2 h2 a3 h3 a4 h4 a5 h5 a6 h6 a7 h7 g0 g1 x t w l acc)]
    unfold kernelRun0_B
    dsimp only
    sl_unfold_words
    rw [View.canon_unit_zero zeros]
    simp only [View.readAt_eq_ld, h1.read_unread, h2.read_unread, h3.read_unread, View.ld_unit_zero (S := S512x1024) zeros, View.ld_unit_zero (S := S1x1024) zeros]
  · unfold out0_B_4
    rw [View.read_writes_eq_canon _ _ _ (cover0_B_4 c i a1 h1 a2 h2 a3 h3 a4 h4 a5 h5 a6 h6 a7 h7 g0 g1 x t w l acc)]
    unfold kernelRun0_B
    dsimp only
    sl_unfold_words
    rw [View.canon_unit_zero zeros]
    simp only [View.readAt_eq_ld, h1.read_unread, h2.read_unread, h3.read_unread, View.ld_unit_zero (S := S512x1024) zeros, View.ld_unit_zero (S := S1x1024) zeros]
  · unfold out0_B_5
    rw [View.read_writes_eq_canon _ _ _ (cover0_B_5 c i a1 h1 a2 h2 a3 h3 a4 h4 a5 h5 a6 h6 a7 h7 g0 g1 x t w l acc)]
    unfold kernelRun0_B
    dsimp only
    sl_unfold_words
    rw [View.canon_unit_zero zeros]
    unfold k0_pay4
    simp only [View.readAt_eq_ld, h1.read_unread, h2.read_unread, h3.read_unread, h6.read_unread, View.ld_unit_zero (S := S512x1024) zeros, View.ld_unit_zero (S := S1x1024) zeros,
      View.ld_unit_zero (S := S8x128) zeros, shapeCast_self]
  · unfold out0_B_6
    rw [View.read_writes_eq_canon _ _ _ (cover0_B_6 c i a1 h1 a2 h2 a3 h3 a4 h4 a5 h5 a6 h6 a7 h7 g0 g1 x t w l acc)]
    unfold kernelRun0_B
    dsimp only
    sl_unfold_words
    rw [View.canon_unit_zero zeros]
    unfold k0_pay5
    simp only [View.readAt_eq_ld, h1.read_unread, h2.read_unread, h3.read_unread, h7.read_unread, View.ld_unit_zero (S := S512x1024) zeros, View.ld_unit_zero (S := S1x1024) zeros, shapeCast_self]
end Cases

/-! ## A point's values, at an element -/

section Values
variable (x t : Vec Ideal S512x1024 .f32) (w : Vec Ideal S1x1024 .f32) (i : Fin 512) (j : Fin 1024)

theorem recip_at : k0_pay6 (F := Ideal) x (ix2 i 0) = NormRow.rootRecip (row (N := 512) x i) := by
  unfold NormRow.rootRecip NormRow.meanSq row
  pointwise [k0_pay6]
theorem normed_at : k0_pay7 (F := Ideal) x (ix2 i j) = normed (N := 512) x i j := by
  unfold normed
  rw [← recip_at]
  pointwise [k0_pay7]
theorem err_at : k0_pay8 (F := Ideal) x w t (ix2 i j) = err (N := 512) x t w (ix2 i j) := by
  show _ = normed (N := 512) x i j * w (ix2 0 j) - t (ix2 i j)
  rw [← normed_at]
  pointwise [k0_pay8]
theorem flow_at : k0_pay10 (F := Ideal) x w t (ix2 i j) = flow (N := 512) x t w (ix2 i j) := by
  unfold flow
  rw [← err_at]
  pointwise [k0_pay10]
theorem rows_at : k0_pay11 (F := Ideal) x w t (ix2 i j) = toRows (N := 512) (flow (N := 512) x t w) x w (ix2 i j) := by
  have h2 := recip_at x i
  have h3 := normed_at x i
  have h4 := flow_at x t w i
  unfold normed at h3
  unfold toRows NormRow.back
  generalize hp : k0_pay6 (F := Ideal) x = p at h2
  generalize hq : k0_pay7 (F := Ideal) x = q at h3
  generalize hf : k0_pay10 (F := Ideal) x w t = f at h4
  have e : k0_pay11 (F := Ideal) x w t (ix2 i j) = p (ix2 i 0) * (f (ix2 i j) * w (ix2 0 j)
      - q (ix2 i j) * Ideal.div (∑ l : Fin 1024, f (ix2 i l) * w (ix2 0 l) * q (ix2 i l)) (Ideal.ofBits .f32 0x44800000#32)) := by
    unfold k0_pay11
    rw [hp, hq, hf]
    pointwise []
  rw [e, h2]
  simp only [h3, h4]
  rfl
theorem weight_share_at : k0_pay2 (F := Ideal) (k0_pay7 x) (k0_pay10 x w t) (ix2 0 j) = ∑ r : Fin 512, toWeight (N := 512) (flow (N := 512) x t w) x j r := by
  have h3 := fun i => normed_at x i j
  have h4 := fun i => flow_at x t w i j
  unfold toWeight
  simp only [← h3, ← h4]
  generalize k0_pay7 (F := Ideal) x = q
  generalize k0_pay10 (F := Ideal) x w t = f
  pointwise [k0_pay2]
theorem loss_share_at (a : Fin 8) (b : Fin 128) : k0_pay3 (F := Ideal) (k0_pay9 x w t) (ix2 a b) = loss (N := 512) x t w := by
  rw [← loss_eq_block]
  have h := fun i l => err_at x t w i l
  simp only [← h]
  generalize hq : k0_pay8 (F := Ideal) x w t = q
  unfold k0_pay3 k0_pay9
  rw [hq]
  pointwise []
end Values

variable (m : (ℓ : Loc nD τ sig) → Buf (Elt Ideal) ℓ) (c : Dev nD)

/-- The arguments as launched: the norm's input, the target and the norm's weight. -/
abbrev input : Mat 8192 1024 := m ((c : Thread nD τ).loc main_arg0)
abbrev target : Mat 8192 1024 := m ((c : Thread nD τ).loc main_arg1)
abbrev weight : Mat 1 1024 := m ((c : Thread nD τ).loc main_arg2)

/-- Each point takes its own rows, and the one weight. -/
theorem index : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 ∧ win0_6.index t 0 = 0 ∧ win0_6.index t 1 = 0 := by
  decide +kernel

section Blocks
variable (t : Fin cfg0.N) (i : Fin 512) (l : Fin 1024) (I : Fin 8192) (hI : t.val * 512 + i.val = I.val)
include hI

theorem input_at : (iblk m c 0 t : Vec Ideal S512x1024 .f32) (ix2 i l) = input m c (ix2 I l) := by
  obtain ⟨e, e', -⟩ := index t
  refine Eq.trans ?_ (congrFun (V_main_arg0 m c) _)
  exact at_coords (V m c main_arg0) _ I l ((rect_emb_val win0_0 t (ix2 i l) 0).trans ((congrArg (· * 512 + i.val) e).trans hI)) ((rect_emb_val win0_0 t (ix2 i l) 1).trans (from_zero e' _ _))
theorem target_at : (iblk m c 1 t : Vec Ideal S512x1024 .f32) (ix2 i l) = target m c (ix2 I l) := by
  obtain ⟨-, -, e, e', -⟩ := index t
  refine Eq.trans ?_ (congrFun (V_main_arg1 m c) _)
  exact at_coords (V m c main_arg1) _ I l ((rect_emb_val win0_1 t (ix2 i l) 0).trans ((congrArg (· * 512 + i.val) e).trans hI)) ((rect_emb_val win0_1 t (ix2 i l) 1).trans (from_zero e' _ _))
end Blocks

theorem weight_at (t : Fin cfg0.N) (l : Fin 1024) : (iblk m c 2 t : Vec Ideal S1x1024 .f32) (ix2 0 l) = weight m c (ix2 0 l) := by
  obtain ⟨-, -, -, -, e, e', -⟩ := index t
  refine Eq.trans ?_ (congrFun (V_main_arg2 m c) _)
  exact at_coords (V m c main_arg2) _ 0 l ((rect_emb_val win0_2 t (ix2 0 l) 0).trans (from_zero e _ _)) ((rect_emb_val win0_2 t (ix2 0 l) 1).trans (from_zero e' _ _))

/-- A point's differences are those of its rows in the whole arrays. -/
theorem err_here (t : Fin cfg0.N) (i : Fin 512) (I : Fin 8192) (hI : t.val * 512 + i.val = I.val) (l : Fin 1024) :
    err (N := 512) (iblk m c 0 t) (iblk m c 1 t) (iblk m c 2 t) (ix2 i l) = err (input m c) (target m c) (weight m c) (ix2 I l) :=
  err_congr (fun l => input_at m c t i l I hI) (fun l => target_at m c t i l I hI) (fun l => weight_at m c t l) l

/-- What a point leaves in its blocks of rows. -/
theorem rows_left (t : Fin cfg0.N) : (outsAt0 m c t.val t.isLt).1 = k0_pay11 (iblk m c 0 t) (iblk m c 2 t) (iblk m c 1 t)
    ∧ (outsAt0 m c t.val t.isLt).2.1 = k0_pay1 (k0_pay11 (iblk m c 0 t) (iblk m c 2 t) (iblk m c 1 t)) := by
  have hN : t.val < 16 := lt_of_lt_of_eq t.isLt N_0
  by_cases h : t.val = 0
  · rw [outsAt0_A m c t (by omega) (by omega)]
    dsimp only
    exact ⟨(first_point ..).1, (first_point ..).2.1⟩
  · rw [outsAt0_B m c t (by omega) (by omega)]
    dsimp only
    exact ⟨(later_point ..).1, (later_point ..).2.1⟩

/-- The results: by rows, by weight, and the loss. -/
def rowsResult : Mat 8192 1024 := toRows (flow (input m c) (target m c) (weight m c)) (input m c) (weight m c)
def weightResult : Mat 1 1024 := weightGrad (flow (input m c) (target m c) (weight m c)) (input m c)
def lossResult : Mat 8 128 := fun _ => loss (input m c) (target m c) (weight m c)

theorem rows_value (t : Fin cfg0.N) (i : Fin 512) (j : Fin 1024) (I : Fin 8192) (hI : t.val * 512 + i.val = I.val) :
    k0_pay11 (F := Ideal) (iblk m c 0 t) (iblk m c 2 t) (iblk m c 1 t) (ix2 i j) = rowsResult m c (ix2 I j) :=
  (rows_at _ _ _ i j).trans
    (toRows_congr (fun l => congrArg (· * _) (err_here m c t i I hI l)) (fun l => input_at m c t i l I hI) (fun l => weight_at m c t l) j)

theorem rows_final : ((dats m 0 c).arrAt 3 cfg0.N : Mat 8192 1024) = rowsResult m c := by
  refine (dats m 0 c).arrAt_eq_of_covers 3 _ (by decide +kernel) fun t hf y => ?_
  blk_simp
  obtain ⟨i, j, rfl⟩ : ∃ (i : Fin 512) (j : Fin 1024), y = ix2 i j := ⟨y 0, y 1, eq_ix2 y⟩
  have hN : t.val < 16 := lt_of_lt_of_eq t.isLt N_0
  obtain ⟨I, hI⟩ : ∃ I : Fin 8192, t.val * 512 + i.val = I.val := ⟨⟨_, by omega⟩, rfl⟩
  obtain ⟨-, -, -, -, -, -, e, e', -⟩ := index t
  refine Eq.trans ?_ (at_coords (rowsResult m c) _ I j ((rect_emb_val win0_3 t (ix2 i j) 0).trans ((congrArg (· * 512 + i.val) e).trans hI)) ((rect_emb_val win0_3 t (ix2 i j) 1).trans (from_zero e' _ _))).symm
  rw [after0_3, (rows_left m c t).1]
  exact rows_value m c t i j I hI

theorem rounded_final : ((dats m 0 c).arrAt 4 cfg0.N : Mat 8192 1024) = rowsResult m c := by
  refine (dats m 0 c).arrAt_eq_of_covers 4 _ (by decide +kernel) fun t hf y => ?_
  blk_simp
  obtain ⟨i, j, rfl⟩ : ∃ (i : Fin 512) (j : Fin 1024), y = ix2 i j := ⟨y 0, y 1, eq_ix2 y⟩
  have hN : t.val < 16 := lt_of_lt_of_eq t.isLt N_0
  obtain ⟨I, hI⟩ : ∃ I : Fin 8192, t.val * 512 + i.val = I.val := ⟨⟨_, by omega⟩, rfl⟩
  obtain ⟨-, -, -, -, -, -, -, -, e, e', -⟩ := index t
  refine Eq.trans ?_ (at_coords (rowsResult m c) _ I j ((rect_emb_val win0_4 t (ix2 i j) 0).trans ((congrArg (· * 512 + i.val) e).trans hI)) ((rect_emb_val win0_4 t (ix2 i j) 1).trans (from_zero e' _ _))).symm
  rw [after0_4, (rows_left m c t).2]
  exact rows_value m c t i j I hI

/-- One point's shares of the two totals are those of its rows. -/
theorem weight_share (t : Fin cfg0.N) (j : Fin 1024) (hl : ∀ k : Fin 512, t.val * 512 + k.val < 8192) :
    k0_pay2 (F := Ideal) (k0_pay7 (iblk m c 0 t)) (k0_pay10 (iblk m c 0 t) (iblk m c 2 t) (iblk m c 1 t)) (ix2 0 j)
      = ∑ k : Fin 512, toWeight (flow (input m c) (target m c) (weight m c)) (input m c) j ⟨t.val * 512 + k.val, hl k⟩ :=
  (weight_share_at _ _ _ j).trans (Finset.sum_congr rfl fun k _ => toWeight_congr (fun l => congrArg (· * _) (err_here m c t k _ rfl l)) (fun l => input_at m c t k l _ rfl) j)
theorem loss_share (t : Fin cfg0.N) (a : Fin 8) (b : Fin 128) (hl : ∀ k : Fin 512, t.val * 512 + k.val < 8192) :
    k0_pay3 (F := Ideal) (k0_pay9 (iblk m c 0 t) (iblk m c 2 t) (iblk m c 1 t)) (ix2 a b)
      = ∑ k : Fin 512, lossRow (input m c) (target m c) (weight m c) ⟨t.val * 512 + k.val, hl k⟩ :=
  (loss_share_at _ _ _ a b).trans (Finset.sum_congr rfl fun k _ => congrArg (· * _) (Finset.sum_congr rfl fun l _ =>
    congrArg₂ (· * ·) (err_here m c t k _ rfl l) (err_here m c t k _ rfl l)))

/-- The last point leaves the sums over all rows. -/
theorem weight_total (t : Fin cfg0.N) (ht : t.val + 1 = cfg0.N) (j : Fin 1024) : (outsAt0 m c t.val t.isLt).2.2.2 (ix2 0 j) = weightResult m c (ix2 0 j) := by
  have hN : cfg0.N = 16 := N_0
  refine sum_blocks (N := cfg0.N) (n := 512) (L := 8192) (by rw [hN]) (toWeight (flow (input m c) (target m c) (weight m c)) (input m c) j) (fun t ht k => by omega)
    (fun t h => (outsAt0 m c t h).2.2.2 (ix2 0 j)) (fun h => ?_) (fun t h => ?_) t.val t.isLt ht
  · rw [outsAt0_A m c ⟨0, h⟩ (Nat.zero_mod _) (by dsimp only; omega)]
    dsimp only
    exact (congrFun (first_point ..).2.2.2 _).trans (weight_share m c ⟨0, h⟩ j _)
  · have h16 : t + 1 < 16 := lt_of_lt_of_eq h N_0
    rw [outsAt0_B m c ⟨t + 1, h⟩ (by dsimp only; omega) (by dsimp only; omega)]
    dsimp only
    exact (congrFun (later_point ..).2.2.2 _).trans (congrArg _ (weight_share m c ⟨t + 1, h⟩ j _))
theorem loss_total (t : Fin cfg0.N) (ht : t.val + 1 = cfg0.N) (a : Fin 8) (b : Fin 128) : (outsAt0 m c t.val t.isLt).2.2.1 (ix2 a b) = lossResult m c (ix2 a b) := by
  have hN : cfg0.N = 16 := N_0
  refine sum_blocks (N := cfg0.N) (n := 512) (L := 8192) (by rw [hN]) (lossRow (input m c) (target m c) (weight m c)) (fun t ht k => by omega)
    (fun t h => (outsAt0 m c t h).2.2.1 (ix2 a b)) (fun h => ?_) (fun t h => ?_) t.val t.isLt ht
  · rw [outsAt0_A m c ⟨0, h⟩ (Nat.zero_mod _) (by dsimp only; omega)]
    dsimp only
    exact (congrFun (first_point ..).2.2.1 _).trans (loss_share m c ⟨0, h⟩ a b _)
  · have h16 : t + 1 < 16 := lt_of_lt_of_eq h N_0
    rw [outsAt0_B m c ⟨t + 1, h⟩ (by dsimp only; omega) (by dsimp only; omega)]
    dsimp only
    exact (congrFun (later_point ..).2.2.1 _).trans (congrArg _ (loss_share m c ⟨t + 1, h⟩ a b _))

theorem weight_final : ((dats m 0 c).arrAt 6 cfg0.N : Mat 1 1024) = weightResult m c := by
  refine (dats m 0 c).arrAt_eq_of_covers 6 _ (by decide +kernel) fun t hf y => ?_
  blk_simp
  obtain ⟨j, rfl⟩ : ∃ (j : Fin 1024), y = ix2 0 j := ⟨y 1, (eq_ix2 y).trans (congrArg (fun k => ix2 k (y 1)) (Subsingleton.elim (α := Fin 1) (y 0) 0))⟩
  have h15 : t.val % 16 = 15 := (flush0_6 t).mp hf
  have hN : t.val < 16 := lt_of_lt_of_eq t.isLt N_0
  obtain ⟨-, -, -, -, -, -, -, -, -, -, -, -, e, e'⟩ := index t
  refine Eq.trans ?_ (at_coords (weightResult m c) _ 0 j ((rect_emb_val win0_6 t (ix2 0 j) 0).trans (from_zero e _ _)) ((rect_emb_val win0_6 t (ix2 0 j) 1).trans (from_zero e' _ _))).symm
  rw [after0_6]
  exact weight_total m c t ((show t.val + 1 = 16 by omega).trans N_0.symm) j
theorem loss_final : ((dats m 0 c).arrAt 5 cfg0.N : Mat 8 128) = lossResult m c := by
  refine (dats m 0 c).arrAt_eq_of_covers 5 _ (by decide +kernel) fun t hf y => ?_
  blk_simp
  obtain ⟨a, b, rfl⟩ : ∃ (a : Fin 8) (b : Fin 128), y = ix2 a b := ⟨y 0, y 1, eq_ix2 y⟩
  have h15 : t.val % 16 = 15 := (flush0_5 t).mp hf
  have hN : t.val < 16 := lt_of_lt_of_eq t.isLt N_0
  rw [after0_5]
  exact loss_total m c t ((show t.val + 1 = 16 by omega).trans N_0.symm) a b

/-- From any memory the kernel ends with the loss and the gradients, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v0_0) = rowsResult m c
      ∧ r.2.mem ((c : Thread nD τ).loc main_v0_1) = rowsResult m c
      ∧ r.2.mem ((c : Thread nD τ).loc main_v0_2) = lossResult m c
      ∧ r.2.mem ((c : Thread nD τ).loc main_v0_3) = weightResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (rows_final m c), (h c).2.1.trans (rounded_final m c), (h c).2.2.1.trans (loss_final m c),
    (h c).2.2.2.1.trans (weight_final m c), (h c).2.2.2.2⟩) (Value.run_blocks m ρ)

end Cert.Kernel15Ideal.Head

end
-- ==== Proof.HeadRef.lean ====
/-
  The loss and its gradients: the reference's, as the chain rule gives them, are those of Proof/HeadSpec.lean.
-/
module

public import proofs.«01_k».proof.Proof.HeadSpec
public import proofs.«01_k».proof.Proof.NormBackRef
public import proofs.«01_k».proof.Proof.Gen.Reference15Ideal.Run

@[expose] public section

set_option maxRecDepth 16384

noncomputable section

namespace Cert.Reference15Ideal.Head

open Idealize.ShloMosaic Idealize.ShloMosaic.TcCoe Idealize.ShloMosaic.StableHlo Idealize.SL.Sem Cert.Reference15Ideal Cert.Reference15Ideal.Gen Cert.Products Cert.NormGrad Cert.Head
open Cert.Reference13Ideal.NormBack (recip scaled rows weights recip_at scaled_at rows_at weights_eq)

section
variable (x t : FVec Ideal S8192x1024 .f32) (w : FVec Ideal S1x1024 .f32)

/-- The difference, what flows back from it, and the loss. -/
def diff : FVec Ideal S8192x1024 .f32 :=
  subf (mulf (mulf x (broadcastInDim S8192x1024 ![0, 1] bcast_S8192x1_S8192x1024_0_1 (recip x))) (broadcastInDim S8192x1024 ![0, 1] bcast_S1x1024_S8192x1024_0_1 w)) t
def back : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) (diff x t w))
def total : FVec Ideal S8x128 .f32 :=
  broadcastInDim S8x128 ![] bcast_S_S8x128 (mulf (constant S_ .f32 0x3F000000#32)
    (Host.reduceAdd (Host.divf (Host.reduceAdd (mulf (diff x t w) (diff x t w)) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))

theorem diff_at (i : Fin 8192) (j : Fin 1024) : diff x t w (ix2 i j) = err (N := 8192) x t w (ix2 i j) := by
  show _ = x (ix2 i j) * NormRow.rootRecip (row (N := 8192) x i) * w (ix2 0 j) - t (ix2 i j)
  rw [← recip_at]
  generalize hr : recip x = r
  unfold diff
  rw [hr]
  pointwise []
theorem back_eq : back x t w = flow (N := 8192) x t w := by
  funext e
  obtain ⟨i, j, rfl⟩ : ∃ (i : Fin 8192) (j : Fin 1024), e = ix2 i j := ⟨e 0, e 1, eq_ix2 e⟩
  unfold flow
  rw [← diff_at, ← flow_eq_rule]
  generalize hd : diff x t w = d
  unfold back
  rw [hd]
  pointwise []
theorem total_eq : total x t w = fun _ => loss (N := 8192) x t w := by
  funext e
  obtain ⟨a, b, rfl⟩ : ∃ (a : Fin 8) (b : Fin 128), e = ix2 a b := ⟨e 0, e 1, eq_ix2 e⟩
  rw [← loss_eq_means]
  simp only [← diff_at]
  generalize hd : diff x t w = d
  unfold total
  rw [hd]
  pointwise []
theorem rows_eq : rows x (scaled (back x t w) w) = toRows (N := 8192) (flow (N := 8192) x t w) x w := by
  funext e
  obtain ⟨i, j, rfl⟩ : ∃ (i : Fin 8192) (j : Fin 1024), e = ix2 i j := ⟨e 0, e 1, eq_ix2 e⟩
  rw [back_eq]
  refine (rows_at x _ i j).trans ((NormRow.back_eq _ _ j).symm.trans ?_)
  exact congrArg (fun u => NormRow.back u (row (N := 8192) x i) j) (funext fun l => scaled_at _ w i l)
theorem weights_flow : weights (back x t w) x = weightGrad (N := 8192) (flow (N := 8192) x t w) x := by
  rw [back_eq, weights_eq]
end

variable (m : (ℓ : Loc nD τ sig) → Buf (Elt Ideal) ℓ) (c : Dev nD)

/-- The arguments as launched: the norm's input, the target and the norm's weight. -/
abbrev input : Mat 8192 1024 := m ((c.tc : Thread nD τ).loc main_arg0)
abbrev target : Mat 8192 1024 := m ((c.tc : Thread nD τ).loc main_arg1)
abbrev weight : Mat 1 1024 := m ((c.tc : Thread nD τ).loc main_arg2)

theorem rows_result : Value.res_main_v48 m c = toRows (N := 8192) (flow (input m c) (target m c) (weight m c)) (input m c) (weight m c) := by
  unfold Value.res_main_v48
  exact rows_eq (input m c) (target m c) (weight m c)
theorem rounded_result : Value.res_main_v49 m c = toRows (N := 8192) (flow (input m c) (target m c) (weight m c)) (input m c) (weight m c) := by
  unfold Value.res_main_v49
  exact rows_eq (input m c) (target m c) (weight m c)

/-- From any memory the reference ends with the loss and the gradients, its arguments as launched. -/
theorem results (ρ : Dev nD → PrngReg) : θ_run defs (onTc (τ := τ) (main (F := Ideal))) ⟨m, fun _ => 0, ρ⟩ (fun r => ∀ c : Dev nD,
      r.2.mem ((c.tc : Thread nD τ).loc main_v48) = toRows (N := 8192) (flow (input m c) (target m c) (weight m c)) (input m c) (weight m c)
      ∧ r.2.mem ((c.tc : Thread nD τ).loc main_v49) = toRows (N := 8192) (flow (input m c) (target m c) (weight m c)) (input m c) (weight m c)
      ∧ r.2.mem ((c.tc : Thread nD τ).loc main_v50) = (fun _ => loss (input m c) (target m c) (weight m c) : Mat 8 128)
      ∧ r.2.mem ((c.tc : Thread nD τ).loc main_v32) = weightGrad (N := 8192) (flow (input m c) (target m c) (weight m c)) (input m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (rows_result m c), (h c).2.1.trans (rounded_result m c),
    (h c).2.2.1.trans (total_eq (input m c) (target m c) (weight m c)), (h c).2.2.2.1.trans (weights_flow (input m c) (target m c) (weight m c)), (h c).2.2.2.2⟩) (Value.run m ρ)

end Cert.Reference15Ideal.Head

end
-- ==== Proof.ActSpec.lean ====
/-
  The feed-forward's activation: a causal convolution over three tokens of a sequence, and the gated linear unit with the tanh form of gelu.
-/
module

public import proofs.«01_k».proof.Proof.NormGrad

@[expose] public section

noncomputable section

namespace Cert.Act

open Idealize.ShloMosaic Cert.Products Cert.NormRow

/-- Inside the hyperbolic tangent, the cube spread over the sum. -/
theorem inner_eq (x : EReal) {c a : ℝ} (hc : 0 < c) (ha : 0 < a) : (c : EReal) * (x + (a : EReal) * (x * x * x)) = x * ((c : EReal) + ((c * a : ℝ) : EReal) * (x * x)) := by
  induction x using EReal.rec with
  | bot => simp [EReal.coe_mul_bot_of_pos, EReal.coe_mul_top_of_pos, hc, ha, mul_pos hc ha, EReal.bot_mul_top, EReal.bot_mul_bot, EReal.top_mul_bot, -EReal.coe_mul]
  | top => simp [EReal.coe_mul_top_of_pos, hc, ha, mul_pos hc ha, -EReal.coe_mul]
  | coe x => norm_cast; ring

/-- Gelu in its tanh form, the constants' product in the cube's place. -/
def gelu (x : EReal) : EReal := x * (Ideal.ofBits .f32 0x3F000000#32 * Ideal.tanh (x * (Ideal.ofBits .f32 0x3F4C422A#32
  + Ideal.ofBits .f32 0x3F4C422A#32 * Ideal.ofBits .f32 0x3D372713#32 * (x * x))) + Ideal.ofBits .f32 0x3F000000#32)
/-- And as it is usually written. -/
theorem gelu_eq (x : EReal) : x * (Ideal.ofBits .f32 0x3F000000#32 * (Ideal.ofBits .f32 0x3F800000#32 + Ideal.tanh (Ideal.ofBits .f32 0x3F4C422A#32
    * (x + Ideal.ofBits .f32 0x3D372713#32 * (x * x * x))))) = gelu x := by
  unfold gelu
  rw [word_half, word_one, word_root, word_cube, inner_eq x (by norm_num) (by norm_num), ← EReal.coe_mul (13386282 / 16777216),
    EReal.left_distrib_of_nonneg_of_ne_top (EReal.coe_nonneg.2 (by norm_num)) (EReal.coe_ne_top _), ← EReal.coe_mul, mul_one, add_comm]

section
variable (up : Mat 8192 6144) (w : Mat 3 3072) (b : Mat 1 3072)

/-- A gate's column among the first product's columns, and its value's. -/
def gateCol (j : Fin 3072) : Fin 6144 := ⟨j.val, by omega⟩
def valueCol (j : Fin 3072) : Fin 6144 := ⟨3072 + j.val, by omega⟩
/-- The gate `s` tokens earlier in the same sequence of 2048, zero before its start. -/
def past (s : ℕ) (r : Fin 8192) (j : Fin 3072) : EReal := if s ≤ r.val % 2048 then up (ix2 ⟨r.val - s, by omega⟩ (gateCol j)) else 0
/-- The causal convolution over three tokens. -/
def conv (r : Fin 8192) (j : Fin 3072) : EReal := b (ix2 0 j) + w (ix2 2 j) * up (ix2 r (gateCol j)) + w (ix2 0 j) * past up 2 r j + w (ix2 1 j) * past up 1 r j
/-- The activation. -/
def act : Mat 8192 3072 := fun i => gelu (conv up w b (i 0) (i 1)) * up (ix2 (i 0) (valueCol (i 1)))
end

end Cert.Act

end
-- ==== Proof.Act.lean ====
/-
  The feed-forward's activation: the kernel's blocks, each a whole sequence by 256 columns, are those of the formulas.
-/
module

public import proofs.«01_k».proof.Proof.ActSpec
public import proofs.«01_k».proof.Proof.Gen.Kernel16Ideal.Value

@[expose] public section

set_option maxRecDepth 16384

noncomputable section

namespace Cert.Kernel16Ideal.Act

open Idealize.ShloMosaic Idealize.ShloMosaic.TcCoe Idealize.ShloMosaic.StableHlo Idealize.SL.Sem Cert.Kernel16Ideal Cert.Kernel16Ideal.Gen Cert.Products Cert.Act
open Idealize.ShloMosaic.Pipeline (Dat)
open Idealize.ShloMosaic.Pipeline.Window (rect_emb_val)

/-- A block's column `s` rows earlier, zero before the block's first row. -/
def earlier (s : ℕ) (f : Fin 2048 → EReal) (i : Fin 2048) : EReal := if s ≤ i.val then f ⟨i.val - s, by omega⟩ else 0

/-- The kernel turns the rows around by `s`, and puts zero in the first eight rows where their index is less than `s`. -/
theorem turned (s : ℕ) (hs : s ≤ 8) (word : BitVec 32) (hw : ∀ i : Fin 8, IntOp.cmpi .sge (BitVec.ofNat 32 i.val) word = if s ≤ i.val then 1#1 else 0#1)
    (f : Fin 2048 → EReal) (i : Fin 2048) (p : (i.val + 2048 - s) % 2048 < 2048) (q : ¬i.val < 8 → (8 + (i.val - 8) + 2048 - s) % 2048 < 2048) :
    (if h : i.val < 8 then Scalar.select (IntOp.cmpi .sge (BitVec.ofNat 32 i.val) word) (f ⟨(i.val + 2048 - s) % 2048, p⟩) 0
      else f ⟨(8 + (i.val - 8) + 2048 - s) % 2048, q h⟩) = earlier s f i := by
  unfold earlier
  by_cases h : i.val < 8
  · rw [dif_pos h, hw ⟨i.val, h⟩]
    by_cases hi : s ≤ i.val
    · rw [if_pos hi, if_pos hi]
      exact congrArg f (Fin.ext (by dsimp only; omega))
    · rw [if_neg hi, if_neg hi]
      rfl
  · rw [dif_neg h, if_pos (by omega)]
    exact congrArg f (Fin.ext (by dsimp only; omega))

/-- The named constant is the product of gelu's two. -/
theorem cubic : (Named.named (F := Ideal) κ "gelu_cubic" 0x3D122279#32 : EReal) = Ideal.ofBits .f32 0x3F4C422A#32 * Ideal.ofBits .f32 0x3D372713#32 := by
  rw [NormRow.word_root, NormRow.word_cube, ← EReal.coe_mul]
  refine (IdealRules.named_const.ideal_named_scalar _ _ _ _ rfl : _ = ((80338380498831 / 2251799813685248 : ℝ) : EReal)).trans ?_
  norm_num

section Values
variable (g x : Vec Ideal S2048x256 .bf16) (w : Vec Ideal S3x256 .f32) (b : Vec Ideal S1x256 .f32) (i : Fin 2048) (j : Fin 256)

/-- A point's convolution, at an element. -/
def convHere : EReal := b (ix2 0 j) + w (ix2 2 j) * g (ix2 i j) + w (ix2 0 j) * earlier 2 (fun r => g (ix2 r j)) i + w (ix2 1 j) * earlier 1 (fun r => g (ix2 r j)) i
theorem conv_at : k0_pay2 (F := Ideal) g w b (ix2 i j) = convHere g w b i j := by
  unfold convHere
  rw [← turned 2 (by omega) 2#32 (by decide) (fun r => g (ix2 r j)) i (by omega) (fun _ => by omega),
    ← turned 1 (by omega) 1#32 (by decide) (fun r => g (ix2 r j)) i (by omega) (fun _ => by omega)]
  pointwise [k0_pay2]
/-- A point's result, at an element. -/
theorem act_at : k0_pay1 (F := Ideal) (k0_pay2 g w b) (k0_pay3 g w b) (Scalar.ofBits .f32 0x3F000000#32) x (ix2 i j) = gelu (convHere g w b i j) * x (ix2 i j) := by
  have h := conv_at g w b i j
  unfold gelu
  rw [← cubic, ← h]
  generalize hp : k0_pay2 (F := Ideal) g w b = p
  unfold k0_pay3
  rw [hp]
  pointwise [k0_pay1]
end Values

/-- A point stores its result over the whole block. -/
theorem point {F : FTy → Type} [FloatOps F] [Named F] (g x : Vec F S2048x256 .bf16) (w : Vec F S3x256 .f32) (b : Vec F S1x256 .f32) :
    out0_4 g x w b = k0_pay1 (k0_pay2 g w b) (k0_pay3 g w b) (Scalar.ofBits .f32 0x3F000000#32) x := by
  unfold out0_4
  rw [View.canon_unit_zero zeros]
  simp only [View.ld_unit_zero (S := S2048x256) zeros, View.ld_unit_zero (S := S3x256) zeros, View.ld_unit_zero (S := S1x256) zeros]

variable (m : (ℓ : Loc nD τ sig) → Buf (Elt Ideal) ℓ) (c : Dev nD)

/-- The arguments as launched: the first product, and the convolution's weights and bias. -/
abbrev up : Mat 8192 6144 := m ((c : Thread nD τ).loc main_arg0)
abbrev weight : Mat 3 3072 := m ((c : Thread nD τ).loc main_arg1)
abbrev bias : Mat 1 3072 := m ((c : Thread nD τ).loc main_arg2)

/-- The host's cast leaves the first product as it is. -/
theorem host_reads : (V m c main_v0 : Mat 8192 6144) = up m c := by
  unfold V
  unfold hostOps0
  after_results_simp <;> rfl

/-- A point takes one sequence, and 256 columns: the gate's, the value's 3072 further on, the weights' and the bias's. -/
theorem index : ∀ t : Fin cfg0.N, win0_0.index t 0 = win0_4.index t 0 ∧ win0_0.index t 1 = win0_4.index t 1
    ∧ win0_1.index t 0 = win0_4.index t 0 ∧ win0_1.index t 1 = 12 + win0_4.index t 1
    ∧ win0_2.index t 0 = 0 ∧ win0_2.index t 1 = win0_4.index t 1 ∧ win0_3.index t 0 = 0 ∧ win0_3.index t 1 = win0_4.index t 1
    ∧ win0_4.index t 0 < 4 ∧ win0_4.index t 1 < 12 := by
  decide +kernel

section Blocks
variable (t : Fin cfg0.N) (i : Fin 2048) (j : Fin 256) (I : Fin 8192) (J : Fin 3072) (hI : win0_4.index t 0 * 2048 + i.val = I.val) (hJ : win0_4.index t 1 * 256 + j.val = J.val)

include hI hJ in
theorem gate_at : (iblk m c 0 t : Vec Ideal S2048x256 .bf16) (ix2 i j) = up m c (ix2 I (gateCol J)) := by
  obtain ⟨e, e', -⟩ := index t
  rw [← host_reads m c]
  exact at_coords (V m c main_v0) _ I (gateCol J) ((rect_emb_val win0_0 t (ix2 i j) 0).trans ((congrArg (· * 2048 + i.val) e).trans hI))
    ((rect_emb_val win0_0 t (ix2 i j) 1).trans ((congrArg (· * 256 + j.val) e').trans hJ))
include hI hJ in
theorem value_at : (iblk m c 1 t : Vec Ideal S2048x256 .bf16) (ix2 i j) = up m c (ix2 I (valueCol J)) := by
  obtain ⟨-, -, e, e', -⟩ := index t
  rw [← host_reads m c]
  exact at_coords (V m c main_v0) _ I (valueCol J) ((rect_emb_val win0_1 t (ix2 i j) 0).trans ((congrArg (· * 2048 + i.val) e).trans hI))
    ((rect_emb_val win0_1 t (ix2 i j) 1).trans ((congrArg (· * 256 + j.val) e').trans (show _ = 3072 + J.val by rw [← hJ]; ring)))
include hJ in
theorem weight_at (k : Fin 3) : (iblk m c 2 t : Vec Ideal S3x256 .f32) (ix2 k j) = weight m c (ix2 k J) := by
  obtain ⟨-, -, -, -, e, e', -⟩ := index t
  refine Eq.trans ?_ (congrFun (V_main_arg1 m c) _)
  exact at_coords (V m c main_arg1) _ k J ((rect_emb_val win0_2 t (ix2 k j) 0).trans (from_zero e _ _)) ((rect_emb_val win0_2 t (ix2 k j) 1).trans ((congrArg (· * 256 + j.val) e').trans hJ))
include hJ in
theorem bias_at : (iblk m c 3 t : Vec Ideal S1x256 .f32) (ix2 0 j) = bias m c (ix2 0 J) := by
  obtain ⟨-, -, -, -, -, -, e, e', -⟩ := index t
  refine Eq.trans ?_ (congrFun (V_main_arg2 m c) _)
  exact at_coords (V m c main_arg2) _ 0 J ((rect_emb_val win0_3 t (ix2 0 j) 0).trans (from_zero e _ _)) ((rect_emb_val win0_3 t (ix2 0 j) 1).trans ((congrArg (· * 256 + j.val) e').trans hJ))

include hI hJ in
/-- A row earlier in the block is the token earlier in the sequence. -/
theorem earlier_at (s : ℕ) : earlier s (fun r => (iblk m c 0 t : Vec Ideal S2048x256 .bf16) (ix2 r j)) i = past (up m c) s I J := by
  unfold earlier past
  have h : I.val % 2048 = i.val := by omega
  rw [h]
  split
  · exact gate_at m c t _ j _ J (by dsimp only; omega) hJ
  · rfl
include hI hJ in
theorem conv_here : convHere (iblk m c 0 t) (iblk m c 2 t) (iblk m c 3 t) i j = conv (up m c) (weight m c) (bias m c) I J := by
  unfold convHere conv
  rw [earlier_at m c t i j I J hI hJ, earlier_at m c t i j I J hI hJ, bias_at m c t j J hJ, weight_at m c t j J hJ, weight_at m c t j J hJ, weight_at m c t j J hJ, gate_at m c t i j I J hI hJ]
end Blocks

/-- The result is the activation of the arguments. -/
theorem final : ((dats m 0 c).arrAt 4 cfg0.N : Mat 8192 3072) = act (up m c) (weight m c) (bias m c) := by
  refine (dats m 0 c).arrAt_eq_of_covers 4 _ (by decide +kernel) fun t hf y => ?_
  blk_simp
  obtain ⟨i, j, rfl⟩ : ∃ (i : Fin 2048) (j : Fin 256), y = ix2 i j := ⟨y 0, y 1, eq_ix2 y⟩
  obtain ⟨-, -, -, -, -, -, -, -, hM, hN⟩ := index t
  obtain ⟨I, hI⟩ : ∃ I : Fin 8192, win0_4.index t 0 * 2048 + i.val = I.val := ⟨⟨_, by omega⟩, rfl⟩
  obtain ⟨J, hJ⟩ : ∃ J : Fin 3072, win0_4.index t 1 * 256 + j.val = J.val := ⟨⟨_, by omega⟩, rfl⟩
  refine Eq.trans ?_ (at_coords (act (up m c) (weight m c) (bias m c)) _ I J ((rect_emb_val win0_4 t (ix2 i j) 0).trans hI) ((rect_emb_val win0_4 t (ix2 i j) 1).trans hJ)).symm
  rw [after0_4, point]
  exact (act_at _ _ _ _ i j).trans (congrArg₂ (fun a b => gelu a * b) (conv_here m c t i j I J hI hJ) (value_at m c t i j I J hI hJ))

/-- From any memory the kernel ends with the activation, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v1) = act (up m c) (weight m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (final m c), (h c).2⟩) (Value.run_blocks m ρ)

end Cert.Kernel16Ideal.Act

end
-- ==== Proof.ActRef.lean ====
/-
  The feed-forward's activation: the reference's is that of Proof/ActSpec.lean.
-/
module

public import proofs.«01_k».proof.Proof.ActSpec
public import proofs.«01_k».proof.Proof.Gen.Reference16Ideal.Run

@[expose] public section

set_option maxRecDepth 16384

noncomputable section

namespace Cert.Reference16Ideal.Act

open Idealize.ShloMosaic Idealize.ShloMosaic.TcCoe Idealize.ShloMosaic.StableHlo Idealize.SL.Sem Cert.Reference16Ideal Cert.Reference16Ideal.Gen Cert.Products Cert.Act

section
variable (x : FVec Ideal S8192x6144 .f32) (w : FVec Ideal S3x3072 .f32) (b : FVec Ideal S1x3072 .f32)

/-- The gates by sequence, with two rows of zeros before each sequence's first. -/
def padded : FVec Ideal S4x2050x3072 .f32 :=
  pad S4x2050x3072 ![0, 2, 0] ![0, 0, 0] ![0, 0, 0] (extractStridedSlice S4x2048x3072 ![0, 0, 0] (shapeCast S4x2048x6144 x shapeCasts_S8192x6144_S4x2048x6144) slices_S4x2048x6144_S4x2048x3072_0_0_0)
    (sitofp .f32 (constantI S_ 32 0#32)) pads_S4x2048x3072_S4x2050x3072_000_200_000 h_S_
/-- A row of the weights, or the bias, beside every token. -/
def spread (v : FVec Ideal S3072 .f32) : FVec Ideal S4x2048x3072 .f32 :=
  broadcastInDim S4x2048x3072 ![0, 1, 2] bcast_S1x1x3072_S4x2048x3072_0_1_2 (broadcastInDim S1x1x3072 ![2] bcast_S3072_S1x1x3072_2 v)
/-- The convolution by sequence, gelu, and the result. -/
def convs (p : FVec Ideal S4x2050x3072 .f32) : FVec Ideal S4x2048x3072 .f32 :=
  addf (addf (addf (addf (broadcastInDim S4x2048x3072 ![] bcast_S_S4x2048x3072 (constant S_ .f32 0x00000000#32))
      (mulf (spread (shapeCast S3072 (extractStridedSlice S1x3072 ![0, 0] w slices_S3x3072_S1x3072_0_0) shapeCasts_S1x3072_S3072)) (extractStridedSlice S4x2048x3072 ![0, 0, 0] p slices_S4x2050x3072_S4x2048x3072_0_0_0)))
      (mulf (spread (shapeCast S3072 (extractStridedSlice S1x3072 ![1, 0] w slices_S3x3072_S1x3072_1_0) shapeCasts_S1x3072_S3072)) (extractStridedSlice S4x2048x3072 ![0, 1, 0] p slices_S4x2050x3072_S4x2048x3072_0_1_0)))
      (mulf (spread (shapeCast S3072 (extractStridedSlice S1x3072 ![2, 0] w slices_S3x3072_S1x3072_2_0) shapeCasts_S1x3072_S3072)) (extractStridedSlice S4x2048x3072 ![0, 2, 0] p slices_S4x2050x3072_S4x2048x3072_0_2_0)))
    (spread (shapeCast S3072 b shapeCasts_S1x3072_S3072))
def everywhere (bits : BitVec 32) : FVec Ideal S4x2048x3072 .f32 := broadcastInDim S4x2048x3072 ![] bcast_S_S4x2048x3072 (constant S_ .f32 bits)
def gelus (v : FVec Ideal S4x2048x3072 .f32) : FVec Ideal S4x2048x3072 .f32 :=
  mulf v (mulf (everywhere 0x3F000000#32) (addf (everywhere 0x3F800000#32) (Host.tanh (mulf (everywhere 0x3F4C422A#32) (addf v (mulf (everywhere 0x3D372713#32) (mulf (mulf v v) v)))))))
def result (v : FVec Ideal S4x2048x3072 .f32) : FVec Ideal S8192x3072 .bf16 :=
  truncf .bf16 (shapeCast S8192x3072 (mulf (gelus v) (extractStridedSlice S4x2048x3072 ![0, 0, 3072] (shapeCast S4x2048x6144 x shapeCasts_S8192x6144_S4x2048x6144) slices_S4x2048x6144_S4x2048x3072_0_0_3072))
    shapeCasts_S4x2048x3072_S8192x3072) bitsLt_bf16_f32

theorem padded_at (q : Fin 4) (r : Fin 2050) (j : Fin 3072) (s : ℕ) (I : Fin 8192) (hs : s ≤ 2) (hI : q.val * 2048 + I.val % 2048 = I.val) (hr : r.val + s = I.val % 2048 + 2) :
    padded x (ix3 q r j) = past x s I j := by
  have e : padded x (ix3 q r j) = if h : 2 ≤ r.val ∧ r.val - 2 < 2048 then x (ix2 ⟨q.val * 2048 + (r.val - 2), by omega⟩ ⟨j.val, by omega⟩) else FloatOps.sitofp (F := Ideal) .f32 0#32 := by
    unfold padded
    pointwise []
  rw [e]
  unfold past
  by_cases h : s ≤ I.val % 2048
  · rw [dif_pos (by omega), if_pos h]
    exact congrArg x (congrArg₂ ix2 (Fin.ext (by dsimp only; omega)) rfl)
  · rw [dif_neg (by omega), if_neg h]
    simp [FloatOps.sitofp]
/-- The convolution adds its three terms, then the bias: in another order it is the kernel's. -/
theorem convs_at (q : Fin 4) (r : Fin 2048) (j : Fin 3072) (I : Fin 8192) (hI : q.val * 2048 + r.val = I.val) : convs w b (padded x) (ix3 q r j) = conv x w b I j := by
  have hm : I.val % 2048 = r.val := by omega
  have e : conv x w b I j = w (ix2 0 j) * past x 2 I j + w (ix2 1 j) * past x 1 I j + w (ix2 2 j) * past x 0 I j + b (ix2 0 j) := by
    unfold conv past
    rw [if_pos (Nat.zero_le (I.val % 2048))]
    simp only [Nat.sub_zero]
    abel
  rw [e, ← padded_at x q ⟨r.val, by omega⟩ j 2 I (by omega) (by omega) (by dsimp only; omega), ← padded_at x q ⟨1 + r.val, by omega⟩ j 1 I (by omega) (by omega) (by dsimp only; omega),
    ← padded_at x q ⟨2 + r.val, by omega⟩ j 0 I (by omega) (by omega) (by dsimp only; omega)]
  generalize padded x = p
  unfold convs spread
  pointwise []
theorem gelus_at (v : FVec Ideal S4x2048x3072 .f32) (q : Fin 4) (r : Fin 2048) (j : Fin 3072) : gelus v (ix3 q r j) = gelu (v (ix3 q r j)) := by
  rw [← gelu_eq]
  unfold gelus everywhere
  pointwise []
theorem result_eq : result x (convs w b (padded x)) = act x w b := by
  funext e
  obtain ⟨i, j, rfl⟩ : ∃ (i : Fin 8192) (j : Fin 3072), e = ix2 i j := ⟨e 0, e 1, eq_ix2 e⟩
  show _ = gelu (conv x w b i j) * x (ix2 i (valueCol j))
  rw [← convs_at x w b ⟨i.val / 2048, by omega⟩ ⟨i.val % 2048, by omega⟩ j i (by dsimp only; omega), ← gelus_at]
  unfold result
  generalize gelus (convs w b (padded x)) = u
  pointwise [valueCol]
end

variable (m : (ℓ : Loc nD τ sig) → Buf (Elt Ideal) ℓ) (c : Dev nD)

/-- The arguments as launched: the first product, and the convolution's weights and bias. -/
abbrev up : Mat 8192 6144 := m ((c.tc : Thread nD τ).loc main_arg0)
abbrev weight : Mat 3 3072 := m ((c.tc : Thread nD τ).loc main_arg1)
abbrev bias : Mat 1 3072 := m ((c.tc : Thread nD τ).loc main_arg2)

theorem final : Value.res_main_v45 m c = act (up m c) (weight m c) (bias m c) := by
  unfold Value.res_main_v45
  exact result_eq (up m c) (weight m c) (bias m c)

/-- From any memory the reference ends with the activation, its arguments as launched. -/
theorem results (ρ : Dev nD → PrngReg) : θ_run defs (onTc (τ := τ) (main (F := Ideal))) ⟨m, fun _ => 0, ρ⟩ (fun r => ∀ c : Dev nD,
      r.2.mem ((c.tc : Thread nD τ).loc main_v45) = act (up m c) (weight m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run m ρ)

end Cert.Reference16Ideal.Act

end
-- ==== Proof.UpGrad.lean ====
/-
  The gradient of the feed-forward's first weight: the kernel's two passes over the tokens add up to the one product.
-/
module

public import proofs.«01_k».proof.Proof.Products
public import proofs.«01_k».proof.Proof.Gen.Kernel2Ideal.Value
public import proofs.«01_k».proof.Proof.Gen.Reference2Ideal.Run

@[expose] public section

noncomputable section

namespace Cert.Kernel2Ideal.Up

open Idealize.ShloMosaic Idealize.ShloMosaic.TcCoe Idealize.ShloMosaic.StableHlo Idealize.SL.Sem Cert.Kernel2Ideal Cert.Kernel2Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S4096x1024 .bf16) (h3 : a3.IsWhole) (a4 : Memref sig .tc .vmem S4096x1024 .bf16) (h4 : a4.IsWhole)
  (a5 : Memref sig .tc .vmem S1024x1024 .f32) (h5 : a5.IsWhole) (a6 : Memref sig .tc .vmem S1024x1024 .f32) (h6 : a6.IsWhole) (x y : Vec F S4096x1024 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S4096x1024) zeros, shapeCast_self]

/-- The second pass leaves, in the result's block, the accumulator and its own product added. -/
theorem second_pass (g0 : ¬cond0_0 i) (g1 : cond0_1 i) (g2 : cond0_2 i) (acc : Vec F S1024x1024 .f32) :
    out0_B_2 c i a3 h3 a4 h4 a5 h5 a6 h6 g0 g1 g2 x y acc = addf acc (k0_pay1 x y) := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay3
  simp only [View.readAt_eq_ld, h3.read_unread, h4.read_unread, h6.read_unread, View.ld_unit_zero (S := S4096x1024) zeros,
    View.ld_unit_zero (S := S1024x1024) zeros, shapeCast_self]
end Cases

variable (m : (ℓ : Loc nD τ sig) → Buf (Elt Ideal) ℓ) (c : Dev nD)

/-- The arguments as launched. -/
abbrev lhs : Mat 8192 1024 := m ((c : Thread nD τ).loc main_arg0)
abbrev rhs : Mat 8192 6144 := m ((c : Thread nD τ).loc main_arg1)

/-- The host's casts leave them as they are. -/
theorem host_reads : (V m c main_v0 : Mat 8192 1024) = lhs m c ∧ (V m c main_v1 : Mat 8192 6144) = rhs m c := by
  unfold V
  unfold hostOps0
  refine ⟨?_, ?_⟩ <;> (after_results_simp <;> rfl)

/-- A pass's product, at an element. -/
theorem block_product (x y : Vec Ideal S4096x1024 .bf16) (i j : Fin 1024) :
    k0_pay1 (F := Ideal) x y (ix2 i j) = ∑ l : Fin 4096, (x (ix2 l i) : EReal) * y (ix2 l j) := by
  pointwise [k0_pay1]

/-- A point's blocks, in the whole arrays. -/
theorem lhs_at (t : Fin cfg0.N) (l : Fin 4096) (i : Fin 1024) (L : Fin 8192) (I : Fin 1024) (hL : win0_0.index t 0 * 4096 + l.val = L.val)
    (hI : win0_0.index t 1 * 1024 + i.val = I.val) : (iblk m c 0 t : Vec Ideal S4096x1024 .bf16) (ix2 l i) = lhs m c (ix2 L I) := by
  rw [← (host_reads m c).1]
  exact at_coords (V m c main_v0) _ L I ((rect_emb_val win0_0 t (ix2 l i) 0).trans hL) ((rect_emb_val win0_0 t (ix2 l i) 1).trans hI)
theorem rhs_at (t : Fin cfg0.N) (l : Fin 4096) (j : Fin 1024) (L : Fin 8192) (J : Fin 6144) (hL : win0_1.index t 0 * 4096 + l.val = L.val)
    (hJ : win0_1.index t 1 * 1024 + j.val = J.val) : (iblk m c 1 t : Vec Ideal S4096x1024 .bf16) (ix2 l j) = rhs m c (ix2 L J) := by
  rw [← (host_reads m c).2]
  exact at_coords (V m c main_v1) _ L J ((rect_emb_val win0_1 t (ix2 l j) 0).trans hL) ((rect_emb_val win0_1 t (ix2 l j) 1).trans hJ)

/-- A point that writes a block back, and the one before it, take the two halves of the tokens and the block's own columns. -/
theorem index : ∀ t s : Fin cfg0.N, t.val % 2 = 1 → s.val + 1 = t.val →
    win0_0.index t 0 = 1 ∧ win0_0.index s 0 = 0 ∧ win0_1.index t 0 = 1 ∧ win0_1.index s 0 = 0
    ∧ win0_0.index t 1 = win0_2.index t 0 ∧ win0_0.index s 1 = win0_2.index t 0
    ∧ win0_1.index t 1 = win0_2.index t 1 ∧ win0_1.index s 1 = win0_2.index t 1
    ∧ win0_2.index t 0 < 1 ∧ win0_2.index t 1 < 6 := by
  decide +kernel

/-- The result is the product of the first argument's transpose with the second. -/
theorem final : ((dats m 0 c).arrAt 2 cfg0.N : Mat 1024 6144) = tn (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 1024, win0_2.index t 0 * 1024 + i.val = I.val := ⟨⟨_, by omega⟩, rfl⟩
  obtain ⟨J, hJ⟩ : ∃ J : Fin 6144, win0_2.index t 1 * 1024 + j.val = J.val := ⟨⟨_, by omega⟩, rfl⟩
  refine Eq.trans ?_ (at_coords (tn (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (tn_of_halves (h := 4096) rfl (lhs m c) (rhs m c) (fun l => ?_) (fun l => ?_) (fun l => ?_) (fun l => ?_))
  · exact lhs_at m c s l i _ I (congrArg (· * 4096 + l.val) k0) ((congrArg (· * 1024 + i.val) e0).trans hI)
  · exact rhs_at m c s l j _ J (congrArg (· * 4096 + l.val) k0') ((congrArg (· * 1024 + j.val) e0').trans hJ)
  · exact lhs_at m c t l i _ I (congrArg (· * 4096 + l.val) k1) ((congrArg (· * 1024 + i.val) e1).trans hI)
  · exact rhs_at m c t l j _ J (congrArg (· * 4096 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel2Ideal.Up

namespace Cert.Reference2Ideal.Up

open Idealize.ShloMosaic Idealize.ShloMosaic.TcCoe Idealize.ShloMosaic.StableHlo Idealize.SL.Sem Cert.Reference2Ideal Cert.Reference2Ideal.Gen Cert.Products

/-- And so does the reference, which multiplies the other way about and transposes. -/
theorem product (x : FVec Ideal S8192x1024 .f32) (y : FVec Ideal S8192x6144 .f32) :
    transpose S1024x6144 [1, 0] (Host.dotGeneral dot_S8192x6144_S8192x1024_S6144x1024_0_0_1_1_n_n none y x) transposes_S6144x1024_S1024x6144_1_0 = tn x y := by
  funext e
  obtain ⟨i, j, rfl⟩ : ∃ (i : Fin 1024) (j : Fin 6144), e = ix2 i j := ⟨e 0, e 1, eq_ix2 e⟩
  pointwise [tn]
  exact Finset.sum_congr rfl fun l _ => mul_comm _ _

end Cert.Reference2Ideal.Up

end
-- ==== Proof.DownGrad.lean ====
/-
  The gradient of the feed-forward's second weight: two passes over the tokens add up to the one product.
-/
module

public import proofs.«01_k».proof.Proof.Products
public import proofs.«01_k».proof.Proof.Gen.Kernel3Ideal.Value
public import proofs.«01_k».proof.Proof.Gen.Reference3Ideal.Run

@[expose] public section

noncomputable section

namespace Cert.Kernel3Ideal.Down

open Idealize.ShloMosaic Idealize.ShloMosaic.TcCoe Idealize.ShloMosaic.StableHlo Idealize.SL.Sem Cert.Kernel3Ideal Cert.Kernel3Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S4096x1024 .bf16) (h3 : a3.IsWhole) (a4 : Memref sig .tc .vmem S4096x1024 .bf16) (h4 : a4.IsWhole)
  (a5 : Memref sig .tc .vmem S1024x1024 .f32) (h5 : a5.IsWhole) (a6 : Memref sig .tc .vmem S1024x1024 .f32) (h6 : a6.IsWhole) (x y : Vec F S4096x1024 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S4096x1024) zeros, shapeCast_self]

/-- The second pass leaves, in the result's block, the accumulator and its own product added. -/
theorem second_pass (g0 : ¬cond0_0 i) (g1 : cond0_1 i) (g2 : cond0_2 i) (acc : Vec F S1024x1024 .f32) :
    out0_B_2 c i a3 h3 a4 h4 a5 h5 a6 h6 g0 g1 g2 x y acc = addf acc (k0_pay1 x y) := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay3
  simp only [View.readAt_eq_ld, h3.read_unread, h4.read_unread, h6.read_unread, View.ld_unit_zero (S := S4096x1024) zeros,
    View.ld_unit_zero (S := S1024x1024) zeros, shapeCast_self]
end Cases

variable (m : (ℓ : Loc nD τ sig) → Buf (Elt Ideal) ℓ) (c : Dev nD)

/-- The arguments as launched. -/
abbrev lhs : Mat 8192 3072 := m ((c : Thread nD τ).loc main_arg0)
abbrev rhs : Mat 8192 1024 := m ((c : Thread nD τ).loc main_arg1)

/-- The host's casts leave them as they are. -/
theorem host_reads : (V m c main_v0 : Mat 8192 3072) = lhs m c ∧ (V m c main_v1 : Mat 8192 1024) = rhs m c := by
  unfold V
  unfold hostOps0
  refine ⟨?_, ?_⟩ <;> (after_results_simp <;> rfl)

/-- A pass's product, at an element. -/
theorem block_product (x y : Vec Ideal S4096x1024 .bf16) (i j : Fin 1024) :
    k0_pay1 (F := Ideal) x y (ix2 i j) = ∑ l : Fin 4096, (x (ix2 l i) : EReal) * y (ix2 l j) := by
  pointwise [k0_pay1]

/-- A point's blocks, in the whole arrays. -/
theorem lhs_at (t : Fin cfg0.N) (l : Fin 4096) (i : Fin 1024) (L : Fin 8192) (I : Fin 3072) (hL : win0_0.index t 0 * 4096 + l.val = L.val)
    (hI : win0_0.index t 1 * 1024 + i.val = I.val) : (iblk m c 0 t : Vec Ideal S4096x1024 .bf16) (ix2 l i) = lhs m c (ix2 L I) := by
  rw [← (host_reads m c).1]
  exact at_coords (V m c main_v0) _ L I ((rect_emb_val win0_0 t (ix2 l i) 0).trans hL) ((rect_emb_val win0_0 t (ix2 l i) 1).trans hI)
theorem rhs_at (t : Fin cfg0.N) (l : Fin 4096) (j : Fin 1024) (L : Fin 8192) (J : Fin 1024) (hL : win0_1.index t 0 * 4096 + l.val = L.val)
    (hJ : win0_1.index t 1 * 1024 + j.val = J.val) : (iblk m c 1 t : Vec Ideal S4096x1024 .bf16) (ix2 l j) = rhs m c (ix2 L J) := by
  rw [← (host_reads m c).2]
  exact at_coords (V m c main_v1) _ L J ((rect_emb_val win0_1 t (ix2 l j) 0).trans hL) ((rect_emb_val win0_1 t (ix2 l j) 1).trans hJ)

/-- A point that writes a block back, and the one before it, take the two halves of the tokens and the block's own columns. -/
theorem index : ∀ t s : Fin cfg0.N, t.val % 2 = 1 → s.val + 1 = t.val →
    win0_0.index t 0 = 1 ∧ win0_0.index s 0 = 0 ∧ win0_1.index t 0 = 1 ∧ win0_1.index s 0 = 0
    ∧ win0_0.index t 1 = win0_2.index t 0 ∧ win0_0.index s 1 = win0_2.index t 0
    ∧ win0_1.index t 1 = win0_2.index t 1 ∧ win0_1.index s 1 = win0_2.index t 1
    ∧ win0_2.index t 0 < 3 ∧ win0_2.index t 1 < 1 := by
  decide +kernel

/-- The result is the product of the first argument's transpose with the second. -/
theorem final : ((dats m 0 c).arrAt 2 cfg0.N : Mat 3072 1024) = tn (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 3072, win0_2.index t 0 * 1024 + i.val = I.val := ⟨⟨_, by omega⟩, rfl⟩
  obtain ⟨J, hJ⟩ : ∃ J : Fin 1024, win0_2.index t 1 * 1024 + j.val = J.val := ⟨⟨_, by omega⟩, rfl⟩
  refine Eq.trans ?_ (at_coords (tn (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (tn_of_halves (h := 4096) rfl (lhs m c) (rhs m c) (fun l => ?_) (fun l => ?_) (fun l => ?_) (fun l => ?_))
  · exact lhs_at m c s l i _ I (congrArg (· * 4096 + l.val) k0) ((congrArg (· * 1024 + i.val) e0).trans hI)
  · exact rhs_at m c s l j _ J (congrArg (· * 4096 + l.val) k0') ((congrArg (· * 1024 + j.val) e0').trans hJ)
  · exact lhs_at m c t l i _ I (congrArg (· * 4096 + l.val) k1) ((congrArg (· * 1024 + i.val) e1).trans hI)
  · exact rhs_at m c t l j _ J (congrArg (· * 4096 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel3Ideal.Down

namespace Cert.Reference3Ideal.Down

open Idealize.ShloMosaic Idealize.ShloMosaic.TcCoe Idealize.ShloMosaic.StableHlo Idealize.SL.Sem Cert.Reference3Ideal Cert.Reference3Ideal.Gen Cert.Products

/-- And so does the reference, which multiplies the other way about and transposes. -/
theorem product (x : FVec Ideal S8192x3072 .f32) (y : FVec Ideal S8192x1024 .f32) :
    transpose S3072x1024 [1, 0] (Host.dotGeneral dot_S8192x1024_S8192x3072_S1024x3072_0_0_1_1_n_n none y x) transposes_S1024x3072_S3072x1024_1_0 = tn x y := by
  funext e
  obtain ⟨i, j, rfl⟩ : ∃ (i : Fin 3072) (j : Fin 1024), e = ix2 i j := ⟨e 0, e 1, eq_ix2 e⟩
  pointwise [tn]
  exact Finset.sum_congr rfl fun l _ => mul_comm _ _

end Cert.Reference3Ideal.Down

end
-- ==== Proof.OutGrad.lean ====
/-
  The gradient of one of the three output weights: two passes over the tokens add up to the one product.
-/
module

public import proofs.«01_k».proof.Proof.Products
public import proofs.«01_k».proof.Proof.Gen.Kernel4Ideal.Value
public import proofs.«01_k».proof.Proof.Gen.Reference4Ideal.Run

@[expose] public section

noncomputable section

namespace Cert.Kernel4Ideal.Out

open Idealize.ShloMosaic Idealize.ShloMosaic.TcCoe Idealize.ShloMosaic.StableHlo Idealize.SL.Sem Cert.Kernel4Ideal Cert.Kernel4Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S4096x1024 .bf16) (h3 : a3.IsWhole) (a4 : Memref sig .tc .vmem S4096x1024 .bf16) (h4 : a4.IsWhole)
  (a5 : Memref sig .tc .vmem S1024x1024 .f32) (h5 : a5.IsWhole) (a6 : Memref sig .tc .vmem S1024x1024 .f32) (h6 : a6.IsWhole) (x y : Vec F S4096x1024 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S4096x1024) zeros, shapeCast_self]

/-- The second pass leaves, in the result's block, the accumulator and its own product added. -/
theorem second_pass (g0 : ¬cond0_0 i) (g1 : cond0_1 i) (g2 : cond0_2 i) (acc : Vec F S1024x1024 .f32) :
    out0_B_2 c i a3 h3 a4 h4 a5 h5 a6 h6 g0 g1 g2 x y acc = addf acc (k0_pay1 x y) := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay3
  simp only [View.readAt_eq_ld, h3.read_unread, h4.read_unread, h6.read_unread, View.ld_unit_zero (S := S4096x1024) zeros,
    View.ld_unit_zero (S := S1024x1024) zeros, shapeCast_self]
end Cases

variable (m : (ℓ : Loc nD τ sig) → Buf (Elt Ideal) ℓ) (c : Dev nD)

/-- The arguments as launched. -/
abbrev lhs : Mat 8192 1024 := m ((c : Thread nD τ).loc main_arg0)
abbrev rhs : Mat 8192 1024 := m ((c : Thread nD τ).loc main_arg1)

/-- The host's casts leave them as they are. -/
theorem host_reads : (V m c main_v0 : Mat 8192 1024) = lhs m c ∧ (V m c main_v1 : Mat 8192 1024) = rhs m c := by
  unfold V
  unfold hostOps0
  refine ⟨?_, ?_⟩ <;> (after_results_simp <;> rfl)

/-- A pass's product, at an element. -/
theorem block_product (x y : Vec Ideal S4096x1024 .bf16) (i j : Fin 1024) :
    k0_pay1 (F := Ideal) x y (ix2 i j) = ∑ l : Fin 4096, (x (ix2 l i) : EReal) * y (ix2 l j) := by
  pointwise [k0_pay1]

/-- A point's blocks, in the whole arrays. -/
theorem lhs_at (t : Fin cfg0.N) (l : Fin 4096) (i : Fin 1024) (L : Fin 8192) (I : Fin 1024) (hL : win0_0.index t 0 * 4096 + l.val = L.val)
    (hI : win0_0.index t 1 * 1024 + i.val = I.val) : (iblk m c 0 t : Vec Ideal S4096x1024 .bf16) (ix2 l i) = lhs m c (ix2 L I) := by
  rw [← (host_reads m c).1]
  exact at_coords (V m c main_v0) _ L I ((rect_emb_val win0_0 t (ix2 l i) 0).trans hL) ((rect_emb_val win0_0 t (ix2 l i) 1).trans hI)
theorem rhs_at (t : Fin cfg0.N) (l : Fin 4096) (j : Fin 1024) (L : Fin 8192) (J : Fin 1024) (hL : win0_1.index t 0 * 4096 + l.val = L.val)
    (hJ : win0_1.index t 1 * 1024 + j.val = J.val) : (iblk m c 1 t : Vec Ideal S4096x1024 .bf16) (ix2 l j) = rhs m c (ix2 L J) := by
  rw [← (host_reads m c).2]
  exact at_coords (V m c main_v1) _ L J ((rect_emb_val win0_1 t (ix2 l j) 0).trans hL) ((rect_emb_val win0_1 t (ix2 l j) 1).trans hJ)

/-- A point that writes a block back, and the one before it, take the two halves of the tokens and the block's own columns. -/
theorem index : ∀ t s : Fin cfg0.N, t.val % 2 = 1 → s.val + 1 = t.val →
    win0_0.index t 0 = 1 ∧ win0_0.index s 0 = 0 ∧ win0_1.index t 0 = 1 ∧ win0_1.index s 0 = 0
    ∧ win0_0.index t 1 = win0_2.index t 0 ∧ win0_0.index s 1 = win0_2.index t 0
    ∧ win0_1.index t 1 = win0_2.index t 1 ∧ win0_1.index s 1 = win0_2.index t 1
    ∧ win0_2.index t 0 < 1 ∧ win0_2.index t 1 < 1 := by
  decide +kernel

/-- The result is the product of the first argument's transpose with the second. -/
theorem final : ((dats m 0 c).arrAt 2 cfg0.N : Mat 1024 1024) = tn (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 1024, win0_2.index t 0 * 1024 + i.val = I.val := ⟨⟨_, by omega⟩, rfl⟩
  obtain ⟨J, hJ⟩ : ∃ J : Fin 1024, win0_2.index t 1 * 1024 + j.val = J.val := ⟨⟨_, by omega⟩, rfl⟩
  refine Eq.trans ?_ (at_coords (tn (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (tn_of_halves (h := 4096) rfl (lhs m c) (rhs m c) (fun l => ?_) (fun l => ?_) (fun l => ?_) (fun l => ?_))
  · exact lhs_at m c s l i _ I (congrArg (· * 4096 + l.val) k0) ((congrArg (· * 1024 + i.val) e0).trans hI)
  · exact rhs_at m c s l j _ J (congrArg (· * 4096 + l.val) k0') ((congrArg (· * 1024 + j.val) e0').trans hJ)
  · exact lhs_at m c t l i _ I (congrArg (· * 4096 + l.val) k1) ((congrArg (· * 1024 + i.val) e1).trans hI)
  · exact rhs_at m c t l j _ J (congrArg (· * 4096 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel4Ideal.Out

namespace Cert.Reference4Ideal.Out

open Idealize.ShloMosaic Idealize.ShloMosaic.TcCoe Idealize.ShloMosaic.StableHlo Idealize.SL.Sem Cert.Reference4Ideal Cert.Reference4Ideal.Gen Cert.Products

/-- And so does the reference, which multiplies the other way about and transposes. -/
theorem product (x : FVec Ideal S8192x1024 .f32) (y : FVec Ideal S8192x1024 .f32) :
    transpose S1024x1024 [1, 0] (Host.dotGeneral dot_S8192x1024_S8192x1024_S1024x1024_0_0_1_1_n_n none y x) transposes_S1024x1024_S1024x1024_1_0 = tn x y := by
  funext e
  obtain ⟨i, j, rfl⟩ : ∃ (i : Fin 1024) (j : Fin 1024), e = ix2 i j := ⟨e 0, e 1, eq_ix2 e⟩
  pointwise [tn]
  exact Finset.sum_congr rfl fun l _ => mul_comm _ _

end Cert.Reference4Ideal.Out

end
-- ==== Proof.UpForward.lean ====
/-
  The feed-forward's first product: the kernel's blocks are those of the one product.
-/
module

public import proofs.«01_k».proof.Proof.Products
public import proofs.«01_k».proof.Proof.Gen.Kernel5Ideal.Value
public import proofs.«01_k».proof.Proof.Gen.Reference5Ideal.Run

@[expose] public section

noncomputable section

namespace Cert.Kernel5Ideal.UpForward

open Idealize.ShloMosaic Idealize.ShloMosaic.TcCoe Idealize.ShloMosaic.StableHlo Idealize.SL.Sem Cert.Kernel5Ideal Cert.Kernel5Ideal.Gen Cert.Products
open Idealize.ShloMosaic.Pipeline (Dat)
open Idealize.ShloMosaic.Pipeline.Window (rect_emb_val)

/-- A point leaves its product in the result's block. -/
theorem point {F : FTy → Type} [FloatOps F] (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16) (h5 : a5.IsWhole)
    (a6 : Memref sig .tc .vmem S8x128 .f32) (h6 : a6.IsWhole) (x : Vec F S2048x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero zeros]
  simp only [View.readAt_eq_ld, h3.read_unread, h4.read_unread, View.ld_unit_zero (S := S2048x1024) zeros, View.ld_unit_zero (S := S1024x1024) zeros]

variable (m : (ℓ : Loc nD τ sig) → Buf (Elt Ideal) ℓ) (c : Dev nD)

/-- The arguments as launched. -/
abbrev lhs : Mat 8192 1024 := m ((c : Thread nD τ).loc main_arg0)
abbrev rhs : Mat 1024 6144 := m ((c : Thread nD τ).loc main_arg1)

/-- The host's casts leave them as they are. -/
theorem host_reads : (V m c main_v0 : Mat 8192 1024) = lhs m c ∧ (V m c main_v1 : Mat 1024 6144) = rhs m c := by
  unfold V
  unfold hostOps0
  refine ⟨?_, ?_⟩ <;> (after_results_simp <;> rfl)

/-- A point's product, at an element. -/
theorem block_product (x : Vec Ideal S2048x1024 .bf16) (y : Vec Ideal S1024x1024 .bf16) (i : Fin 2048) (j : Fin 1024) :
    k0_pay1 (F := Ideal) x y (ix2 i j) = ∑ l : Fin 1024, (x (ix2 i l) : EReal) * y (ix2 l j) := by
  pointwise [k0_pay1]

/-- A point takes the rows and the columns of its block of the result. -/
theorem index : ∀ t : Fin cfg0.N, win0_0.index t 0 = win0_2.index t 0 ∧ win0_0.index t 1 = 0 ∧ win0_1.index t 0 = 0
    ∧ win0_1.index t 1 = win0_2.index t 1 ∧ win0_2.index t 0 < 4 ∧ win0_2.index t 1 < 6 := by
  decide +kernel

/-- A point's blocks, in the whole arrays. -/
theorem lhs_at (t : Fin cfg0.N) (i : Fin 2048) (l : Fin 1024) (I : Fin 8192) (hI : win0_2.index t 0 * 2048 + i.val = I.val) :
    (iblk m c 0 t : Vec Ideal S2048x1024 .bf16) (ix2 i l) = lhs m c (ix2 I l) := by
  obtain ⟨e0, e1, -⟩ := index t
  rw [← (host_reads m c).1]
  exact at_coords (V m c main_v0) _ I l ((rect_emb_val win0_0 t (ix2 i l) 0).trans ((congrArg (· * 2048 + i.val) e0).trans hI))
    ((rect_emb_val win0_0 t (ix2 i l) 1).trans (from_zero e1 _ _))
theorem rhs_at (t : Fin cfg0.N) (l : Fin 1024) (j : Fin 1024) (J : Fin 6144) (hJ : win0_2.index t 1 * 1024 + j.val = J.val) :
    (iblk m c 1 t : Vec Ideal S1024x1024 .bf16) (ix2 l j) = rhs m c (ix2 l J) := by
  obtain ⟨-, -, e0, e1, -⟩ := index t
  rw [← (host_reads m c).2]
  exact at_coords (V m c main_v1) _ l J ((rect_emb_val win0_1 t (ix2 l j) 0).trans (from_zero e0 _ _))
    ((rect_emb_val win0_1 t (ix2 l j) 1).trans ((congrArg (· * 1024 + j.val) e1).trans hJ))

/-- The result is the product of the arguments. -/
theorem final : ((dats m 0 c).arrAt 2 cfg0.N : Mat 8192 6144) = nn (lhs m c) (rhs m c) := by
  refine (dats m 0 c).arrAt_eq_of_covers 2 _ (by decide +kernel) fun t hf y => ?_
  blk_simp
  obtain ⟨i, j, rfl⟩ : ∃ (i : Fin 2048) (j : Fin 1024), y = ix2 i j := ⟨y 0, y 1, eq_ix2 y⟩
  obtain ⟨-, -, -, -, hM, hN⟩ := index t
  obtain ⟨I, hI⟩ : ∃ I : Fin 8192, win0_2.index t 0 * 2048 + i.val = I.val := ⟨⟨_, by omega⟩, rfl⟩
  obtain ⟨J, hJ⟩ : ∃ J : Fin 6144, win0_2.index t 1 * 1024 + j.val = J.val := ⟨⟨_, by omega⟩, rfl⟩
  refine Eq.trans ?_ (at_coords (nn (lhs m c) (rhs m c)) _ I J ((rect_emb_val win0_2 t (ix2 i j) 0).trans hI) ((rect_emb_val win0_2 t (ix2 i j) 1).trans hJ)).symm
  rw [after0_2]
  unfold outsAt0
  rw [point]
  exact (block_product _ _ i j).trans (Finset.sum_congr rfl fun l _ => congrArg₂ (· * ·) (lhs_at m c t i l I hI) (rhs_at m c t l j J hJ))

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = nn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel5Ideal.UpForward

namespace Cert.Reference5Ideal.UpForward

open Idealize.ShloMosaic Idealize.ShloMosaic.TcCoe Idealize.ShloMosaic.StableHlo Idealize.SL.Sem Cert.Reference5Ideal Cert.Reference5Ideal.Gen Cert.Products

/-- And so does the reference. -/
theorem product (x : FVec Ideal S8192x1024 .f32) (y : FVec Ideal S1024x6144 .f32) :
    (truncf .bf16 (Host.dotGeneral dot_S8192x1024_S1024x6144_S8192x6144_1_0_0_1_n_n none x y) bitsLt_bf16_f32 : FVec Ideal S8192x6144 .bf16) = nn x y := by
  funext e
  obtain ⟨i, j, rfl⟩ : ∃ (i : Fin 8192) (j : Fin 6144), e = ix2 i j := ⟨e 0, e 1, eq_ix2 e⟩
  pointwise [nn]

end Cert.Reference5Ideal.UpForward

end
-- ==== Proof.DownForward.lean ====
/-
  The feed-forward's second product, added to the residual: the kernel's blocks are those of the one product and sum.
-/
module

public import proofs.«01_k».proof.Proof.Products
public import proofs.«01_k».proof.Proof.Gen.Kernel6Ideal.Value
public import proofs.«01_k».proof.Proof.Gen.Reference6Ideal.Run

@[expose] public section

noncomputable section

namespace Cert.Kernel6Ideal.DownForward

open Idealize.ShloMosaic Idealize.ShloMosaic.TcCoe Idealize.ShloMosaic.StableHlo Idealize.SL.Sem Cert.Kernel6Ideal Cert.Kernel6Ideal.Gen Cert.Products
open Idealize.ShloMosaic.Pipeline (Dat)
open Idealize.ShloMosaic.Pipeline.Window (rect_emb_val)

/-- A point leaves its product, with the residual's block added, in the result's block. -/
theorem point {F : FTy → Type} [FloatOps F] (c : Dev nD) (i : grid0.Coords) (a3 : Memref sig .tc .vmem S1024x3072 .bf16) (h3 : a3.IsWhole)
    (a4 : Memref sig .tc .vmem S3072x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S8x128 .f32) (h7 : a7.IsWhole)
    (x : Vec F S1024x3072 .bf16) (y : Vec F S3072x1024 .bf16) (z : Vec F S1024x1024 .f32) :
    out0_A_3 c i a3 h3 a4 h4 a5 h5 a6 h6 a7 h7 x y z = k0_pay1 x y z := by
  unfold out0_A_3
  rw [View.read_writes_eq_canon _ _ _ (cover0_A_3 c i a3 h3 a4 h4 a5 h5 a6 h6 a7 h7 x y z)]
  unfold kernelRun0_A
  dsimp only
  sl_unfold_words
  rw [View.canon_unit_zero zeros]
  simp only [View.readAt_eq_ld, h3.read_unread, h4.read_unread, h5.read_unread, View.ld_unit_zero (S := S1024x3072) zeros,
    View.ld_unit_zero (S := S3072x1024) zeros, View.ld_unit_zero (S := S1024x1024) zeros]

variable (m : (ℓ : Loc nD τ sig) → Buf (Elt Ideal) ℓ) (c : Dev nD)

/-- The arguments as launched. -/
abbrev lhs : Mat 8192 3072 := m ((c : Thread nD τ).loc main_arg0)
abbrev rhs : Mat 3072 1024 := m ((c : Thread nD τ).loc main_arg1)
abbrev res : Mat 8192 1024 := m ((c : Thread nD τ).loc main_arg2)

/-- What the step ends with: the residual and the product. -/
def sum (x : Mat 8192 3072) (y : Mat 3072 1024) (z : Mat 8192 1024) : Mat 8192 1024 := fun i => z i + nn x y i

/-- The host's casts leave the arguments as they are. -/
theorem host_reads : (V m c main_v0 : Mat 8192 3072) = lhs m c ∧ (V m c main_v1 : Mat 3072 1024) = rhs m c
    ∧ (V m c main_arg2 : Mat 8192 1024) = res m c := by
  unfold V
  unfold hostOps0
  refine ⟨?_, ?_, ?_⟩ <;> (after_results_simp <;> rfl)

/-- A point's product and sum, at an element. -/
theorem block_product (x : Vec Ideal S1024x3072 .bf16) (y : Vec Ideal S3072x1024 .bf16) (z : Vec Ideal S1024x1024 .f32) (i j : Fin 1024) :
    k0_pay1 (F := Ideal) x y z (ix2 i j) = ∑ l : Fin 3072, (x (ix2 i l) : EReal) * y (ix2 l j) + z (ix2 i j) := by
  pointwise [k0_pay1]

/-- A point takes the rows and the columns of its block of the result. -/
theorem index : ∀ t : Fin cfg0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1
    ∧ win0_3.index t 0 < 8 ∧ win0_3.index t 1 < 1 := by
  decide +kernel

/-- A point's blocks, in the whole arrays. -/
theorem lhs_at (t : Fin cfg0.N) (i : Fin 1024) (l : Fin 3072) (I : Fin 8192) (hI : win0_3.index t 0 * 1024 + i.val = I.val) :
    (iblk m c 0 t : Vec Ideal S1024x3072 .bf16) (ix2 i l) = lhs m c (ix2 I l) := by
  obtain ⟨e0, e1, -⟩ := index t
  rw [← (host_reads m c).1]
  exact at_coords (V m c main_v0) _ I l ((rect_emb_val win0_0 t (ix2 i l) 0).trans ((congrArg (· * 1024 + i.val) e0).trans hI))
    ((rect_emb_val win0_0 t (ix2 i l) 1).trans (from_zero e1 _ _))
theorem rhs_at (t : Fin cfg0.N) (l : Fin 3072) (j J : Fin 1024) (hJ : win0_3.index t 1 * 1024 + j.val = J.val) :
    (iblk m c 1 t : Vec Ideal S3072x1024 .bf16) (ix2 l j) = rhs m c (ix2 l J) := by
  obtain ⟨-, -, e0, e1, -⟩ := index t
  rw [← (host_reads m c).2.1]
  exact at_coords (V m c main_v1) _ l J ((rect_emb_val win0_1 t (ix2 l j) 0).trans (from_zero e0 _ _))
    ((rect_emb_val win0_1 t (ix2 l j) 1).trans ((congrArg (· * 1024 + j.val) e1).trans hJ))
theorem res_at (t : Fin cfg0.N) (i j : Fin 1024) (I : Fin 8192) (J : Fin 1024) (hI : win0_3.index t 0 * 1024 + i.val = I.val)
    (hJ : win0_3.index t 1 * 1024 + j.val = J.val) : (iblk m c 2 t : Vec Ideal S1024x1024 .f32) (ix2 i j) = res m c (ix2 I J) := by
  obtain ⟨-, -, -, -, e0, e1, -⟩ := index t
  rw [← (host_reads m c).2.2]
  exact at_coords (V m c main_arg2) _ I J ((rect_emb_val win0_2 t (ix2 i j) 0).trans ((congrArg (· * 1024 + i.val) e0).trans hI))
    ((rect_emb_val win0_2 t (ix2 i j) 1).trans ((congrArg (· * 1024 + j.val) e1).trans hJ))

/-- The result is the residual and the product of the arguments. -/
theorem final : ((dats m 0 c).arrAt 3 cfg0.N : Mat 8192 1024) = sum (lhs m c) (rhs m c) (res m c) := by
  refine (dats m 0 c).arrAt_eq_of_covers 3 _ (by decide +kernel) fun t hf y => ?_
  blk_simp
  obtain ⟨i, j, rfl⟩ : ∃ (i j : Fin 1024), y = ix2 i j := ⟨y 0, y 1, eq_ix2 y⟩
  obtain ⟨-, -, -, -, -, -, hM, hN⟩ := index t
  obtain ⟨I, hI⟩ : ∃ I : Fin 8192, win0_3.index t 0 * 1024 + i.val = I.val := ⟨⟨_, by omega⟩, rfl⟩
  obtain ⟨J, hJ⟩ : ∃ J : Fin 1024, win0_3.index t 1 * 1024 + j.val = J.val := ⟨⟨_, by omega⟩, rfl⟩
  refine Eq.trans ?_ (at_coords (sum (lhs m c) (rhs m c) (res m c)) _ I J ((rect_emb_val win0_3 t (ix2 i j) 0).trans hI)
    ((rect_emb_val win0_3 t (ix2 i j) 1).trans hJ)).symm
  rw [after0_3]
  unfold outsAt0
  rw [point]
  refine (block_product _ _ _ i j).trans ((add_comm _ _).trans (congrArg₂ (· + ·) (res_at m c t i j I J hI hJ) ?_))
  exact Finset.sum_congr rfl fun l _ => congrArg₂ (· * ·) (lhs_at m c t i l I hI) (rhs_at m c t l j J hJ)

/-- From any memory the kernel ends with that sum, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = sum (lhs m c) (rhs m c) (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (final m c), (h c).2⟩) (Value.run_blocks m ρ)

end Cert.Kernel6Ideal.DownForward

namespace Cert.Reference6Ideal.DownForward

open Idealize.ShloMosaic Idealize.ShloMosaic.TcCoe Idealize.ShloMosaic.StableHlo Idealize.SL.Sem Cert.Reference6Ideal Cert.Reference6Ideal.Gen Cert.Products

/-- And so does the reference. -/
theorem product (x : FVec Ideal S8192x3072 .f32) (y : FVec Ideal S3072x1024 .f32) (z : FVec Ideal S8192x1024 .f32) :
    addf z (Host.dotGeneral dot_S8192x3072_S3072x1024_S8192x1024_1_0_0_1_n_n none x y) = Kernel6Ideal.DownForward.sum x y z := by
  funext e
  obtain ⟨i, j, rfl⟩ : ∃ (i : Fin 8192) (j : Fin 1024), e = ix2 i j := ⟨e 0, e 1, eq_ix2 e⟩
  pointwise [Kernel6Ideal.DownForward.sum, nn]

end Cert.Reference6Ideal.DownForward

end
-- ==== Proof.MixSpec.lean ====
/-
  What the gradient of the merge is, over the extended reals: each result as sums and products of the arguments'
  elements. Both programs are read against these formulas.
-/
module

public import Idealize.ShloMosaic.PureOps.Ideal
public import Idealize.ShloMosaic.Lib.Pointwise
public import Mathlib.Analysis.SpecialFunctions.Trigonometric.DerivHyp

@[expose] public section

noncomputable section

namespace Cert.Merge

open Idealize.ShloMosaic

/-- Arrays by their extents. -/
abbrev Mat (n k : ℕ) := (⟨2, ![n, k]⟩ : Shape).Idx → EReal

/-- The word of one half is one half. -/
theorem half_word : Ideal.ofBits .f32 0x3F000000#32 = ((1 / 2 : ℝ) : EReal) := by
  simp [Ideal.ofBits, Ideal.ieee]
  rw [← EReal.coe_mul]
  norm_num

/-- The gate through the hyperbolic tangent is the logistic gate, at the infinities too. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h : Real.exp (-r) = Real.exp (-(1 / 2 * r)) * Real.exp (-(1 / 2 * r)) := by rw [← Real.exp_add]; ring_nf
    have h' : Real.exp (1 / 2 * r) * Real.exp (-(1 / 2 * r)) = 1 := by rw [← Real.exp_add]; simp
    rw [h]
    have hp := Real.exp_pos (1 / 2 * r)
    have hn := Real.exp_pos (-(1 / 2 * r))
    generalize Real.exp (1 / 2 * r) = u at *
    generalize Real.exp (-(1 / 2 * r)) = v at *
    field_simp
    nlinarith [h']

/-- A row of `x` against a row of `w`, and against a column of it. -/
def rowRow {n k p : ℕ} (x : Mat n k) (w : Mat p k) (i : Fin n) (j : Fin p) : EReal := ∑ l : Fin k, x (ix2 i l) * w (ix2 j l)
def rowCol {n k p : ℕ} (x : Mat n k) (w : Mat k p) (i : Fin n) (j : Fin p) : EReal := ∑ l : Fin k, x (ix2 i l) * w (ix2 l j)

/-- The gate of branch `r` at a token and a channel: the logistic function of its projected value and its bias. -/
def gate (proj : Mat 8192 7168) (mb : Mat 2 1024) (r : Fin 2) (i : Fin 8192) (j : Fin 1024) : EReal :=
  Ideal.logistic (proj (ix2 i ⟨5120 + 1024 * r.val + j.val, by omega⟩) + mb (ix2 r j))

/-- The gradient of branch `r`'s output: the cotangent through the output weights, times the gate. -/
def dBranch (dx : Mat 8192 1024) (proj : Mat 8192 7168) (wout : Mat 1024 1024) (mb : Mat 2 1024) (r : Fin 2) : Mat 8192 1024 :=
  fun i => rowRow dx wout (i 0) (i 1) * gate proj mb r (i 0) (i 1)

/-- The gradient of what branch `r`'s weights were applied to. -/
def dInput (dx : Mat 8192 1024) (proj : Mat 8192 7168) (wout : Mat 1024 1024) (mb : Mat 2 1024) (w : Mat 1024 1024) (r : Fin 2) : Mat 8192 1024 :=
  fun i => rowRow (dBranch dx proj wout mb r) w (i 0) (i 1)

/-- The gradient of branch `r`'s gate before the logistic function; `a` through `w` is the branch's output. -/
def dGate (dx : Mat 8192 1024) (proj : Mat 8192 7168) (wout : Mat 1024 1024) (mb : Mat 2 1024) (a : Mat 8192 1024) (w : Mat 1024 1024)
    (r : Fin 2) (i : Fin 8192) (j : Fin 1024) : EReal :=
  rowRow dx wout i j * rowCol a w i j * (gate proj mb r i j * (1 - gate proj mb r i j))

/-- The gradients of both gates, side by side as the projection has them. -/
def dGates (dx : Mat 8192 1024) (proj : Mat 8192 7168) (wout : Mat 1024 1024) (mb : Mat 2 1024) (a b : Mat 8192 1024) (wa wb : Mat 1024 1024) :
    Mat 8192 2048 := fun i =>
  if h : (i 1).val < 1024 then dGate dx proj wout mb a wa 0 (i 0) ⟨(i 1).val, h⟩
  else dGate dx proj wout mb b wb 1 (i 0) ⟨(i 1).val - 1024, by have := (i 1).isLt; simp at this; omega⟩

/-- The gradient of the gates' biases: every token's gate gradient, summed. -/
def dBias (dx : Mat 8192 1024) (proj : Mat 8192 7168) (wout : Mat 1024 1024) (mb : Mat 2 1024) (a b : Mat 8192 1024) (wa wb : Mat 1024 1024) :
    Mat 2 1024 := fun j =>
  ∑ i : Fin 8192, if (j 0).val = 0 then dGate dx proj wout mb a wa 0 i (j 1) else dGate dx proj wout mb b wb 1 i (j 1)

/-- A sum over tokens is the sum over the blocks of tokens of each block's sum. -/
theorem sum_blocks (f : Fin 8192 → EReal) :
    ∑ i, f i = ∑ s : Fin 16, ∑ i : Fin 512, f ⟨512 * s.val + i.val, by omega⟩ := by
  rw [← Fintype.sum_prod_type' (f := fun (s : Fin 16) (i : Fin 512) => f ⟨512 * s.val + i.val, by omega⟩)]
  refine (Fintype.sum_equiv (finProdFinEquiv (m := 16) (n := 512)) _ _ fun p => ?_).symm
  congr 1
  apply Fin.ext
  simp [finProdFinEquiv]
  omega

end Cert.Merge

end
-- ==== Proof.MixForward.lean ====
/-
  The merge's forward pass: the two branches' products, their gated sum, the residual and its root-mean-square norm, as formulas over the whole arrays,
  and that the kernel's blocks are those of the formulas.
-/
module

public import proofs.«01_k».proof.Proof.Products
public import proofs.«01_k».proof.Proof.MixSpec
public import proofs.«01_k».proof.Proof.Gen.Kernel7Ideal.Value

@[expose] public section

set_option maxRecDepth 16384

noncomputable section

namespace Cert.MixForward

open Idealize.ShloMosaic Cert.Products Cert.Merge

variable (a b : Products.Mat 8192 1024) (p : Products.Mat 8192 7168) (mb : Products.Mat 2 1024) (wa wb wout : Products.Mat 1024 1024)

/-- The two branches' outputs, each times its gate, added. -/
def mixed : Products.Mat 8192 1024 := fun i => gate p mb 0 (i 0) (i 1) * nn a wa i + gate p mb 1 (i 0) (i 1) * nn b wb i
/-- The layer's input and the mixed branches through the output weights. -/
def residual (x : Products.Mat 8192 1024) : Products.Mat 8192 1024 := fun i => x i + nn (mixed a b p mb wa wb) wout i
/-- The root-mean-square norm: a row over the root of the mean of its squares, times a weight by channel. The two words are the mean's 1024 and the small number added to it. -/
def rms (r : Products.Mat 8192 1024) (w : Products.Mat 1 1024) : Products.Mat 8192 1024 := fun i =>
  r i * Ideal.rsqrt (Ideal.div (∑ l : Fin 1024, r (ix2 (i 0) l) * r (ix2 (i 0) l)) (Ideal.ofBits .f32 0x44800000#32) + Ideal.ofBits .f32 0x358637BD#32) * w (ix2 0 (i 1))

end Cert.MixForward

namespace Cert.Kernel7Ideal.MixForward

open Idealize.ShloMosaic Idealize.ShloMosaic.TcCoe Idealize.ShloMosaic.StableHlo Idealize.SL.Sem Cert.Kernel7Ideal Cert.Kernel7Ideal.Gen Cert.Products Cert.MixForward
open Cert.Merge (gate)
open Idealize.ShloMosaic.Pipeline (Dat)
open Idealize.ShloMosaic.Pipeline.Window (rect_emb_val)

/-! ## A point's blocks -/

/-- A row of the biases, as the kernel loads it. -/
theorem load_row0 (mb : Vec Ideal S2x1024 .f32) (j : Fin 1024) : View.ld mb r0_2 (ix2 0 j) = mb (ix2 0 j) := by
  unfold r0_2
  rw [View.ld_unit]
  pointwise []
theorem load_row1 (mb : Vec Ideal S2x1024 .f32) (j : Fin 1024) : View.ld mb r0_3 (ix2 0 j) = mb (ix2 1 j) := by
  unfold r0_3
  rw [View.ld_unit]
  pointwise []

section Point
variable (x0 x1 x2 x3 : Vec Ideal S512x1024 .bf16) (x4 : Vec Ideal S512x1024 .f32) (x5 x6 x7 : Vec Ideal S1024x1024 .bf16) (x8 : Vec Ideal S2x1024 .f32) (x9 : Vec Ideal S1x1024 .f32)

/-- The five results, each as the kernel computes it from the point's blocks. -/
def mixBlock : FVec Ideal S512x1024 .bf16 := k0_pay1 (k0_pay4 x0 x5) (k0_pay5 x1 x6) (k0_pay8 x2 (View.ld x8 r0_2)) (k0_pay9 x3) (k0_pay10 (View.ld x8 r0_3))
def resBlock : FVec Ideal S512x1024 .f32 := k0_pay2 (k0_pay4 x0 x5) (k0_pay5 x1 x6) (k0_pay8 x2 (View.ld x8 r0_2)) (k0_pay9 x3) (k0_pay10 (View.ld x8 r0_3)) x4 x7
def normBlock : FVec Ideal S512x1024 .bf16 := k0_pay3 (k0_pay4 x0 x5) (k0_pay5 x1 x6) (k0_pay8 x2 (View.ld x8 r0_2)) (k0_pay9 x3) (k0_pay10 (View.ld x8 r0_3)) x4 x7 x9

theorem out_residual : out0_10 x0 x1 x2 x3 x4 x5 x6 x7 x8 x9 = resBlock x0 x1 x2 x3 x4 x5 x6 x7 x8 := by
  unfold_out out0_10
  unfold r0_0 r0_1 resBlock
  rw [View.canon_unit_zero zeros]
  simp only [View.ld_unit_zero (S := S512x1024) zeros, View.ld_unit_zero (S := S1024x1024) zeros]
theorem out_mixed : out0_11 x0 x1 x2 x3 x4 x5 x6 x7 x8 x9 = mixBlock x0 x1 x2 x3 x5 x6 x8 := by
  unfold_out out0_11
  unfold r0_0 r0_1 mixBlock
  rw [View.canon_unit_zero zeros]
  simp only [View.ld_unit_zero (S := S512x1024) zeros, View.ld_unit_zero (S := S1024x1024) zeros]
theorem out_norm : out0_12 x0 x1 x2 x3 x4 x5 x6 x7 x8 x9 = normBlock x0 x1 x2 x3 x4 x5 x6 x7 x8 x9 := by
  unfold_out out0_12
  unfold r0_0 r0_1 r0_4 normBlock
  rw [View.canon_unit_zero zeros]
  simp only [View.ld_unit_zero (S := S512x1024) zeros, View.ld_unit_zero (S := S1024x1024) zeros, View.ld_unit_zero (S := S1x1024) zeros]
theorem out_first : out0_13 x0 x1 x2 x3 x4 x5 x6 x7 x8 x9 = k0_pay6 x0 x5 := by
  unfold_out out0_13
  unfold r0_0 r0_1
  rw [View.canon_unit_zero zeros]
  simp only [View.ld_unit_zero (S := S512x1024) zeros, View.ld_unit_zero (S := S1024x1024) zeros]
theorem out_second : out0_14 x0 x1 x2 x3 x4 x5 x6 x7 x8 x9 = k0_pay7 x1 x6 := by
  unfold_out out0_14
  unfold r0_0 r0_1
  rw [View.canon_unit_zero zeros]
  simp only [View.ld_unit_zero (S := S512x1024) zeros, View.ld_unit_zero (S := S1024x1024) zeros]

/-! Each payload at an element of the block. -/

variable (i : Fin 512) (j : Fin 1024)

theorem first_at : k0_pay4 x0 x5 (ix2 i j) = ∑ l : Fin 1024, (x0 (ix2 i l) : EReal) * x5 (ix2 l j) := by
  pointwise [k0_pay4]
theorem second_at : k0_pay5 x1 x6 (ix2 i j) = ∑ l : Fin 1024, (x1 (ix2 i l) : EReal) * x6 (ix2 l j) := by
  pointwise [k0_pay5]
theorem gate_at (r : Vec Ideal S1x1024 .f32) : k0_pay8 x2 r (ix2 i j) = Ideal.logistic (x2 (ix2 i j) + r (ix2 0 j)) := by
  pointwise [k0_pay8, Merge.half_word]
  exact Merge.half_tanh _
theorem gated_at (v4 v9 v26 v29 v31 : FVec Ideal S512x1024 .f32) :
    k0_pay1 v4 v9 v26 v29 v31 (ix2 i j) = v26 (ix2 i j) * v4 (ix2 i j) + Ideal.logistic (v29 (ix2 i j) + v31 (ix2 i j)) * v9 (ix2 i j) := by
  pointwise [k0_pay1, Merge.half_word]
  rw [Merge.half_tanh]
theorem widen_at : k0_pay9 x3 (ix2 i j) = x3 (ix2 i j) := by
  pointwise [k0_pay9]
theorem spread_at (r : Vec Ideal S1x1024 .f32) : k0_pay10 r (ix2 i j) = r (ix2 0 j) := by
  pointwise [k0_pay10]

theorem through_at (v4 v9 v26 v29 v31 : FVec Ideal S512x1024 .f32) :
    k0_pay2 v4 v9 v26 v29 v31 x4 x7 (ix2 i j) = x4 (ix2 i j) + ∑ l : Fin 1024, (k0_pay1 v4 v9 v26 v29 v31 (ix2 i l) : EReal) * x7 (ix2 l j) := by
  unfold k0_pay2
  generalize k0_pay1 v4 v9 v26 v29 v31 = u
  pointwise []
theorem normed_at (v4 v9 v26 v29 v31 : FVec Ideal S512x1024 .f32) (r : FVec Ideal S512x1024 .f32) (h : k0_pay2 v4 v9 v26 v29 v31 x4 x7 = r) :
    k0_pay3 v4 v9 v26 v29 v31 x4 x7 x9 (ix2 i j) = r (ix2 i j) * Ideal.rsqrt (Ideal.div (∑ l : Fin 1024, r (ix2 i l) * r (ix2 i l))
      (Ideal.ofBits .f32 0x44800000#32) + Ideal.ofBits .f32 0x358637BD#32) * x9 (ix2 0 j) := by
  unfold k0_pay3
  rw [h]
  pointwise []

/-! The same where row `i` of the blocks is row `I` of the whole arrays. -/

variable (a b x : Products.Mat 8192 1024) (p : Products.Mat 8192 7168) (I : Fin 8192)
variable (ha : ∀ l : Fin 1024, (x0 (ix2 i l) : EReal) = a (ix2 I l)) (hb : ∀ l : Fin 1024, (x1 (ix2 i l) : EReal) = b (ix2 I l))
variable (hr : ∀ l : Fin 1024, (x2 (ix2 i l) : EReal) = p (ix2 I ⟨5120 + 1024 * (0 : Fin 2).val + l.val, by omega⟩))
variable (hl : ∀ l : Fin 1024, (x3 (ix2 i l) : EReal) = p (ix2 I ⟨5120 + 1024 * (1 : Fin 2).val + l.val, by omega⟩))
variable (hx : ∀ l : Fin 1024, (x4 (ix2 i l) : EReal) = x (ix2 I l))

include ha in
theorem first : k0_pay4 x0 x5 (ix2 i j) = nn a x5 (ix2 I j) :=
  (first_at x0 x5 i j).trans (Finset.sum_congr rfl fun l _ => congrArg (· * x5 (ix2 l j)) (ha l))
include hb in
theorem second : k0_pay5 x1 x6 (ix2 i j) = nn b x6 (ix2 I j) :=
  (second_at x1 x6 i j).trans (Finset.sum_congr rfl fun l _ => congrArg (· * x6 (ix2 l j)) (hb l))
include ha hb hr hl in
theorem mix_value : mixBlock x0 x1 x2 x3 x5 x6 x8 (ix2 i j) = mixed a b p x8 x5 x6 (ix2 I j) := by
  unfold mixBlock
  rw [gated_at, gate_at, widen_at, spread_at, load_row0, load_row1, first x0 x5 i j a I ha, second x1 x6 i j b I hb, hr, hl]
  rfl
include ha hb hr hl hx in
theorem res_value : resBlock x0 x1 x2 x3 x4 x5 x6 x7 x8 (ix2 i j) = residual a b p x8 x5 x6 x7 x (ix2 I j) := by
  refine (through_at x4 x7 i j _ _ _ _ _).trans ?_
  rw [hx]
  exact congrArg (x (ix2 I j) + ·) (Finset.sum_congr rfl fun l _ => congrArg (· * x7 (ix2 l j)) (mix_value x0 x1 x2 x3 x5 x6 x8 i l a b p I ha hb hr hl))
include ha hb hr hl hx in
theorem norm_value : normBlock x0 x1 x2 x3 x4 x5 x6 x7 x8 x9 (ix2 i j) = rms (residual a b p x8 x5 x6 x7 x) x9 (ix2 I j) := by
  refine (normed_at x4 x7 x9 i j _ _ _ _ _ (resBlock x0 x1 x2 x3 x4 x5 x6 x7 x8) rfl).trans ?_
  simp only [fun l => res_value x0 x1 x2 x3 x4 x5 x6 x7 x8 i l a b x p I ha hb hr hl hx]
  rfl
end Point

/-! ## The whole arrays -/

variable (m : (ℓ : Loc nD τ sig) → Buf (Elt Ideal) ℓ) (c : Dev nD)

/-- The arguments as launched. -/
abbrev aIn : Products.Mat 8192 1024 := m ((c : Thread nD τ).loc main_arg0)
abbrev bIn : Products.Mat 8192 1024 := m ((c : Thread nD τ).loc main_arg1)
abbrev proj : Products.Mat 8192 7168 := m ((c : Thread nD τ).loc main_arg2)
abbrev xIn : Products.Mat 8192 1024 := m ((c : Thread nD τ).loc main_arg3)
abbrev wA : Products.Mat 1024 1024 := m ((c : Thread nD τ).loc main_arg4)
abbrev wB : Products.Mat 1024 1024 := m ((c : Thread nD τ).loc main_arg5)
abbrev wOut : Products.Mat 1024 1024 := m ((c : Thread nD τ).loc main_arg6)
abbrev bias : Products.Mat 2 1024 := m ((c : Thread nD τ).loc main_arg7)
abbrev scale : Products.Mat 1 1024 := m ((c : Thread nD τ).loc main_arg8)

/-- The host's casts leave them as they are. -/
theorem host_reads : ((V m c main_v0 : Products.Mat 8192 1024) = aIn m c ∧ (V m c main_v1 : Products.Mat 8192 1024) = bIn m c ∧ (V m c main_v2 : Products.Mat 8192 7168) = proj m c)
    ∧ (V m c main_v3 : Products.Mat 1024 1024) = wA m c ∧ (V m c main_v4 : Products.Mat 1024 1024) = wB m c ∧ (V m c main_v5 : Products.Mat 1024 1024) = wOut m c := by
  unfold V
  unfold hostOps0
  refine ⟨⟨?_, ?_, ?_⟩, ?_, ?_, ?_⟩ <;> (after_results_simp <;> rfl)

/-- A point takes its 512 rows of the tokens' arrays, the two gates' columns of the projection, and the whole of the rest. -/
theorem rows : ∀ t : Fin cfg0.N, win0_0.index t 0 = t.val ∧ win0_1.index t 0 = t.val ∧ win0_2.index t 0 = t.val ∧ win0_3.index t 0 = t.val ∧ win0_4.index t 0 = t.val
    ∧ win0_10.index t 0 = t.val ∧ win0_11.index t 0 = t.val ∧ win0_12.index t 0 = t.val ∧ win0_13.index t 0 = t.val ∧ win0_14.index t 0 = t.val ∧ t.val < 16 := by
  decide +kernel
theorem cols : ∀ t : Fin cfg0.N, win0_0.index t 1 = 0 ∧ win0_1.index t 1 = 0 ∧ win0_2.index t 1 = 5 ∧ win0_3.index t 1 = 6 ∧ win0_4.index t 1 = 0
    ∧ win0_10.index t 1 = 0 ∧ win0_11.index t 1 = 0 ∧ win0_12.index t 1 = 0 ∧ win0_13.index t 1 = 0 ∧ win0_14.index t 1 = 0 := by
  decide +kernel
theorem whole : ∀ t : Fin cfg0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) := by
  decide +kernel

section Blocks
variable (t : Fin cfg0.N) (i : Fin 512) (I : Fin 8192) (hI : t.val * 512 + i.val = I.val) (l : Fin 1024)

include hI in
theorem a_at : (iblk m c 0 t : Vec Ideal S512x1024 .bf16) (ix2 i l) = aIn m c (ix2 I l) := by
  rw [← (host_reads m c).1.1]
  exact at_coords (V m c main_v0) _ I l ((rect_emb_val win0_0 t (ix2 i l) 0).trans ((congrArg (· * 512 + i.val) (rows t).1).trans hI))
    ((rect_emb_val win0_0 t (ix2 i l) 1).trans (from_zero (cols t).1 _ _))
include hI in
theorem b_at : (iblk m c 1 t : Vec Ideal S512x1024 .bf16) (ix2 i l) = bIn m c (ix2 I l) := by
  rw [← (host_reads m c).1.2.1]
  exact at_coords (V m c main_v1) _ I l ((rect_emb_val win0_1 t (ix2 i l) 0).trans ((congrArg (· * 512 + i.val) (rows t).2.1).trans hI))
    ((rect_emb_val win0_1 t (ix2 i l) 1).trans (from_zero (cols t).2.1 _ _))
theorem gate_cols {k s : ℕ} (r : Fin 2) (h : k = 5 + r.val) (hs : s = 1024) : k * s + l.val = 5120 + 1024 * r.val + l.val := by
  subst h hs; omega
include hI in
theorem r_at : (iblk m c 2 t : Vec Ideal S512x1024 .bf16) (ix2 i l) = proj m c (ix2 I ⟨5120 + 1024 * (0 : Fin 2).val + l.val, by omega⟩) := by
  rw [← (host_reads m c).1.2.2]
  exact at_coords (V m c main_v2) _ I _ ((rect_emb_val win0_2 t (ix2 i l) 0).trans ((congrArg (· * 512 + i.val) (rows t).2.2.1).trans hI))
    ((rect_emb_val win0_2 t (ix2 i l) 1).trans (gate_cols l 0 (cols t).2.2.1 rfl))
include hI in
theorem l_at : (iblk m c 3 t : Vec Ideal S512x1024 .bf16) (ix2 i l) = proj m c (ix2 I ⟨5120 + 1024 * (1 : Fin 2).val + l.val, by omega⟩) := by
  rw [← (host_reads m c).1.2.2]
  exact at_coords (V m c main_v2) _ I _ ((rect_emb_val win0_3 t (ix2 i l) 0).trans ((congrArg (· * 512 + i.val) (rows t).2.2.2.1).trans hI))
    ((rect_emb_val win0_3 t (ix2 i l) 1).trans (gate_cols l 1 (cols t).2.2.2.1 rfl))
include hI in
theorem x_at : (iblk m c 4 t : Vec Ideal S512x1024 .f32) (ix2 i l) = xIn m c (ix2 I l) := by
  have e : (V m c main_arg3 : Products.Mat 8192 1024) = xIn m c := V_main_arg3 m c
  rw [← e]
  exact at_coords (V m c main_arg3) _ I l ((rect_emb_val win0_4 t (ix2 i l) 0).trans ((congrArg (· * 512 + i.val) (rows t).2.2.2.2.1).trans hI))
    ((rect_emb_val win0_4 t (ix2 i l) 1).trans (from_zero (cols t).2.2.2.2.1 _ _))
end Blocks
theorem wA_block (t : Fin cfg0.N) : (iblk m c 5 t : Vec Ideal S1024x1024 .bf16) = wA m c := by
  funext y
  obtain ⟨i, j, rfl⟩ : ∃ (i : Fin 1024) (j : Fin 1024), y = ix2 i j := ⟨y 0, y 1, eq_ix2 y⟩
  rw [← (host_reads m c).2.1]
  exact at_coords (V m c main_v3) _ i j ((rect_emb_val win0_5 t (ix2 i j) 0).trans (from_zero (whole t).1.1 _ _)) ((rect_emb_val win0_5 t (ix2 i j) 1).trans (from_zero (whole t).1.2 _ _))
theorem wB_block (t : Fin cfg0.N) : (iblk m c 6 t : Vec Ideal S1024x1024 .bf16) = wB m c := by
  funext y
  obtain ⟨i, j, rfl⟩ : ∃ (i : Fin 1024) (j : Fin 1024), y = ix2 i j := ⟨y 0, y 1, eq_ix2 y⟩
  rw [← (host_reads m c).2.2.1]
  exact at_coords (V m c main_v4) _ i j ((rect_emb_val win0_6 t (ix2 i j) 0).trans (from_zero (whole t).2.1.1 _ _)) ((rect_emb_val win0_6 t (ix2 i j) 1).trans (from_zero (whole t).2.1.2 _ _))
theorem wOut_block (t : Fin cfg0.N) : (iblk m c 7 t : Vec Ideal S1024x1024 .bf16) = wOut m c := by
  funext y
  obtain ⟨i, j, rfl⟩ : ∃ (i : Fin 1024) (j : Fin 1024), y = ix2 i j := ⟨y 0, y 1, eq_ix2 y⟩
  rw [← (host_reads m c).2.2.2]
  exact at_coords (V m c main_v5) _ i j ((rect_emb_val win0_7 t (ix2 i j) 0).trans (from_zero (whole t).2.2.1.1 _ _)) ((rect_emb_val win0_7 t (ix2 i j) 1).trans (from_zero (whole t).2.2.1.2 _ _))
theorem bias_block (t : Fin cfg0.N) : (iblk m c 8 t : Vec Ideal S2x1024 .f32) = bias m c := by
  funext y
  obtain ⟨i, j, rfl⟩ : ∃ (i : Fin 2) (j : Fin 1024), y = ix2 i j := ⟨y 0, y 1, eq_ix2 y⟩
  have e : (V m c main_arg7 : Products.Mat 2 1024) = bias m c := V_main_arg7 m c
  rw [← e]
  exact at_coords (V m c main_arg7) _ i j ((rect_emb_val win0_8 t (ix2 i j) 0).trans (from_zero (whole t).2.2.2.1.1 _ _)) ((rect_emb_val win0_8 t (ix2 i j) 1).trans (from_zero (whole t).2.2.2.1.2 _ _))
theorem scale_block (t : Fin cfg0.N) : (iblk m c 9 t : Vec Ideal S1x1024 .f32) = scale m c := by
  funext y
  obtain ⟨i, j, rfl⟩ : ∃ (i : Fin 1) (j : Fin 1024), y = ix2 i j := ⟨y 0, y 1, eq_ix2 y⟩
  have e : (V m c main_arg8 : Products.Mat 1 1024) = scale m c := V_main_arg8 m c
  rw [← e]
  exact at_coords (V m c main_arg8) _ i j ((rect_emb_val win0_9 t (ix2 i j) 0).trans (from_zero (whole t).2.2.2.2.1 _ _)) ((rect_emb_val win0_9 t (ix2 i j) 1).trans (from_zero (whole t).2.2.2.2.2 _ _))

/-- The five results' arrays after the run. -/
abbrev residualOf : Products.Mat 8192 1024 := residual (aIn m c) (bIn m c) (proj m c) (bias m c) (wA m c) (wB m c) (wOut m c) (xIn m c)
abbrev mixedOf : Products.Mat 8192 1024 := mixed (aIn m c) (bIn m c) (proj m c) (bias m c) (wA m c) (wB m c)

theorem final_residual : ((dats m 0 c).arrAt 10 cfg0.N : Products.Mat 8192 1024) = residualOf m c := by
  refine (dats m 0 c).arrAt_eq_of_covers 10 _ (by decide +kernel) fun t hf y => ?_
  blk_simp
  obtain ⟨i, j, rfl⟩ : ∃ (i : Fin 512) (j : Fin 1024), y = ix2 i j := ⟨y 0, y 1, eq_ix2 y⟩
  obtain ⟨-, -, -, -, -, e10, e11, e12, e13, e14, ht⟩ := rows t
  obtain ⟨-, -, -, -, -, k10, k11, k12, k13, k14⟩ := cols t
  obtain ⟨I, hI⟩ : ∃ I : Fin 8192, t.val * 512 + i.val = I.val := ⟨⟨_, by omega⟩, rfl⟩
  refine Eq.trans ?_ (at_coords (residualOf m c) _ I j ((rect_emb_val win0_10 t (ix2 i j) 0).trans ((congrArg (· * 512 + i.val) e10).trans hI)) ((rect_emb_val win0_10 t (ix2 i j) 1).trans (from_zero k10 _ _))).symm
  rw [after0_10, out_residual, wA_block, wB_block, wOut_block, bias_block]
  exact res_value _ _ _ _ _ _ _ _ _ i j _ _ _ _ I (a_at m c t i I hI) (b_at m c t i I hI) (r_at m c t i I hI) (l_at m c t i I hI) (x_at m c t i I hI)
theorem final_mixed : ((dats m 0 c).arrAt 11 cfg0.N : Products.Mat 8192 1024) = mixedOf m c := by
  refine (dats m 0 c).arrAt_eq_of_covers 11 _ (by decide +kernel) fun t hf y => ?_
  blk_simp
  obtain ⟨i, j, rfl⟩ : ∃ (i : Fin 512) (j : Fin 1024), y = ix2 i j := ⟨y 0, y 1, eq_ix2 y⟩
  obtain ⟨-, -, -, -, -, e10, e11, e12, e13, e14, ht⟩ := rows t
  obtain ⟨-, -, -, -, -, k10, k11, k12, k13, k14⟩ := cols t
  obtain ⟨I, hI⟩ : ∃ I : Fin 8192, t.val * 512 + i.val = I.val := ⟨⟨_, by omega⟩, rfl⟩
  refine Eq.trans ?_ (at_coords (mixedOf m c) _ I j ((rect_emb_val win0_11 t (ix2 i j) 0).trans ((congrArg (· * 512 + i.val) e11).trans hI)) ((rect_emb_val win0_11 t (ix2 i j) 1).trans (from_zero k11 _ _))).symm
  rw [after0_11, out_mixed, wA_block, wB_block, bias_block]
  exact mix_value _ _ _ _ _ _ _ i j _ _ _ I (a_at m c t i I hI) (b_at m c t i I hI) (r_at m c t i I hI) (l_at m c t i I hI)
theorem final_norm : ((dats m 0 c).arrAt 12 cfg0.N : Products.Mat 8192 1024) = rms (residualOf m c) (scale m c) := by
  refine (dats m 0 c).arrAt_eq_of_covers 12 _ (by decide +kernel) fun t hf y => ?_
  blk_simp
  obtain ⟨i, j, rfl⟩ : ∃ (i : Fin 512) (j : Fin 1024), y = ix2 i j := ⟨y 0, y 1, eq_ix2 y⟩
  obtain ⟨-, -, -, -, -, e10, e11, e12, e13, e14, ht⟩ := rows t
  obtain ⟨-, -, -, -, -, k10, k11, k12, k13, k14⟩ := cols t
  obtain ⟨I, hI⟩ : ∃ I : Fin 8192, t.val * 512 + i.val = I.val := ⟨⟨_, by omega⟩, rfl⟩
  refine Eq.trans ?_ (at_coords (rms (residualOf m c) (scale m c)) _ I j ((rect_emb_val win0_12 t (ix2 i j) 0).trans ((congrArg (· * 512 + i.val) e12).trans hI)) ((rect_emb_val win0_12 t (ix2 i j) 1).trans (from_zero k12 _ _))).symm
  rw [after0_12, out_norm, wA_block, wB_block, wOut_block, bias_block, scale_block]
  exact norm_value _ _ _ _ _ _ _ _ _ _ i j _ _ _ _ I (a_at m c t i I hI) (b_at m c t i I hI) (r_at m c t i I hI) (l_at m c t i I hI) (x_at m c t i I hI)
theorem final_first : ((dats m 0 c).arrAt 13 cfg0.N : Products.Mat 8192 1024) = nn (aIn m c) (wA m c) := by
  refine (dats m 0 c).arrAt_eq_of_covers 13 _ (by decide +kernel) fun t hf y => ?_
  blk_simp
  obtain ⟨i, j, rfl⟩ : ∃ (i : Fin 512) (j : Fin 1024), y = ix2 i j := ⟨y 0, y 1, eq_ix2 y⟩
  obtain ⟨-, -, -, -, -, e10, e11, e12, e13, e14, ht⟩ := rows t
  obtain ⟨-, -, -, -, -, k10, k11, k12, k13, k14⟩ := cols t
  obtain ⟨I, hI⟩ : ∃ I : Fin 8192, t.val * 512 + i.val = I.val := ⟨⟨_, by omega⟩, rfl⟩
  refine Eq.trans ?_ (at_coords (nn (aIn m c) (wA m c)) _ I j ((rect_emb_val win0_13 t (ix2 i j) 0).trans ((congrArg (· * 512 + i.val) e13).trans hI)) ((rect_emb_val win0_13 t (ix2 i j) 1).trans (from_zero k13 _ _))).symm
  rw [after0_13, out_first, wA_block]
  exact first _ _ i j _ I (a_at m c t i I hI)
theorem final_second : ((dats m 0 c).arrAt 14 cfg0.N : Products.Mat 8192 1024) = nn (bIn m c) (wB m c) := by
  refine (dats m 0 c).arrAt_eq_of_covers 14 _ (by decide +kernel) fun t hf y => ?_
  blk_simp
  obtain ⟨i, j, rfl⟩ : ∃ (i : Fin 512) (j : Fin 1024), y = ix2 i j := ⟨y 0, y 1, eq_ix2 y⟩
  obtain ⟨-, -, -, -, -, e10, e11, e12, e13, e14, ht⟩ := rows t
  obtain ⟨-, -, -, -, -, k10, k11, k12, k13, k14⟩ := cols t
  obtain ⟨I, hI⟩ : ∃ I : Fin 8192, t.val * 512 + i.val = I.val := ⟨⟨_, by omega⟩, rfl⟩
  refine Eq.trans ?_ (at_coords (nn (bIn m c) (wB m c)) _ I j ((rect_emb_val win0_14 t (ix2 i j) 0).trans ((congrArg (· * 512 + i.val) e14).trans hI)) ((rect_emb_val win0_14 t (ix2 i j) 1).trans (from_zero k14 _ _))).symm
  rw [after0_14, out_second, wB_block]
  exact second _ _ i j _ I (b_at m c t i I hI)

/-- From any memory the kernel ends with the five results, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v6_0) = residualOf m c
      ∧ r.2.mem ((c : Thread nD τ).loc main_v6_1) = mixedOf m c
      ∧ r.2.mem ((c : Thread nD τ).loc main_v6_2) = rms (residualOf m c) (scale m c)
      ∧ r.2.mem ((c : Thread nD τ).loc main_v6_3) = nn (aIn m c) (wA m c)
      ∧ r.2.mem ((c : Thread nD τ).loc main_v6_4) = nn (bIn m c) (wB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h c).1.trans (final_residual m c), (h c).2.1.trans (final_mixed m c), (h c).2.2.1.trans (final_norm m c),
    (h c).2.2.2.1.trans (final_first m c), (h c).2.2.2.2.1.trans (final_second m c), (h c).2.2.2.2.2⟩) (Value.run_blocks m ρ)

end Cert.Kernel7Ideal.MixForward

end
-- ==== Proof.MixForwardRef.lean ====
/-
  The merge's forward pass: the reference's five results over the extended reals are the formulas of Proof/MixForward.lean.
-/
module

public import proofs.«01_k».proof.Proof.MixForward
public import proofs.«01_k».proof.Proof.Gen.Reference7Ideal.Run

@[expose] public section

set_option maxRecDepth 16384

noncomputable section

namespace Cert.Reference7Ideal.MixForward

open Idealize.ShloMosaic Idealize.ShloMosaic.TcCoe Idealize.ShloMosaic.StableHlo Idealize.SL.Sem Cert.Reference7Ideal Cert.Reference7Ideal.Gen Cert.Products Cert.MixForward

/-! ## The reference's lines, each as it writes them -/

/-- The logistic function, written with an exponential. -/
def sigmoid (x : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf x)))
/-- What the two gates are the logistic function of. -/
def pre0 (p : FVec Ideal S8192x7168 .f32) (mb : FVec Ideal S2x1024 .f32) : FVec Ideal S8192x1024 .f32 :=
  addf (extractStridedSlice S8192x1024 ![0, 5120] p slices_S8192x7168_S8192x1024_0_5120)
    (broadcastInDim S8192x1024 ![0, 1] bcast_S1x1024_S8192x1024_0_1 (broadcastInDim S1x1024 ![1] bcast_S1024_S1x1024_1
      (shapeCast _ (extractStridedSlice S1x1024 ![0, 0] mb slices_S2x1024_S1x1024_0_0) shapeCasts_S1x1024_S1024)))
def pre1 (p : FVec Ideal S8192x7168 .f32) (mb : FVec Ideal S2x1024 .f32) : FVec Ideal S8192x1024 .f32 :=
  addf (extractStridedSlice S8192x1024 ![0, 6144] p slices_S8192x7168_S8192x1024_0_6144)
    (broadcastInDim S8192x1024 ![0, 1] bcast_S1x1024_S8192x1024_0_1 (broadcastInDim S1x1024 ![1] bcast_S1024_S1x1024_1
      (shapeCast _ (extractStridedSlice S1x1024 ![1, 0] mb slices_S2x1024_S1x1024_1_0) shapeCasts_S1x1024_S1024)))
/-- A product with a weight. -/
def through (x : FVec Ideal S8192x1024 .f32) (w : FVec Ideal S1024x1024 .f32) : FVec Ideal S8192x1024 .f32 :=
  Host.dotGeneral dot_S8192x1024_S1024x1024_S8192x1024_1_0_0_1_n_n none x w

section
variable (a b x : FVec Ideal S8192x1024 .f32) (p : FVec Ideal S8192x7168 .f32) (wa wb wout : FVec Ideal S1024x1024 .f32) (mb : FVec Ideal S2x1024 .f32) (w : FVec Ideal S1x1024 .f32)

/-- The mixed branches, and the residual. -/
def mix : FVec Ideal S8192x1024 .f32 := addf (mulf (sigmoid (pre0 p mb)) (through a wa)) (mulf (sigmoid (pre1 p mb)) (through b wb))
def res : FVec Ideal S8192x1024 .f32 := addf x (through (mix a b p wa wb mb) wout)

/-! ## Each of them, at an element -/

theorem sigmoid_at (i : Fin 8192) (j : Fin 1024) : sigmoid x (ix2 i j) = Ideal.logistic (x (ix2 i j)) := by
  pointwise [sigmoid]
  rfl
theorem pre0_at (i : Fin 8192) (j : Fin 1024) : pre0 p mb (ix2 i j) = p (ix2 i ⟨5120 + 1024 * (0 : Fin 2).val + j.val, by omega⟩) + mb (ix2 0 j) := by
  pointwise [pre0]
theorem pre1_at (i : Fin 8192) (j : Fin 1024) : pre1 p mb (ix2 i j) = p (ix2 i ⟨5120 + 1024 * (1 : Fin 2).val + j.val, by omega⟩) + mb (ix2 1 j) := by
  refine Eq.trans (b := p (ix2 i ⟨6144 + j.val, by omega⟩) + mb (ix2 1 j)) ?_ ?_
  · pointwise [pre1]
  · exact congrArg (fun k => p (ix2 i k) + mb (ix2 1 j)) (Fin.ext (by simp))
theorem through_eq : through a wa = nn a wa := by
  funext y
  obtain ⟨i, j, rfl⟩ : ∃ (i : Fin 8192) (j : Fin 1024), y = ix2 i j := ⟨y 0, y 1, eq_ix2 y⟩
  pointwise [through, nn]

/-! ## The results -/

theorem mix_eq : mix a b p wa wb mb = mixed a b p mb wa wb := by
  funext y
  obtain ⟨i, j, rfl⟩ : ∃ (i : Fin 8192) (j : Fin 1024), y = ix2 i j := ⟨y 0, y 1, eq_ix2 y⟩
  show sigmoid _ (ix2 i j) * through a wa (ix2 i j) + sigmoid _ (ix2 i j) * through b wb (ix2 i j) = _
  rw [sigmoid_at, sigmoid_at, pre0_at, pre1_at, through_eq, through_eq]; rfl
theorem res_eq : res a b x p wa wb wout mb = residual a b p mb wa wb wout x := by
  funext y
  show x y + through (mix a b p wa wb mb) wout y = _
  rw [through_eq, mix_eq]; rfl
/-- The root-mean-square norm, as the reference writes it. -/
def norm : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 w)
theorem norm_eq : norm x w = rms x w := by
  funext y
  obtain ⟨i, j, rfl⟩ : ∃ (i : Fin 8192) (j : Fin 1024), y = ix2 i j := ⟨y 0, y 1, eq_ix2 y⟩
  pointwise [norm, rms]
end

/-- From any memory the reference ends with the five results. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      let x k := m ((c.tc : Thread nD τ).loc k)
      let u := residual (x main_arg0) (x main_arg1) (x main_arg2) (x main_arg7) (x main_arg4) (x main_arg5) (x main_arg6) (x main_arg3)
      r.2.mem ((c.tc : Thread nD τ).loc main_v30) = u
      ∧ r.2.mem ((c.tc : Thread nD τ).loc main_v43) = mixed (x main_arg0) (x main_arg1) (x main_arg2) (x main_arg7) (x main_arg4) (x main_arg5)
      ∧ r.2.mem ((c.tc : Thread nD τ).loc main_v44) = rms u (x main_arg8)
      ∧ r.2.mem ((c.tc : Thread nD τ).loc main_v45) = nn (x main_arg0) (x main_arg4)
      ∧ r.2.mem ((c.tc : Thread nD τ).loc main_v46) = nn (x main_arg1) (x main_arg5)) :=
  (θ_run defs _ _).mono (fun r h c => ⟨(h c).1.trans (res_eq (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))), (h c).2.1.trans (mix_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg7))),
      (h c).2.2.1.trans ((show Value.res_main_v44 m c = norm (res (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) from rfl).trans (by rw [res_eq, norm_eq])),
      (h c).2.2.2.1.trans (through_eq _ _), (h c).2.2.2.2.1.trans (through_eq _ _)⟩)
    (Value.run (F := Ideal) m ρ)

end Cert.Reference7Ideal.MixForward

end
-- ==== Proof.ProjForward.lean ====
/-
  The combined projection: the kernel's blocks are those of the one product.
-/
module

public import proofs.«01_k».proof.Proof.Products
public import proofs.«01_k».proof.Proof.Gen.Kernel8Ideal.Value
public import proofs.«01_k».proof.Proof.Gen.Reference8Ideal.Run

@[expose] public section

noncomputable section

namespace Cert.Kernel8Ideal.ProjForward

open Idealize.ShloMosaic Idealize.ShloMosaic.TcCoe Idealize.ShloMosaic.StableHlo Idealize.SL.Sem Cert.Kernel8Ideal Cert.Kernel8Ideal.Gen Cert.Products
open Idealize.ShloMosaic.Pipeline (Dat)
open Idealize.ShloMosaic.Pipeline.Window (rect_emb_val)

/-- A point leaves its product in the result's block. -/
theorem point {F : FTy → Type} [FloatOps F] (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16) (h5 : a5.IsWhole)
    (a6 : Memref sig .tc .vmem S8x128 .f32) (h6 : a6.IsWhole) (x : Vec F S2048x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero zeros]
  simp only [View.readAt_eq_ld, h3.read_unread, h4.read_unread, View.ld_unit_zero (S := S2048x1024) zeros, View.ld_unit_zero (S := S1024x1024) zeros]

variable (m : (ℓ : Loc nD τ sig) → Buf (Elt Ideal) ℓ) (c : Dev nD)

/-- The arguments as launched. -/
abbrev lhs : Mat 8192 1024 := m ((c : Thread nD τ).loc main_arg0)
abbrev rhs : Mat 1024 7168 := m ((c : Thread nD τ).loc main_arg1)

/-- The host's casts leave them as they are. -/
theorem host_reads : (V m c main_v0 : Mat 8192 1024) = lhs m c ∧ (V m c main_v1 : Mat 1024 7168) = rhs m c := by
  unfold V
  unfold hostOps0
  refine ⟨?_, ?_⟩ <;> (after_results_simp <;> rfl)

/-- A point's product, at an element. -/
theorem block_product (x : Vec Ideal S2048x1024 .bf16) (y : Vec Ideal S1024x1024 .bf16) (i : Fin 2048) (j : Fin 1024) :
    k0_pay1 (F := Ideal) x y (ix2 i j) = ∑ l : Fin 1024, (x (ix2 i l) : EReal) * y (ix2 l j) := by
  pointwise [k0_pay1]

/-- A point takes the rows and the columns of its block of the result. -/
theorem index : ∀ t : Fin cfg0.N, win0_0.index t 0 = win0_2.index t 0 ∧ win0_0.index t 1 = 0 ∧ win0_1.index t 0 = 0
    ∧ win0_1.index t 1 = win0_2.index t 1 ∧ win0_2.index t 0 < 4 ∧ win0_2.index t 1 < 7 := by
  decide +kernel

/-- A point's blocks, in the whole arrays. -/
theorem lhs_at (t : Fin cfg0.N) (i : Fin 2048) (l : Fin 1024) (I : Fin 8192) (hI : win0_2.index t 0 * 2048 + i.val = I.val) :
    (iblk m c 0 t : Vec Ideal S2048x1024 .bf16) (ix2 i l) = lhs m c (ix2 I l) := by
  obtain ⟨e0, e1, -⟩ := index t
  rw [← (host_reads m c).1]
  exact at_coords (V m c main_v0) _ I l ((rect_emb_val win0_0 t (ix2 i l) 0).trans ((congrArg (· * 2048 + i.val) e0).trans hI))
    ((rect_emb_val win0_0 t (ix2 i l) 1).trans (from_zero e1 _ _))
theorem rhs_at (t : Fin cfg0.N) (l : Fin 1024) (j : Fin 1024) (J : Fin 7168) (hJ : win0_2.index t 1 * 1024 + j.val = J.val) :
    (iblk m c 1 t : Vec Ideal S1024x1024 .bf16) (ix2 l j) = rhs m c (ix2 l J) := by
  obtain ⟨-, -, e0, e1, -⟩ := index t
  rw [← (host_reads m c).2]
  exact at_coords (V m c main_v1) _ l J ((rect_emb_val win0_1 t (ix2 l j) 0).trans (from_zero e0 _ _))
    ((rect_emb_val win0_1 t (ix2 l j) 1).trans ((congrArg (· * 1024 + j.val) e1).trans hJ))

/-- The result is the product of the arguments. -/
theorem final : ((dats m 0 c).arrAt 2 cfg0.N : Mat 8192 7168) = nn (lhs m c) (rhs m c) := by
  refine (dats m 0 c).arrAt_eq_of_covers 2 _ (by decide +kernel) fun t hf y => ?_
  blk_simp
  obtain ⟨i, j, rfl⟩ : ∃ (i : Fin 2048) (j : Fin 1024), y = ix2 i j := ⟨y 0, y 1, eq_ix2 y⟩
  obtain ⟨-, -, -, -, hM, hN⟩ := index t
  obtain ⟨I, hI⟩ : ∃ I : Fin 8192, win0_2.index t 0 * 2048 + i.val = I.val := ⟨⟨_, by omega⟩, rfl⟩
  obtain ⟨J, hJ⟩ : ∃ J : Fin 7168, win0_2.index t 1 * 1024 + j.val = J.val := ⟨⟨_, by omega⟩, rfl⟩
  refine Eq.trans ?_ (at_coords (nn (lhs m c) (rhs m c)) _ I J ((rect_emb_val win0_2 t (ix2 i j) 0).trans hI) ((rect_emb_val win0_2 t (ix2 i j) 1).trans hJ)).symm
  rw [after0_2]
  unfold outsAt0
  rw [point]
  exact (block_product _ _ i j).trans (Finset.sum_congr rfl fun l _ => congrArg₂ (· * ·) (lhs_at m c t i l I hI) (rhs_at m c t l j J hJ))

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = nn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel8Ideal.ProjForward

namespace Cert.Reference8Ideal.ProjForward

open Idealize.ShloMosaic Idealize.ShloMosaic.TcCoe Idealize.ShloMosaic.StableHlo Idealize.SL.Sem Cert.Reference8Ideal Cert.Reference8Ideal.Gen Cert.Products

/-- And so does the reference. -/
theorem product (x : FVec Ideal S8192x1024 .f32) (y : FVec Ideal S1024x7168 .f32) :
    (truncf .bf16 (Host.dotGeneral dot_S8192x1024_S1024x7168_S8192x7168_1_0_0_1_n_n none x y) bitsLt_bf16_f32 : FVec Ideal S8192x7168 .bf16) = nn x y := by
  funext e
  obtain ⟨i, j, rfl⟩ : ∃ (i : Fin 8192) (j : Fin 7168), e = ix2 i j := ⟨e 0, e 1, eq_ix2 e⟩
  pointwise [nn]

end Cert.Reference8Ideal.ProjForward

end
-- ==== Proof.ProjGrad.lean ====
/-
  The gradient of the combined projection's weight: two passes over the tokens add up to the one product.
-/
module

public import proofs.«01_k».proof.Proof.Products
public import proofs.«01_k».proof.Proof.Gen.Kernel9Ideal.Value
public import proofs.«01_k».proof.Proof.Gen.Reference9Ideal.Run

@[expose] public section

noncomputable section

namespace Cert.Kernel9Ideal.Proj

open Idealize.ShloMosaic Idealize.ShloMosaic.TcCoe Idealize.ShloMosaic.StableHlo Idealize.SL.Sem Cert.Kernel9Ideal Cert.Kernel9Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S4096x1024 .bf16) (h3 : a3.IsWhole) (a4 : Memref sig .tc .vmem S4096x1024 .bf16) (h4 : a4.IsWhole)
  (a5 : Memref sig .tc .vmem S1024x1024 .f32) (h5 : a5.IsWhole) (a6 : Memref sig .tc .vmem S1024x1024 .f32) (h6 : a6.IsWhole) (x y : Vec F S4096x1024 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S4096x1024) zeros, shapeCast_self]

/-- The second pass leaves, in the result's block, the accumulator and its own product added. -/
theorem second_pass (g0 : ¬cond0_0 i) (g1 : cond0_1 i) (g2 : cond0_2 i) (acc : Vec F S1024x1024 .f32) :
    out0_B_2 c i a3 h3 a4 h4 a5 h5 a6 h6 g0 g1 g2 x y acc = addf acc (k0_pay1 x y) := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay3
  simp only [View.readAt_eq_ld, h3.read_unread, h4.read_unread, h6.read_unread, View.ld_unit_zero (S := S4096x1024) zeros,
    View.ld_unit_zero (S := S1024x1024) zeros, shapeCast_self]
end Cases

variable (m : (ℓ : Loc nD τ sig) → Buf (Elt Ideal) ℓ) (c : Dev nD)

/-- The arguments as launched. -/
abbrev lhs : Mat 8192 1024 := m ((c : Thread nD τ).loc main_arg0)
abbrev rhs : Mat 8192 7168 := m ((c : Thread nD τ).loc main_arg1)

/-- The host's casts leave them as they are. -/
theorem host_reads : (V m c main_v0 : Mat 8192 1024) = lhs m c ∧ (V m c main_v1 : Mat 8192 7168) = rhs m c := by
  unfold V
  unfold hostOps0
  refine ⟨?_, ?_⟩ <;> (after_results_simp <;> rfl)

/-- A pass's product, at an element. -/
theorem block_product (x y : Vec Ideal S4096x1024 .bf16) (i j : Fin 1024) :
    k0_pay1 (F := Ideal) x y (ix2 i j) = ∑ l : Fin 4096, (x (ix2 l i) : EReal) * y (ix2 l j) := by
  pointwise [k0_pay1]

/-- A point's blocks, in the whole arrays. -/
theorem lhs_at (t : Fin cfg0.N) (l : Fin 4096) (i : Fin 1024) (L : Fin 8192) (I : Fin 1024) (hL : win0_0.index t 0 * 4096 + l.val = L.val)
    (hI : win0_0.index t 1 * 1024 + i.val = I.val) : (iblk m c 0 t : Vec Ideal S4096x1024 .bf16) (ix2 l i) = lhs m c (ix2 L I) := by
  rw [← (host_reads m c).1]
  exact at_coords (V m c main_v0) _ L I ((rect_emb_val win0_0 t (ix2 l i) 0).trans hL) ((rect_emb_val win0_0 t (ix2 l i) 1).trans hI)
theorem rhs_at (t : Fin cfg0.N) (l : Fin 4096) (j : Fin 1024) (L : Fin 8192) (J : Fin 7168) (hL : win0_1.index t 0 * 4096 + l.val = L.val)
    (hJ : win0_1.index t 1 * 1024 + j.val = J.val) : (iblk m c 1 t : Vec Ideal S4096x1024 .bf16) (ix2 l j) = rhs m c (ix2 L J) := by
  rw [← (host_reads m c).2]
  exact at_coords (V m c main_v1) _ L J ((rect_emb_val win0_1 t (ix2 l j) 0).trans hL) ((rect_emb_val win0_1 t (ix2 l j) 1).trans hJ)

/-- A point that writes a block back, and the one before it, take the two halves of the tokens and the block's own columns. -/
theorem index : ∀ t s : Fin cfg0.N, t.val % 2 = 1 → s.val + 1 = t.val →
    win0_0.index t 0 = 1 ∧ win0_0.index s 0 = 0 ∧ win0_1.index t 0 = 1 ∧ win0_1.index s 0 = 0
    ∧ win0_0.index t 1 = win0_2.index t 0 ∧ win0_0.index s 1 = win0_2.index t 0
    ∧ win0_1.index t 1 = win0_2.index t 1 ∧ win0_1.index s 1 = win0_2.index t 1
    ∧ win0_2.index t 0 < 1 ∧ win0_2.index t 1 < 7 := by
  decide +kernel

/-- The result is the product of the first argument's transpose with the second. -/
theorem final : ((dats m 0 c).arrAt 2 cfg0.N : Mat 1024 7168) = tn (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 1024, win0_2.index t 0 * 1024 + i.val = I.val := ⟨⟨_, by omega⟩, rfl⟩
  obtain ⟨J, hJ⟩ : ∃ J : Fin 7168, win0_2.index t 1 * 1024 + j.val = J.val := ⟨⟨_, by omega⟩, rfl⟩
  refine Eq.trans ?_ (at_coords (tn (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (tn_of_halves (h := 4096) rfl (lhs m c) (rhs m c) (fun l => ?_) (fun l => ?_) (fun l => ?_) (fun l => ?_))
  · exact lhs_at m c s l i _ I (congrArg (· * 4096 + l.val) k0) ((congrArg (· * 1024 + i.val) e0).trans hI)
  · exact rhs_at m c s l j _ J (congrArg (· * 4096 + l.val) k0') ((congrArg (· * 1024 + j.val) e0').trans hJ)
  · exact lhs_at m c t l i _ I (congrArg (· * 4096 + l.val) k1) ((congrArg (· * 1024 + i.val) e1).trans hI)
  · exact rhs_at m c t l j _ J (congrArg (· * 4096 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel9Ideal.Proj

namespace Cert.Reference9Ideal.Proj

open Idealize.ShloMosaic Idealize.ShloMosaic.TcCoe Idealize.ShloMosaic.StableHlo Idealize.SL.Sem Cert.Reference9Ideal Cert.Reference9Ideal.Gen Cert.Products

/-- And so does the reference, which multiplies the other way about and transposes. -/
theorem product (x : FVec Ideal S8192x1024 .f32) (y : FVec Ideal S8192x7168 .f32) :
    transpose S1024x7168 [1, 0] (Host.dotGeneral dot_S8192x7168_S8192x1024_S7168x1024_0_0_1_1_n_n none y x) transposes_S7168x1024_S1024x7168_1_0 = tn x y := by
  funext e
  obtain ⟨i, j, rfl⟩ : ∃ (i : Fin 1024) (j : Fin 7168), e = ix2 i j := ⟨e 0, e 1, eq_ix2 e⟩
  pointwise [tn]
  exact Finset.sum_congr rfl fun l _ => mul_comm _ _

end Cert.Reference9Ideal.Proj

end
-- ==== Proof.DownBack.lean ====
/-
  The gradient of the feed-forward's second product, back through its weight: the kernel's blocks are those of the one product.
-/
module

public import proofs.«01_k».proof.Proof.Products
public import proofs.«01_k».proof.Proof.Gen.Kernel10Ideal.Value
public import proofs.«01_k».proof.Proof.Gen.Reference10Ideal.Run

@[expose] public section

noncomputable section

namespace Cert.Kernel10Ideal.DownBack

open Idealize.ShloMosaic Idealize.ShloMosaic.TcCoe Idealize.ShloMosaic.StableHlo Idealize.SL.Sem Cert.Kernel10Ideal Cert.Kernel10Ideal.Gen Cert.Products
open Idealize.ShloMosaic.Pipeline (Dat)
open Idealize.ShloMosaic.Pipeline.Window (rect_emb_val)

/-- A point leaves its product in the result's block. -/
theorem point {F : FTy → Type} [FloatOps F] (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16) (h5 : a5.IsWhole)
    (a6 : Memref sig .tc .vmem S8x128 .f32) (h6 : a6.IsWhole) (x : Vec F S2048x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero zeros]
  simp only [View.readAt_eq_ld, h3.read_unread, h4.read_unread, View.ld_unit_zero (S := S2048x1024) zeros, View.ld_unit_zero (S := S1024x1024) zeros]

variable (m : (ℓ : Loc nD τ sig) → Buf (Elt Ideal) ℓ) (c : Dev nD)

/-- The arguments as launched. -/
abbrev lhs : Mat 8192 1024 := m ((c : Thread nD τ).loc main_arg0)
abbrev rhs : Mat 3072 1024 := m ((c : Thread nD τ).loc main_arg1)

/-- The host's casts leave them as they are. -/
theorem host_reads : (V m c main_v0 : Mat 8192 1024) = lhs m c ∧ (V m c main_v1 : Mat 3072 1024) = rhs m c := by
  unfold V
  unfold hostOps0
  refine ⟨?_, ?_⟩ <;> (after_results_simp <;> rfl)

/-- A point's product, at an element. -/
theorem block_product (x : Vec Ideal S2048x1024 .bf16) (y : Vec Ideal S1024x1024 .bf16) (i : Fin 2048) (j : Fin 1024) :
    k0_pay1 (F := Ideal) x y (ix2 i j) = ∑ l : Fin 1024, (x (ix2 i l) : EReal) * y (ix2 j l) := by
  pointwise [k0_pay1]

/-- A point takes the rows of both for its block of the result. -/
theorem index : ∀ t : Fin cfg0.N, win0_0.index t 0 = win0_2.index t 0 ∧ win0_0.index t 1 = 0 ∧ win0_1.index t 1 = 0
    ∧ win0_1.index t 0 = win0_2.index t 1 ∧ win0_2.index t 0 < 4 ∧ win0_2.index t 1 < 3 := by
  decide +kernel

/-- A point's blocks, in the whole arrays. -/
theorem lhs_at (t : Fin cfg0.N) (i : Fin 2048) (l : Fin 1024) (I : Fin 8192) (hI : win0_2.index t 0 * 2048 + i.val = I.val) :
    (iblk m c 0 t : Vec Ideal S2048x1024 .bf16) (ix2 i l) = lhs m c (ix2 I l) := by
  obtain ⟨e0, e1, -⟩ := index t
  rw [← (host_reads m c).1]
  exact at_coords (V m c main_v0) _ I l ((rect_emb_val win0_0 t (ix2 i l) 0).trans ((congrArg (· * 2048 + i.val) e0).trans hI))
    ((rect_emb_val win0_0 t (ix2 i l) 1).trans (from_zero e1 _ _))
theorem rhs_at (t : Fin cfg0.N) (l : Fin 1024) (j : Fin 1024) (J : Fin 3072) (hJ : win0_2.index t 1 * 1024 + j.val = J.val) :
    (iblk m c 1 t : Vec Ideal S1024x1024 .bf16) (ix2 j l) = rhs m c (ix2 J l) := by
  obtain ⟨-, -, e1, e0, -⟩ := index t
  rw [← (host_reads m c).2]
  exact at_coords (V m c main_v1) _ J l ((rect_emb_val win0_1 t (ix2 j l) 0).trans ((congrArg (· * 1024 + j.val) e0).trans hJ))
    ((rect_emb_val win0_1 t (ix2 j l) 1).trans (from_zero e1 _ _))

/-- The result is the product of the first argument with the second's transpose. -/
theorem final : ((dats m 0 c).arrAt 2 cfg0.N : Mat 8192 3072) = nt (lhs m c) (rhs m c) := by
  refine (dats m 0 c).arrAt_eq_of_covers 2 _ (by decide +kernel) fun t hf y => ?_
  blk_simp
  obtain ⟨i, j, rfl⟩ : ∃ (i : Fin 2048) (j : Fin 1024), y = ix2 i j := ⟨y 0, y 1, eq_ix2 y⟩
  obtain ⟨-, -, -, -, hM, hN⟩ := index t
  obtain ⟨I, hI⟩ : ∃ I : Fin 8192, win0_2.index t 0 * 2048 + i.val = I.val := ⟨⟨_, by omega⟩, rfl⟩
  obtain ⟨J, hJ⟩ : ∃ J : Fin 3072, win0_2.index t 1 * 1024 + j.val = J.val := ⟨⟨_, by omega⟩, rfl⟩
  refine Eq.trans ?_ (at_coords (nt (lhs m c) (rhs m c)) _ I J ((rect_emb_val win0_2 t (ix2 i j) 0).trans hI) ((rect_emb_val win0_2 t (ix2 i j) 1).trans hJ)).symm
  rw [after0_2]
  unfold outsAt0
  rw [point]
  exact (block_product _ _ i j).trans (Finset.sum_congr rfl fun l _ => congrArg₂ (· * ·) (lhs_at m c t i l I hI) (rhs_at m c t l j J hJ))

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel10Ideal.DownBack

namespace Cert.Reference10Ideal.DownBack

open Idealize.ShloMosaic Idealize.ShloMosaic.TcCoe Idealize.ShloMosaic.StableHlo Idealize.SL.Sem Cert.Reference10Ideal Cert.Reference10Ideal.Gen Cert.Products

/-- And so does the reference. -/
theorem product (x : FVec Ideal S8192x1024 .f32) (y : FVec Ideal S3072x1024 .f32) :
    (truncf .bf16 (Host.dotGeneral dot_S8192x1024_S3072x1024_S8192x3072_1_1_0_0_n_n none x y) bitsLt_bf16_f32 : FVec Ideal S8192x3072 .bf16) = nt x y := by
  funext e
  obtain ⟨i, j, rfl⟩ : ∃ (i : Fin 8192) (j : Fin 3072), e = ix2 i j := ⟨e 0, e 1, eq_ix2 e⟩
  pointwise [nt]

end Cert.Reference10Ideal.DownBack

end
-- ==== Proof.UpBack.lean ====
/-
  The gradient of the feed-forward's first product, back through its weight: two passes over the columns add up to the one product.
-/
module

public import proofs.«01_k».proof.Proof.Products
public import proofs.«01_k».proof.Proof.Gen.Kernel11Ideal.Value
public import proofs.«01_k».proof.Proof.Gen.Reference11Ideal.Run

@[expose] public section

noncomputable section

namespace Cert.Kernel11Ideal.UpBack

open Idealize.ShloMosaic Idealize.ShloMosaic.TcCoe Idealize.ShloMosaic.StableHlo Idealize.SL.Sem Cert.Kernel11Ideal Cert.Kernel11Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S1024x3072 .bf16) (h3 : a3.IsWhole) (a4 : Memref sig .tc .vmem S1024x3072 .bf16) (h4 : a4.IsWhole)
  (a5 : Memref sig .tc .vmem S1024x1024 .bf16) (h5 : a5.IsWhole) (a6 : Memref sig .tc .vmem S1024x1024 .f32) (h6 : a6.IsWhole) (x y : Vec F S1024x3072 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S1024x3072) zeros, shapeCast_self]

/-- The second pass leaves, in the result's block, the accumulator and its own product added and rounded. -/
theorem second_pass (g0 : ¬cond0_0 i) (g1 : cond0_1 i) (g2 : cond0_2 i) (acc : Vec F S1024x1024 .f32) :
    out0_B_2 c i a3 h3 a4 h4 a5 h5 a6 h6 g0 g1 g2 x y acc = truncf .bf16 (addf acc (k0_pay1 x y)) bitsLt_bf16_f32 := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay4 k0_pay3
  simp only [View.readAt_eq_ld, h3.read_unread, h4.read_unread, h6.read_unread, View.ld_unit_zero (S := S1024x3072) zeros,
    View.ld_unit_zero (S := S1024x1024) zeros, shapeCast_self]
end Cases

variable (m : (ℓ : Loc nD τ sig) → Buf (Elt Ideal) ℓ) (c : Dev nD)

/-- The arguments as launched. -/
abbrev lhs : Mat 8192 6144 := m ((c : Thread nD τ).loc main_arg0)
abbrev rhs : Mat 1024 6144 := m ((c : Thread nD τ).loc main_arg1)

/-- The host's casts leave them as they are. -/
theorem host_reads : (V m c main_v0 : Mat 8192 6144) = lhs m c ∧ (V m c main_v1 : Mat 1024 6144) = rhs m c := by
  unfold V
  unfold hostOps0
  refine ⟨?_, ?_⟩ <;> (after_results_simp <;> rfl)

/-- A pass's product, at an element. -/
theorem block_product (x y : Vec Ideal S1024x3072 .bf16) (i j : Fin 1024) :
    k0_pay1 (F := Ideal) x y (ix2 i j) = ∑ l : Fin 3072, (x (ix2 i l) : EReal) * y (ix2 j l) := by
  pointwise [k0_pay1]

/-- A point's blocks, in the whole arrays. -/
theorem lhs_at (t : Fin cfg0.N) (l : Fin 3072) (i : Fin 1024) (L : Fin 6144) (I : Fin 8192) (hL : win0_0.index t 1 * 3072 + l.val = L.val)
    (hI : win0_0.index t 0 * 1024 + i.val = I.val) : (iblk m c 0 t : Vec Ideal S1024x3072 .bf16) (ix2 i l) = lhs m c (ix2 I L) := by
  rw [← (host_reads m c).1]
  exact at_coords (V m c main_v0) _ I L ((rect_emb_val win0_0 t (ix2 i l) 0).trans hI) ((rect_emb_val win0_0 t (ix2 i l) 1).trans hL)
theorem rhs_at (t : Fin cfg0.N) (l : Fin 3072) (j : Fin 1024) (L : Fin 6144) (J : Fin 1024) (hL : win0_1.index t 1 * 3072 + l.val = L.val)
    (hJ : win0_1.index t 0 * 1024 + j.val = J.val) : (iblk m c 1 t : Vec Ideal S1024x3072 .bf16) (ix2 j l) = rhs m c (ix2 J L) := by
  rw [← (host_reads m c).2]
  exact at_coords (V m c main_v1) _ J L ((rect_emb_val win0_1 t (ix2 j l) 0).trans hJ) ((rect_emb_val win0_1 t (ix2 j l) 1).trans hL)

/-- A point that writes a block back, and the one before it, take the two halves of the columns and the block's own rows. -/
theorem index : ∀ t s : Fin cfg0.N, t.val % 2 = 1 → s.val + 1 = t.val →
    win0_0.index t 1 = 1 ∧ win0_0.index s 1 = 0 ∧ win0_1.index t 1 = 1 ∧ win0_1.index s 1 = 0
    ∧ win0_0.index t 0 = win0_2.index t 0 ∧ win0_0.index s 0 = win0_2.index t 0
    ∧ win0_1.index t 0 = win0_2.index t 1 ∧ win0_1.index s 0 = win0_2.index t 1
    ∧ win0_2.index t 0 < 8 ∧ win0_2.index t 1 < 1 := by
  decide +kernel

/-- The result is the product of the first argument with the second's transpose. -/
theorem final : ((dats m 0 c).arrAt 2 cfg0.N : Mat 8192 1024) = nt (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 8192, win0_2.index t 0 * 1024 + i.val = I.val := ⟨⟨_, by omega⟩, rfl⟩
  obtain ⟨J, hJ⟩ : ∃ J : Fin 1024, win0_2.index t 1 * 1024 + j.val = J.val := ⟨⟨_, by omega⟩, rfl⟩
  refine Eq.trans ?_ (at_coords (nt (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (nt_of_halves (h := 3072) rfl (lhs m c) (rhs m c) (fun l => ?_) (fun l => ?_) (fun l => ?_) (fun l => ?_))
  · exact lhs_at m c s l i _ I (congrArg (· * 3072 + l.val) k0) ((congrArg (· * 1024 + i.val) e0).trans hI)
  · exact rhs_at m c s l j _ J (congrArg (· * 3072 + l.val) k0') ((congrArg (· * 1024 + j.val) e0').trans hJ)
  · exact lhs_at m c t l i _ I (congrArg (· * 3072 + l.val) k1) ((congrArg (· * 1024 + i.val) e1).trans hI)
  · exact rhs_at m c t l j _ J (congrArg (· * 3072 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel11Ideal.UpBack

namespace Cert.Reference11Ideal.UpBack

open Idealize.ShloMosaic Idealize.ShloMosaic.TcCoe Idealize.ShloMosaic.StableHlo Idealize.SL.Sem Cert.Reference11Ideal Cert.Reference11Ideal.Gen Cert.Products

/-- And so does the reference. -/
theorem product (x : FVec Ideal S8192x6144 .f32) (y : FVec Ideal S1024x6144 .f32) :
    (truncf .bf16 (Host.dotGeneral dot_S8192x6144_S1024x6144_S8192x1024_1_1_0_0_n_n none x y) bitsLt_bf16_f32 : FVec Ideal S8192x1024 .bf16) = nt x y := by
  funext e
  obtain ⟨i, j, rfl⟩ : ∃ (i : Fin 8192) (j : Fin 1024), e = ix2 i j := ⟨e 0, e 1, eq_ix2 e⟩
  pointwise [nt]

end Cert.Reference11Ideal.UpBack

end
-- ==== Proof.ProjBack.lean ====
/-
  The gradient of the combined projection, back through its weight: two passes over the columns add up to the one product.
-/
module

public import proofs.«01_k».proof.Proof.Products
public import proofs.«01_k».proof.Proof.Gen.Kernel12Ideal.Value
public import proofs.«01_k».proof.Proof.Gen.Reference12Ideal.Run

@[expose] public section

noncomputable section

namespace Cert.Kernel12Ideal.ProjBack

open Idealize.ShloMosaic Idealize.ShloMosaic.TcCoe Idealize.ShloMosaic.StableHlo Idealize.SL.Sem Cert.Kernel12Ideal Cert.Kernel12Ideal.Gen Cert.Products
open Idealize.ShloMosaic.Pipeline (Dat)
open Idealize.ShloMosaic.Pipeline.Window (rect_emb_val)

section Cases
variable {F : FTy → Type} [FloatOps F]
variable (c : Dev nD) (i : grid0.Coords) (a3 : Memref sig .tc .vmem S1024x3584 .bf16) (h3 : a3.IsWhole) (a4 : Memref sig .tc .vmem S1024x3584 .bf16) (h4 : a4.IsWhole)
  (a5 : Memref sig .tc .vmem S1024x1024 .bf16) (h5 : a5.IsWhole) (a6 : Memref sig .tc .vmem S1024x1024 .f32) (h6 : a6.IsWhole) (x y : Vec F S1024x3584 .bf16)

/-- The first pass leaves its product in the accumulator. -/
theorem first_pass (g0 : cond0_0 i) (g1 : ¬cond0_1 i) (g2 : ¬cond0_2 i) : sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  sl_unfold_words
  rw [View.canon_unit_zero zeros]
  unfold k0_pay2
  simp only [View.readAt_eq_ld, h3.read_unread, h4.read_unread, View.ld_unit_zero (S := S1024x3584) zeros, shapeCast_self]

/-- The second pass leaves, in the result's block, the accumulator and its own product added and rounded. -/
theorem second_pass (g0 : ¬cond0_0 i) (g1 : cond0_1 i) (g2 : cond0_2 i) (acc : Vec F S1024x1024 .f32) :
    out0_B_2 c i a3 h3 a4 h4 a5 h5 a6 h6 g0 g1 g2 x y acc = truncf .bf16 (addf acc (k0_pay1 x y)) bitsLt_bf16_f32 := by
  unfold out0_B_2
  rw [View.read_writes_eq_canon _ _ _ (cover0_B_2 c i a3 h3 a4 h4 a5 h5 a6 h6 g0 g1 g2 x y acc)]
  unfold kernelRun0_B
  dsimp only
  sl_unfold_words
  rw [View.canon_unit_zero zeros, View.readCov_unit_zero (S := S1024x1024) _ zeros]
  unfold k0_pay4 k0_pay3
  simp only [View.readAt_eq_ld, h3.read_unread, h4.read_unread, h6.read_unread, View.ld_unit_zero (S := S1024x3584) zeros,
    View.ld_unit_zero (S := S1024x1024) zeros, shapeCast_self]
end Cases

variable (m : (ℓ : Loc nD τ sig) → Buf (Elt Ideal) ℓ) (c : Dev nD)

/-- The arguments as launched. -/
abbrev lhs : Mat 8192 7168 := m ((c : Thread nD τ).loc main_arg0)
abbrev rhs : Mat 1024 7168 := m ((c : Thread nD τ).loc main_arg1)

/-- The host's casts leave them as they are. -/
theorem host_reads : (V m c main_v0 : Mat 8192 7168) = lhs m c ∧ (V m c main_v1 : Mat 1024 7168) = rhs m c := by
  unfold V
  unfold hostOps0
  refine ⟨?_, ?_⟩ <;> (after_results_simp <;> rfl)

/-- A pass's product, at an element. -/
theorem block_product (x y : Vec Ideal S1024x3584 .bf16) (i j : Fin 1024) :
    k0_pay1 (F := Ideal) x y (ix2 i j) = ∑ l : Fin 3584, (x (ix2 i l) : EReal) * y (ix2 j l) := by
  pointwise [k0_pay1]

/-- A point's blocks, in the whole arrays. -/
theorem lhs_at (t : Fin cfg0.N) (l : Fin 3584) (i : Fin 1024) (L : Fin 7168) (I : Fin 8192) (hL : win0_0.index t 1 * 3584 + l.val = L.val)
    (hI : win0_0.index t 0 * 1024 + i.val = I.val) : (iblk m c 0 t : Vec Ideal S1024x3584 .bf16) (ix2 i l) = lhs m c (ix2 I L) := by
  rw [← (host_reads m c).1]
  exact at_coords (V m c main_v0) _ I L ((rect_emb_val win0_0 t (ix2 i l) 0).trans hI) ((rect_emb_val win0_0 t (ix2 i l) 1).trans hL)
theorem rhs_at (t : Fin cfg0.N) (l : Fin 3584) (j : Fin 1024) (L : Fin 7168) (J : Fin 1024) (hL : win0_1.index t 1 * 3584 + l.val = L.val)
    (hJ : win0_1.index t 0 * 1024 + j.val = J.val) : (iblk m c 1 t : Vec Ideal S1024x3584 .bf16) (ix2 j l) = rhs m c (ix2 J L) := by
  rw [← (host_reads m c).2]
  exact at_coords (V m c main_v1) _ J L ((rect_emb_val win0_1 t (ix2 j l) 0).trans hJ) ((rect_emb_val win0_1 t (ix2 j l) 1).trans hL)

/-- A point that writes a block back, and the one before it, take the two halves of the columns and the block's own rows. -/
theorem index : ∀ t s : Fin cfg0.N, t.val % 2 = 1 → s.val + 1 = t.val →
    win0_0.index t 1 = 1 ∧ win0_0.index s 1 = 0 ∧ win0_1.index t 1 = 1 ∧ win0_1.index s 1 = 0
    ∧ win0_0.index t 0 = win0_2.index t 0 ∧ win0_0.index s 0 = win0_2.index t 0
    ∧ win0_1.index t 0 = win0_2.index t 1 ∧ win0_1.index s 0 = win0_2.index t 1
    ∧ win0_2.index t 0 < 8 ∧ win0_2.index t 1 < 1 := by
  decide +kernel

/-- The result is the product of the first argument with the second's transpose. -/
theorem final : ((dats m 0 c).arrAt 2 cfg0.N : Mat 8192 1024) = nt (lhs m c) (rhs m c) := by
  refine (dats m 0 c).arrAt_eq_of_covers 2 _ (by decide +kernel) fun t hf y => ?_
  blk_simp
  obtain ⟨i, j, rfl⟩ : ∃ (i j : Fin 1024), y = ix2 i j := ⟨y 0, y 1, eq_ix2 y⟩
  have h1 : t.val % 2 = 1 := (flush0_2 t).mp hf
  obtain ⟨s, hs⟩ : ∃ s : Fin cfg0.N, s.val + 1 = t.val := ⟨⟨t.val - 1, lt_of_le_of_lt (Nat.sub_le _ _) t.isLt⟩, by show t.val - 1 + 1 = _; omega⟩
  obtain ⟨k1, k0, k1', k0', e1, e0, e1', e0', hM, hN⟩ := index t s h1 hs
  obtain ⟨I, hI⟩ : ∃ I : Fin 8192, win0_2.index t 0 * 1024 + i.val = I.val := ⟨⟨_, by omega⟩, rfl⟩
  obtain ⟨J, hJ⟩ : ∃ J : Fin 1024, win0_2.index t 1 * 1024 + j.val = J.val := ⟨⟨_, by omega⟩, rfl⟩
  refine Eq.trans ?_ (at_coords (nt (lhs m c) (rhs m c)) _ I J ((rect_emb_val win0_2 t (ix2 i j) 0).trans hI) ((rect_emb_val win0_2 t (ix2 i j) 1).trans hJ)).symm
  rw [after0_2, outsAt0_B m c t (by omega) h1 h1]
  dsimp only
  simp only [show t.val - 1 = s.val by omega]
  rw [second_pass, outsAt0_A m c s (by omega) (by omega) (by omega)]
  dsimp only
  rw [first_pass]
  refine (congrArg₂ (· + ·) (block_product _ _ i j) (block_product _ _ i j)).trans (nt_of_halves (h := 3584) rfl (lhs m c) (rhs m c) (fun l => ?_) (fun l => ?_) (fun l => ?_) (fun l => ?_))
  · exact lhs_at m c s l i _ I (congrArg (· * 3584 + l.val) k0) ((congrArg (· * 1024 + i.val) e0).trans hI)
  · exact rhs_at m c s l j _ J (congrArg (· * 3584 + l.val) k0') ((congrArg (· * 1024 + j.val) e0').trans hJ)
  · exact lhs_at m c t l i _ I (congrArg (· * 3584 + l.val) k1) ((congrArg (· * 1024 + i.val) e1).trans hI)
  · exact rhs_at m c t l j _ J (congrArg (· * 3584 + l.val) k1') ((congrArg (· * 1024 + j.val) e1').trans hJ)

/-- From any memory the kernel ends with the product, its arguments as launched. -/
theorem results (ρ : Dev nD → PrngReg) : θ_run defs (onTc (τ := τ) (main (F := Ideal))) ⟨m, fun _ => 0, ρ⟩ (fun r => ∀ c : Dev nD,
      r.2.mem ((c : Thread nD τ).loc main_v2) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.Kernel12Ideal.ProjBack

namespace Cert.Reference12Ideal.ProjBack

open Idealize.ShloMosaic Idealize.ShloMosaic.TcCoe Idealize.ShloMosaic.StableHlo Idealize.SL.Sem Cert.Reference12Ideal Cert.Reference12Ideal.Gen Cert.Products

/-- And so does the reference. -/
theorem product (x : FVec Ideal S8192x7168 .f32) (y : FVec Ideal S1024x7168 .f32) :
    (truncf .bf16 (Host.dotGeneral dot_S8192x7168_S1024x7168_S8192x1024_1_1_0_0_n_n none x y) bitsLt_bf16_f32 : FVec Ideal S8192x1024 .bf16) = nt x y := by
  funext e
  obtain ⟨i, j, rfl⟩ : ∃ (i : Fin 8192) (j : Fin 1024), e = ix2 i j := ⟨e 0, e 1, eq_ix2 e⟩
  pointwise [nt]

end Cert.Reference12Ideal.ProjBack

end
-- ==== Proof.MixRing.lean ====
/-
  The merge gradient's write-behind ring. At each of its 16 steps the kernel packs two tiles, one per gate, into the
  half `step % 2` of two scratch buffers, and copies them into the columns 5120… and 6144… of rows `512 * step …` of the
  projection's gradient; the copies of a step are waited one step later, the last step's at once. Here: the tiles, the
  pieces of the result, the semaphore cells, that distinct pieces and distinct tiles share no element, and the ring's
  state before each step as ONE ring whose groups have two members. What a piece holds once its copy has landed is
  named: `X u m`, for step `u` and gate `m`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.ViewIndex
public import Idealize.ShloMosaic.Lib.ValueIdxCore
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (Pipeline.UD sig nD τ) ℕ

instance : NeZero grid0.N := ⟨by rw [N_0]; decide⟩

/-! ## Buffers, tiles, pieces, cells -/

/-- The two scratch buffers the tiles are packed in, and the gradient of the projection left in HBM, whole. -/
abbrev stashR : Memref sig .tc .vmem S2x512x1024 .bf16 := Memref.whole cc0_scratch0
abbrev stashL : Memref sig .tc .vmem S2x512x1024 .bf16 := Memref.whole cc0_scratch1
abbrev dest : Memref sig .tc .hbm S8192x7168 .bf16 := Memref.whole main_v9_4

/-- What a memref's buffer holds on core `c`. -/
abbrev Held (c : Dev nD) {sp : Space} {S : Shape} {e : EltTy} (M : Memref sig .tc sp S e) : Type :=
  Buf (Elt F) (M.view.loc (c : Thread nD τ))

abbrev tileOff (g : Fin 2) : Fin 3 → ℕ := ![g.val, 0, 0]
theorem tileOff_inb (g : Fin 2) : ∀ a, tileOff g a + S1x512x1024.size a ≤ S2x512x1024.size a := by
  have := g.isLt; intro a; fin_cases a <;> simp <;> omega
abbrev pieceOff (u : Fin 16) (m : Fin 2) : Fin 2 → ℕ := ![512 * u.val, 5120 + 1024 * m.val]
theorem pieceOff_inb (u : Fin 16) (m : Fin 2) : ∀ a, pieceOff u m a + S512x1024.size a ≤ S8192x7168.size a := by
  have := u.isLt; have := m.isLt; intro a; fin_cases a <;> simp <;> omega
theorem cellOff_inb (g m : Fin 2) : ∀ a, (![g.val, m.val] : Fin 2 → ℕ) a + S1x1.size a ≤ S2x2.size a := by
  have := g.isLt; have := m.isLt; intro a; fin_cases a <;> simp <;> omega

/-- Half `g` of the first gate's scratch buffer, and of the second's. -/
def tileR (g : Fin 2) : Memref sig .tc .vmem S512x1024 .bf16 :=
  (stashR.slice (Rect.unit (s := S2x512x1024) ![g.val, 0, 0] S1x512x1024.size (tileOff_inb g)) (fun _ => rfl)).squeeze S512x1024 squeezes_S1x512x1024_S512x1024
def tileL (g : Fin 2) : Memref sig .tc .vmem S512x1024 .bf16 :=
  (stashL.slice (Rect.unit (s := S2x512x1024) ![g.val, 0, 0] S1x512x1024.size (tileOff_inb g)) (fun _ => rfl)).squeeze S512x1024 squeezes_S1x512x1024_S512x1024
/-- The block of the result that step `u` copies for gate `m`. -/
def piece (u : Fin 16) (m : Fin 2) : Memref sig .tc .hbm S512x1024 .bf16 :=
  dest.slice (Rect.unit (s := S8192x7168) ![512 * u.val, 5120 + 1024 * m.val] S512x1024.size (pieceOff_inb u m)) (fun _ => rfl)
/-- The semaphore that the copy out of half `g` for gate `m` is counted on. -/
def cellA (g m : Fin 2) : DmaSems sig S_ :=
  (cc0_scratch2.slice (Rect.unit (s := S2x2) ![g.val, m.val] S1x1.size (cellOff_inb g m))).squeeze S_ squeezes_S1x1_S_
abbrev cell (g m : Fin 2) : SemLoc sig := SemLoc.dma (cellA g m).sem
theorem cell00 : cell 0 0 = SemLoc.dma 23 := by decide
theorem cell01 : cell 0 1 = SemLoc.dma 24 := by decide
theorem cell10 : cell 1 0 = SemLoc.dma 25 := by decide
theorem cell11 : cell 1 1 = SemLoc.dma 26 := by decide

abbrev tileSet (g : Fin 2) : Finset S2x512x1024.Idx := (Rect.unit (s := S2x512x1024) (tileOff g) S1x512x1024.size (tileOff_inb g)).set
abbrev pieceSet (i : Fin 16 × Fin 2) : Finset S8192x7168.Idx :=
  (Rect.unit (s := S8192x7168) (pieceOff i.1 i.2) S512x1024.size (pieceOff_inb i.1 i.2)).set
theorem tileR_set (g : Fin 2) : (tileR g).view.set = tileSet g := by
  simp only [tileR, Memref.view_squeeze, View.set_reshape]; exact View.set_slice_whole _ _
theorem tileL_set (g : Fin 2) : (tileL g).view.set = tileSet g := by
  simp only [tileL, Memref.view_squeeze, View.set_reshape]; exact View.set_slice_whole _ _
theorem piece_set (u : Fin 16) (m : Fin 2) : (piece u m).view.set = pieceSet (u, m) := View.set_slice_whole _ _

theorem tiles_disjoint (g g' : Fin 2) (h : g ≠ g') : Disjoint (tileSet g) (tileSet g') :=
  Ring.boxes_disjoint (s := S2x512x1024) S1x512x1024.size tileOff tileOff_inb (fun g => ![g.val, 0, 0])
    (fun i a => by fin_cases a <;> simp [tileOff]) (fun v => Fin.ofNat 2 (v 0)) (by decide +kernel) g g' h
theorem pieces_disjoint (i i' : Fin 16 × Fin 2) (h : i ≠ i') : Disjoint (pieceSet i) (pieceSet i') :=
  Ring.boxes_disjoint (s := S8192x7168) S512x1024.size (fun i : Fin 16 × Fin 2 => pieceOff i.1 i.2) (fun i => pieceOff_inb i.1 i.2)
    (fun i => ![i.1.val, 5 + i.2.val]) (fun i a => by fin_cases a <;> simp [pieceOff] <;> omega)
    (fun v => (Fin.ofNat 16 (v 0), Fin.ofNat 2 (v 1 - 5))) (by decide +kernel) i i' h

theorem parts_mono {I : Type} {s : Finset I} {Φ Ψ : I → sProp 𝕄} (h : ∀ i ∈ s, Φ i ⊢ Ψ i) : bigSep s Φ ⊢ bigSep s Ψ :=
  BI.bigSep_mono h

section Families
variable (c : Dev nD) (X : Fin 16 → Fin 2 → Vec F S512x1024 .bf16)

/-- A tile held at `e`; a piece held at `f`; a cell at zero. -/
abbrev tileRP (g : Fin 2) (e : Held (F := F) c (tileR g)) : sProp 𝕄 := (tileR g).view.loc (c : Thread nD τ) ↦[(tileR g).view.set]{fullShare} e
abbrev tileLP (g : Fin 2) (e : Held (F := F) c (tileL g)) : sProp 𝕄 := (tileL g).view.loc (c : Thread nD τ) ↦[(tileL g).view.set]{fullShare} e
abbrev pieceP (u : Fin 16) (m : Fin 2) (f : Held (F := F) c (piece u m)) : sProp 𝕄 := (piece u m).view.loc (c : Thread nD τ) ↦[(piece u m).view.set]{fullShare} f
abbrev cellP (g m : Fin 2) : sProp 𝕄 := semVal ((c : Thread nD τ), cell g m) 0
/-- The copy of gate 0's tile of half `g` to step `u`'s piece under way: it delivers the piece, reading `X u 0`, and the tile. -/
abbrev flightR (g : Fin 2) (u : Fin 16) : sProp 𝕄 :=
  iprop(∃ f e, ⌜(piece u 0).view.read (Elt F) f = X u 0⌝ ∗ Transfers.Flight countersEmb (c : Thread nD τ) (cell g 0) default ((piece u 0).view.amount (cell g 0)) iprop(pieceP c u 0 f ∗ tileRP c g e))
abbrev flightL (g : Fin 2) (u : Fin 16) : sProp 𝕄 :=
  iprop(∃ f e, ⌜(piece u 1).view.read (Elt F) f = X u 1⌝ ∗ Transfers.Flight countersEmb (c : Thread nD τ) (cell g 1) default ((piece u 1).view.amount (cell g 1)) iprop(pieceP c u 1 f ∗ tileLP c g e))
/-- A piece landed: it reads `X u m`. -/
abbrev landed (u : Fin 16) (m : Fin 2) : sProp 𝕄 := iprop(∃ f, ⌜(piece u m).view.read (Elt F) f = X u m⌝ ∗ pieceP c u m f)

/-- A group free: its cells at zero, its tiles at anything. In flight with step `u`'s copies. A step's pieces still to be
    written; a step's pieces landed. -/
abbrev groupFree (g : Fin 2) : sProp 𝕄 := iprop((cellP (F := F) c g 0 ∗ cellP (F := F) c g 1) ∗ (∃ e, tileRP (F := F) c g e) ∗ (∃ e, tileLP (F := F) c g e))
abbrev groupInfl (g : Fin 2) (u : Fin 16) : sProp 𝕄 := iprop(flightR c X g u ∗ flightL c X g u)
abbrev stepAhead (u : Fin 16) : sProp 𝕄 := iprop((∃ f, pieceP (F := F) c u 0 f) ∗ (∃ f, pieceP (F := F) c u 1 f))
abbrev stepBehind (u : Fin 16) : sProp 𝕄 := iprop(landed c X u 0 ∗ landed c X u 1)

/-- The ring before step `k`. -/
def ringAt (k : ℕ) : sProp 𝕄 := Ring.AtBΦ 1 (groupFree c) (groupInfl c X) (stepAhead c) (stepBehind c X) k

/-- The elements of the result outside every piece, as the region found them. -/
abbrev destSpare (V : Buf (Elt F) ((c : Thread nD τ).loc main_v9_4)) : sProp 𝕄 :=
  iprop(((c : Thread nD τ).loc main_v9_4) ↦[Finset.univ \ Finset.univ.biUnion pieceSet]{fullShare} V)
abbrev stashRSpare : sProp 𝕄 := iprop(∃ f : Buf (Elt F) ((c : Thread nD τ).loc cc0_scratch0), ((c : Thread nD τ).loc cc0_scratch0) ↦[Finset.univ \ Finset.univ.biUnion tileSet]{fullShare} f)
abbrev stashLSpare : sProp 𝕄 := iprop(∃ f : Buf (Elt F) ((c : Thread nD τ).loc cc0_scratch1), ((c : Thread nD τ).loc cc0_scratch1) ↦[Finset.univ \ Finset.univ.biUnion tileSet]{fullShare} f)

theorem tileRP_eq (g : Fin 2) (e) : tileRP (F := F) c g e = (((c : Thread nD τ).loc cc0_scratch0) ↦[tileSet g]{fullShare} e : sProp 𝕄) := by
  unfold tileRP; rw [tileR_set]; rfl
theorem tileLP_eq (g : Fin 2) (e) : tileLP (F := F) c g e = (((c : Thread nD τ).loc cc0_scratch1) ↦[tileSet g]{fullShare} e : sProp 𝕄) := by
  unfold tileLP; rw [tileL_set]; rfl
theorem pieceP_eq (i : Fin 16 × Fin 2) (f) : pieceP (F := F) c i.1 i.2 f = (((c : Thread nD τ).loc main_v9_4) ↦[pieceSet i]{fullShare} f : sProp 𝕄) := by
  unfold pieceP; rw [piece_set]; rfl

/-- What the result holds at the end: the pieces' blocks, and around them what the region found. -/
def patched (V : Buf (Elt F) ((c : Thread nD τ).loc main_v9_4)) : Buf (Elt F) ((c : Thread nD τ).loc main_v9_4) :=
  fun (i : S8192x7168.Idx) => if 5120 ≤ (i 1).val
    then X (Fin.ofNat 16 ((i 0).val / 512)) (Fin.ofNat 2 (((i 1).val - 5120) / 1024))
      (ix2 (n0 := 512) (n1 := 1024) ⟨(i 0).val % 512, Nat.mod_lt _ (by decide)⟩ ⟨((i 1).val - 5120) % 1024, Nat.mod_lt _ (by decide)⟩)
    else V i

theorem piece_emb (u : Fin 16) (m : Fin 2) (x : S512x1024.Idx) (y : S8192x7168.Idx) (hy : y = (piece u m).view.emb x) :
    (y 0).val = 512 * u.val + (x 0).val ∧ (y 1).val = 5120 + 1024 * m.val + (x 1).val := by
  subst hy
  constructor
  · show 512 * u.val + 1 * (x 0).val = _; omega
  · show 5120 + 1024 * m.val + 1 * (x 1).val = _; omega

/-- Reading a piece off the patched result is that piece's block. -/
theorem read_patched (V : Buf (Elt F) ((c : Thread nD τ).loc main_v9_4)) (u : Fin 16) (m : Fin 2) :
    (piece u m).view.read (Elt F) (patched c X V) = X u m := by
  funext x
  have h0 : (x 0).val < 512 := (x 0).isLt
  have h1 : (x 1).val < 1024 := (x 1).isLt
  have hu := u.isLt
  have hm := m.isLt
  show patched c X V ((piece u m).view.emb x) = X u m x
  obtain ⟨y, hy⟩ : ∃ y : S8192x7168.Idx, y = (piece u m).view.emb x := ⟨_, rfl⟩
  obtain ⟨e0, e1⟩ := piece_emb u m x y hy
  rw [← hy]
  unfold patched
  rw [if_pos (by omega)]
  have a0 : Fin.ofNat 16 ((y 0).val / 512) = u := Fin.ext (by simp [Fin.ofNat]; omega)
  have a1 : Fin.ofNat 2 (((y 1).val - 5120) / 1024) = m := Fin.ext (by simp [Fin.ofNat]; omega)
  rw [a0, a1]
  have hx : ∀ z : S512x1024.Idx, (z 0).val = (x 0).val → (z 1).val = (x 1).val → X u m z = X u m x := fun z z0 z1 =>
    congrArg (X u m) (funext fun a => by
      match a with
      | ⟨0, _⟩ => exact Fin.ext z0
      | ⟨1, _⟩ => exact Fin.ext z1)
  refine hx _ ?_ ?_
  · show (y 0).val % 512 = _; omega
  · show ((y 1).val - 5120) % 1024 = _; omega

/-- Off the pieces the patched result is what the region found. -/
theorem patched_spare (V : Buf (Elt F) ((c : Thread nD τ).loc main_v9_4)) (i : S8192x7168.Idx)
    (hi : i ∈ Finset.univ \ Finset.univ.biUnion pieceSet) : patched c X V i = V i := by
  have h0 : (i 0).val < 8192 := (i 0).isLt
  have h1 : (i 1).val < 7168 := (i 1).isLt
  refine if_neg fun h => (Finset.mem_sdiff.mp hi).2 (Finset.mem_biUnion.mpr
    ⟨(⟨(i 0).val / 512, by omega⟩, ⟨((i 1).val - 5120) / 1024, by omega⟩), Finset.mem_univ _, Rect.mem_set_unit.mpr fun a => ?_⟩)
  match a with
  | ⟨0, _⟩ => show 512 * ((i 0).val / 512) ≤ (i 0).val ∧ (i 0).val < 512 * ((i 0).val / 512) + 512; omega
  | ⟨1, _⟩ =>
    show 5120 + 1024 * (((i 1).val - 5120) / 1024) ≤ (i 1).val ∧ (i 1).val < 5120 + 1024 * (((i 1).val - 5120) / 1024) + 1024
    omega

/-! ## What the launch hands the ring, and takes back -/

/-- The result as the region found it is its pieces, each at something, and its elements off the pieces unchanged. -/
theorem dest_in (V : Buf (Elt F) ((c : Thread nD τ).loc main_v9_4)) :
    (((c : Thread nD τ).loc main_v9_4) ↦{fullShare} V : sProp 𝕄) ⊢ iprop(bigSep Finset.univ (stepAhead (F := F) c) ∗ destSpare c V) := by
  have e : (bigSep Finset.univ (fun i : Fin 16 × Fin 2 => iprop(∃ f, pieceP (F := F) c i.1 i.2 f)) : sProp 𝕄) = bigSep Finset.univ (stepAhead (F := F) c) := by
    rw [BI.bigSep_univ_prod]; exact BI.bigSep_congr fun u _ => Ring.bigSep_fin2 _
  rw [← e]
  iintro H
  ihave H' := (pointsTo_split_subset (q := fullShare) (f := V) (Finset.subset_univ (Finset.univ.biUnion pieceSet))).1 $$ H
  icases H' with ⟨Hs, HSp⟩
  ihave HB := (Entails.of_eq (pointsTo_biUnion (q := fullShare) (f := V) Finset.univ pieceSet (fun i _ i' _ h => pieces_disjoint i i' h))) $$ Hs
  isplitl [HB]
  · iapply (parts_mono (s := Finset.univ) fun i _ =>
      (show (((c : Thread nD τ).loc main_v9_4) ↦[pieceSet i]{fullShare} V : sProp 𝕄) ⊢ iprop(∃ f, pieceP (F := F) c i.1 i.2 f) from by
        iintro H; iexists V; iapply (Entails.of_eq (pieceP_eq c i V).symm); iexact H))
    iexact HB
  iexact HSp

/-- A landed piece holds, on its own elements, what the patched result holds there. -/
theorem landed_patched (V : Buf (Elt F) ((c : Thread nD τ).loc main_v9_4)) (i : Fin 16 × Fin 2) :
    landed c X i.1 i.2 ⊢ (((c : Thread nD τ).loc main_v9_4) ↦[pieceSet i]{fullShare} patched c X V : sProp 𝕄) := by
  iintro ⟨%f, %hf, H⟩
  iapply (Entails.of_eq (pieceP_eq c i (patched c X V)))
  have e : pieceP c i.1 i.2 f = (pieceP c i.1 i.2 (patched c X V) : sProp 𝕄) := by
    refine pointsTo_congr fun j hj => ?_
    obtain ⟨x, -, rfl⟩ := Finset.mem_map.mp hj
    exact View.eq_of_read_eq (congrFun (hf.trans (read_patched c X V i.1 i.2).symm) x)
  iapply (Entails.of_eq e)
  iexact H

/-- All pieces landed, with the elements off them, are the patched result. -/
theorem dest_out (V : Buf (Elt F) ((c : Thread nD τ).loc main_v9_4)) :
    iprop(bigSep Finset.univ (stepBehind c X) ∗ destSpare c V) ⊢ (((c : Thread nD τ).loc main_v9_4) ↦{fullShare} patched c X V : sProp 𝕄) := by
  have e : (bigSep Finset.univ (fun i : Fin 16 × Fin 2 => landed c X i.1 i.2) : sProp 𝕄) = bigSep Finset.univ (stepBehind c X) := by
    rw [BI.bigSep_univ_prod]; exact BI.bigSep_congr fun u _ => Ring.bigSep_fin2 _
  rw [← e, show destSpare c V = (destSpare c (patched c X V) : sProp 𝕄) from pointsTo_congr fun i hi => (patched_spare c X V i hi).symm]
  iintro ⟨HB, HSp⟩
  ihave HB' := (parts_mono (s := Finset.univ) fun i _ => landed_patched c X V i) $$ HB
  ihave Hs := (Entails.of_eq (pointsTo_biUnion (q := fullShare) (f := patched c X V) Finset.univ pieceSet (fun i _ i' _ h => pieces_disjoint i i' h)).symm) $$ HB'
  iapply (pointsTo_split_subset (q := fullShare) (f := patched c X V) (Finset.subset_univ (Finset.univ.biUnion pieceSet))).2
  isplitl [Hs]; · iexact Hs
  iexact HSp

theorem stashR_in : iprop(∃ f : Buf (Elt F) ((c : Thread nD τ).loc cc0_scratch0), ((c : Thread nD τ).loc cc0_scratch0) ↦{fullShare} f)
    ⊢ (iprop(bigSep Finset.univ (fun g => iprop(∃ e, tileRP (F := F) c g e)) ∗ stashRSpare c) : sProp 𝕄) :=
  Ring.pieces_split_spare (U := Pipeline.UD sig nD τ) (ℓ := (c : Thread nD τ).loc cc0_scratch0) (q := fullShare) tileSet tiles_disjoint
    (fun g e => tileRP c g e) (fun g e => tileRP_eq c g e)
theorem stashL_in : iprop(∃ f : Buf (Elt F) ((c : Thread nD τ).loc cc0_scratch1), ((c : Thread nD τ).loc cc0_scratch1) ↦{fullShare} f)
    ⊢ (iprop(bigSep Finset.univ (fun g => iprop(∃ e, tileLP (F := F) c g e)) ∗ stashLSpare c) : sProp 𝕄) :=
  Ring.pieces_split_spare (U := Pipeline.UD sig nD τ) (ℓ := (c : Thread nD τ).loc cc0_scratch1) (q := fullShare) tileSet tiles_disjoint
    (fun g e => tileLP c g e) (fun g e => tileLP_eq c g e)
theorem stashR_out : (iprop(bigSep Finset.univ (fun g => iprop(∃ e, tileRP (F := F) c g e)) ∗ stashRSpare c) : sProp 𝕄)
    ⊢ iprop(∃ f : Buf (Elt F) ((c : Thread nD τ).loc cc0_scratch0), ((c : Thread nD τ).loc cc0_scratch0) ↦{fullShare} f) :=
  Ring.pieces_join_spare (U := Pipeline.UD sig nD τ) (ℓ := (c : Thread nD τ).loc cc0_scratch0) (q := fullShare) tileSet tiles_disjoint
    (fun g e => tileRP c g e) (fun g e => tileRP_eq c g e)
theorem stashL_out : (iprop(bigSep Finset.univ (fun g => iprop(∃ e, tileLP (F := F) c g e)) ∗ stashLSpare c) : sProp 𝕄)
    ⊢ iprop(∃ f : Buf (Elt F) ((c : Thread nD τ).loc cc0_scratch1), ((c : Thread nD τ).loc cc0_scratch1) ↦{fullShare} f) :=
  Ring.pieces_join_spare (U := Pipeline.UD sig nD τ) (ℓ := (c : Thread nD τ).loc cc0_scratch1) (q := fullShare) tileSet tiles_disjoint
    (fun g e => tileLP c g e) (fun g e => tileLP_eq c g e)

/-- The four cells at zero, in the launch's order. -/
abbrev cells0 : sProp 𝕄 := iprop(semVal ((c : Thread nD τ), SemLoc.dma 23) 0 ∗ semVal ((c : Thread nD τ), SemLoc.dma 24) 0
  ∗ semVal ((c : Thread nD τ), SemLoc.dma 25) 0 ∗ semVal ((c : Thread nD τ), SemLoc.dma 26) 0)
theorem cellP_eq (g m : Fin 2) (s : SemLoc sig) (h : cell g m = s) : cellP (F := F) c g m = (semVal ((c : Thread nD τ), s) 0 : sProp 𝕄) :=
  congrArg (fun x => (semVal ((c : Thread nD τ), x) 0 : sProp 𝕄)) h
/-- Every group free is the four cells at zero and all tiles at something. -/
theorem groups_eq : (bigSep Finset.univ (groupFree (F := F) c) : sProp 𝕄)
    ⊣⊢ iprop(cells0 (F := F) c ∗ bigSep Finset.univ (fun g => iprop(∃ e, tileRP (F := F) c g e)) ∗ bigSep Finset.univ (fun g => iprop(∃ e, tileLP (F := F) c g e))) := by
  unfold cells0
  rw [Ring.bigSep_fin2, Ring.bigSep_fin2, Ring.bigSep_fin2]
  unfold groupFree
  rw [cellP_eq c 0 0 _ cell00, cellP_eq c 0 1 _ cell01, cellP_eq c 1 0 _ cell10, cellP_eq c 1 1 _ cell11]
  constructor
  · iintro ⟨⟨⟨A, B⟩, R0, L0⟩, ⟨C, D⟩, R1, L1⟩
    isplitl [A B C D]
    · isplitl [A]; · iexact A
      isplitl [B]; · iexact B
      isplitl [C]; · iexact C
      iexact D
    isplitl [R0 R1]
    · isplitl [R0]; · iexact R0
      iexact R1
    isplitl [L0]; · iexact L0
    iexact L1
  · iintro ⟨⟨A, B, C, D⟩, ⟨R0, R1⟩, L0, L1⟩
    isplitl [A B R0 L0]
    · isplitl [A B]
      · isplitl [A]; · iexact A
        iexact B
      isplitl [R0]; · iexact R0
      iexact L0
    isplitl [C D]
    · isplitl [C]; · iexact C
      iexact D
    isplitl [R1]; · iexact R1
    iexact L1

/-- Into the ring: the scratch buffers at anything, the cells at zero, the result as the region found it. -/
theorem ring_in (V : Buf (Elt F) ((c : Thread nD τ).loc main_v9_4)) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ cells0 (F := F) c ∗ ((c : Thread nD τ).loc main_v9_4) ↦{fullShare} V)
      ⊢ (iprop(ringAt c X 0 ∗ stashRSpare c ∗ stashLSpare c ∗ destSpare c V) : sProp 𝕄) := by
  unfold ringAt; rw [Ring.AtBΦ_lt _ _ _ _ _ 0 (by decide), Ring.AtB_zero]; unfold Ring.AtB₀
  iintro ⟨HR, HL, HC, HD⟩
  ihave HR' := (stashR_in c) $$ HR
  icases HR' with ⟨HR, HRs⟩
  ihave HL' := (stashL_in c) $$ HL
  icases HL' with ⟨HL, HLs⟩
  ihave HD' := (dest_in c V) $$ HD
  icases HD' with ⟨HD, HDs⟩
  isplitl [HR HL HC HD]
  · isplitl [HD]; · iexact HD
    iapply (groups_eq c).2
    isplitl [HC]; · iexact HC
    isplitl [HR]; · iexact HR
    iexact HL
  isplitl [HRs]; · iexact HRs
  isplitl [HLs]; · iexact HLs
  iexact HDs

/-- Out of the ring past its last step: the scratch buffers at something, the cells at zero, the result patched. -/
theorem ring_out (V : Buf (Elt F) ((c : Thread nD τ).loc main_v9_4)) :
    (iprop(ringAt c X 16 ∗ stashRSpare c ∗ stashLSpare c ∗ destSpare c V) : sProp 𝕄) ⊢
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ cells0 (F := F) c ∗ ((c : Thread nD τ).loc main_v9_4) ↦{fullShare} patched c X V) := by
  unfold ringAt; rw [Ring.AtBΦ_end _ _ _ _ _ 16 rfl]; unfold Ring.AtBEnd
  iintro ⟨⟨HD, HG⟩, HRs, HLs, HDs⟩
  ihave HG' := (groups_eq c).1 $$ HG
  icases HG' with ⟨HC, HR, HL⟩
  isplitl [HR HRs]
  · iapply (stashR_out c); isplitl [HR]; · iexact HR
    iexact HRs
  isplitl [HL HLs]
  · iapply (stashL_out c); isplitl [HL]; · iexact HL
    iexact HLs
  isplitl [HC]; · iexact HC
  iapply (dest_out c X V); isplitl [HD]; · iexact HD
  iexact HDs

end Families

end Cert.KernelIdeal.Mix

end
-- ==== Proof.MixNames.lean ====
/-
  The merge gradient's operands under the ring's names: at grid point `t` the slices that the body takes of the scratch
  buffers, of the result and of the semaphores are the ring's tiles, pieces and cells of step `t`.
-/
module

public import proofs.«01_k».proof.Proof.MixRing

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (Pipeline.UD sig nD τ) ℕ

/-! ## Which branches a grid point takes -/

abbrev isFirst (i : grid0.Coords) : Prop := (Scalar.cmpi .ne (Scalar.extui (Scalar.cmpi .eq (BitVec.ofNat 32 (i 0).val) 0#32)) 0#32) = 1#1
abbrev isLater (i : grid0.Coords) : Prop := k0_cond2 i = 1#1
abbrev isLast (i : grid0.Coords) : Prop := k0_cond3 i = 1#1

theorem isFirst_iff : ∀ t : Fin grid0.N, isFirst (grid0.coords t) ↔ t.val = 0 := by decide +kernel
theorem isLater_iff : ∀ t : Fin grid0.N, isLater (grid0.coords t) ↔ t.val ≠ 0 := by decide +kernel
theorem isLast_iff : ∀ t : Fin grid0.N, isLast (grid0.coords t) ↔ t.val = 15 := by decide +kernel

/-! ## The offsets in closed form -/

set_option synthInstance.maxSize 4096 in
theorem off1_eq : ∀ t : Fin grid0.N, k0_off1 (grid0.coords t) = ![(Ring.sl 2 t.val).val, 0, 0] := by decide +kernel
set_option synthInstance.maxSize 4096 in
theorem off2_eq : ∀ t : Fin grid0.N, k0_off2 (grid0.coords t) = ![(Ring.sl 2 (t.val + 1)).val, 0] := by decide +kernel
set_option synthInstance.maxSize 4096 in
theorem off4_eq : ∀ t : Fin grid0.N, k0_off4 (grid0.coords t) = ![(Ring.sl 2 (t.val + 1)).val, 0, 0] := by decide +kernel
set_option synthInstance.maxSize 4096 in
theorem off5_eq : ∀ t : Fin grid0.N, k0_off5 (grid0.coords t) = ![(Ring.sl 2 (t.val + 1)).val, 1] := by decide +kernel
set_option synthInstance.maxSize 4096 in
theorem off7_eq : ∀ t : Fin grid0.N, k0_off7 (grid0.coords t) = ![(Ring.sl 2 t.val).val, 0] := by decide +kernel
set_option synthInstance.maxSize 4096 in
theorem off8_eq : ∀ t : Fin grid0.N, k0_off8 (grid0.coords t) = ![512 * (Ring.bk 16 t.val).val, 5120] := by decide +kernel
set_option synthInstance.maxSize 4096 in
theorem off9_eq : ∀ t : Fin grid0.N, k0_off9 (grid0.coords t) = ![(Ring.sl 2 t.val).val, 0, 0] := by decide +kernel
set_option synthInstance.maxSize 4096 in
theorem off10_eq : ∀ t : Fin grid0.N, k0_off10 (grid0.coords t) = ![(Ring.sl 2 t.val).val, 1] := by decide +kernel
set_option synthInstance.maxSize 4096 in
theorem off11_eq : ∀ t : Fin grid0.N, k0_off11 (grid0.coords t) = ![512 * (Ring.bk 16 t.val).val, 6144] := by decide +kernel
set_option synthInstance.maxSize 4096 in
theorem off12_eq : ∀ t : Fin grid0.N, k0_off12 (grid0.coords t) = ![(Ring.sl 2 t.val).val, 0] := by decide +kernel
set_option synthInstance.maxSize 4096 in
theorem off14_eq : ∀ t : Fin grid0.N, k0_off14 (grid0.coords t) = ![(Ring.sl 2 t.val).val, 0, 0] := by decide +kernel
set_option synthInstance.maxSize 4096 in
theorem off15_eq : ∀ t : Fin grid0.N, k0_off15 (grid0.coords t) = ![(Ring.sl 2 t.val).val, 1] := by decide +kernel

/-- The store of a packed tile is seen inside the tile of the step's half. -/
instance (priority := high) storeOff (t : Fin grid0.N) : ClosedOff (k0_off1 (grid0.coords t)) := ⟨![(Ring.sl 2 t.val).val, 0, 0], off1_eq t⟩

/-! ## The slices as the ring's cells, tiles and pieces -/

@[sl_canon] theorem cell2_name (t : Fin grid0.N) (h : isLater (grid0.coords t)) :
    (cc0_scratch2.slice (Rect.unit (s := S2x2) (k0_off2 (grid0.coords t)) S1x1.size (k0_off2_inb (grid0.coords t) h))).squeeze S_ squeezes_S1x1_S_ = cellA (Ring.sl 2 (t.val + 1)) 0 :=
  congrArg (fun A : DmaSems sig S1x1 => A.squeeze S_ squeezes_S1x1_S_) (SemArray.slice_unit_congr _ (off2_eq t) _ _)
@[sl_canon] theorem cell2_name' (t : Fin grid0.N) (h : isLater (grid0.coords t)) :
    (cc0_scratch2.slice (Rect.unit (s := S2x2) (k0_off2 (grid0.coords t)) ![1, 1] (k0_off2_inb (grid0.coords t) h))).squeeze S_ squeezes_S1x1_S_ = cellA (Ring.sl 2 (t.val + 1)) 0 :=
  cell2_name t h
@[sl_canon] theorem cell5_name (t : Fin grid0.N) (h : isLater (grid0.coords t)) :
    (cc0_scratch2.slice (Rect.unit (s := S2x2) (k0_off5 (grid0.coords t)) S1x1.size (k0_off5_inb (grid0.coords t) h))).squeeze S_ squeezes_S1x1_S_ = cellA (Ring.sl 2 (t.val + 1)) 1 :=
  congrArg (fun A : DmaSems sig S1x1 => A.squeeze S_ squeezes_S1x1_S_) (SemArray.slice_unit_congr _ (off5_eq t) _ _)
@[sl_canon] theorem cell5_name' (t : Fin grid0.N) (h : isLater (grid0.coords t)) :
    (cc0_scratch2.slice (Rect.unit (s := S2x2) (k0_off5 (grid0.coords t)) ![1, 1] (k0_off5_inb (grid0.coords t) h))).squeeze S_ squeezes_S1x1_S_ = cellA (Ring.sl 2 (t.val + 1)) 1 :=
  cell5_name t h
@[sl_canon] theorem cell7_name (t : Fin grid0.N) :
    (cc0_scratch2.slice (Rect.unit (s := S2x2) (k0_off7 (grid0.coords t)) S1x1.size (k0_off7_inb (grid0.coords t)))).squeeze S_ squeezes_S1x1_S_ = cellA (Ring.sl 2 t.val) 0 :=
  congrArg (fun A : DmaSems sig S1x1 => A.squeeze S_ squeezes_S1x1_S_) (SemArray.slice_unit_congr _ (off7_eq t) _ _)
@[sl_canon] theorem cell7_name' (t : Fin grid0.N) :
    (cc0_scratch2.slice (Rect.unit (s := S2x2) (k0_off7 (grid0.coords t)) ![1, 1] (k0_off7_inb (grid0.coords t)))).squeeze S_ squeezes_S1x1_S_ = cellA (Ring.sl 2 t.val) 0 :=
  cell7_name t
@[sl_canon] theorem cell10_name (t : Fin grid0.N) :
    (cc0_scratch2.slice (Rect.unit (s := S2x2) (k0_off10 (grid0.coords t)) S1x1.size (k0_off10_inb (grid0.coords t)))).squeeze S_ squeezes_S1x1_S_ = cellA (Ring.sl 2 t.val) 1 :=
  congrArg (fun A : DmaSems sig S1x1 => A.squeeze S_ squeezes_S1x1_S_) (SemArray.slice_unit_congr _ (off10_eq t) _ _)
@[sl_canon] theorem cell10_name' (t : Fin grid0.N) :
    (cc0_scratch2.slice (Rect.unit (s := S2x2) (k0_off10 (grid0.coords t)) ![1, 1] (k0_off10_inb (grid0.coords t)))).squeeze S_ squeezes_S1x1_S_ = cellA (Ring.sl 2 t.val) 1 :=
  cell10_name t
@[sl_canon] theorem cell12_name (t : Fin grid0.N) (h : isLast (grid0.coords t)) :
    (cc0_scratch2.slice (Rect.unit (s := S2x2) (k0_off12 (grid0.coords t)) S1x1.size (k0_off12_inb (grid0.coords t) h))).squeeze S_ squeezes_S1x1_S_ = cellA (Ring.sl 2 t.val) 0 :=
  congrArg (fun A : DmaSems sig S1x1 => A.squeeze S_ squeezes_S1x1_S_) (SemArray.slice_unit_congr _ (off12_eq t) _ _)
@[sl_canon] theorem cell12_name' (t : Fin grid0.N) (h : isLast (grid0.coords t)) :
    (cc0_scratch2.slice (Rect.unit (s := S2x2) (k0_off12 (grid0.coords t)) ![1, 1] (k0_off12_inb (grid0.coords t) h))).squeeze S_ squeezes_S1x1_S_ = cellA (Ring.sl 2 t.val) 0 :=
  cell12_name t h
@[sl_canon] theorem cell15_name (t : Fin grid0.N) (h : isLast (grid0.coords t)) :
    (cc0_scratch2.slice (Rect.unit (s := S2x2) (k0_off15 (grid0.coords t)) S1x1.size (k0_off15_inb (grid0.coords t) h))).squeeze S_ squeezes_S1x1_S_ = cellA (Ring.sl 2 t.val) 1 :=
  congrArg (fun A : DmaSems sig S1x1 => A.squeeze S_ squeezes_S1x1_S_) (SemArray.slice_unit_congr _ (off15_eq t) _ _)
@[sl_canon] theorem cell15_name' (t : Fin grid0.N) (h : isLast (grid0.coords t)) :
    (cc0_scratch2.slice (Rect.unit (s := S2x2) (k0_off15 (grid0.coords t)) ![1, 1] (k0_off15_inb (grid0.coords t) h))).squeeze S_ squeezes_S1x1_S_ = cellA (Ring.sl 2 t.val) 1 :=
  cell15_name t h
@[sl_canon] theorem tileR4_name (t : Fin grid0.N) (h : isLater (grid0.coords t)) :
    (stashR.slice (Rect.unit (s := S2x512x1024) (k0_off4 (grid0.coords t)) S1x512x1024.size (k0_off4_inb (grid0.coords t) h)) (fun _ => rfl)).squeeze S512x1024 squeezes_S1x512x1024_S512x1024 = tileR (Ring.sl 2 (t.val + 1)) :=
  congrArg (fun M : Memref sig .tc .vmem S1x512x1024 .bf16 => M.squeeze S512x1024 squeezes_S1x512x1024_S512x1024) (Memref.slice_unit_congr _ (off4_eq t) _ _ (fun _ => rfl) (fun _ => rfl))
@[sl_canon] theorem tileR4_name' (t : Fin grid0.N) (h : isLater (grid0.coords t)) :
    (stashR.slice (Rect.unit (s := S2x512x1024) (k0_off4 (grid0.coords t)) ![1, 512, 1024] (k0_off4_inb (grid0.coords t) h)) (fun _ => rfl)).squeeze S512x1024 squeezes_S1x512x1024_S512x1024 = tileR (Ring.sl 2 (t.val + 1)) :=
  tileR4_name t h
@[sl_canon] theorem tileR9_name (t : Fin grid0.N) :
    (stashR.slice (Rect.unit (s := S2x512x1024) (k0_off9 (grid0.coords t)) S1x512x1024.size (k0_off9_inb (grid0.coords t))) (fun _ => rfl)).squeeze S512x1024 squeezes_S1x512x1024_S512x1024 = tileR (Ring.sl 2 t.val) :=
  congrArg (fun M : Memref sig .tc .vmem S1x512x1024 .bf16 => M.squeeze S512x1024 squeezes_S1x512x1024_S512x1024) (Memref.slice_unit_congr _ (off9_eq t) _ _ (fun _ => rfl) (fun _ => rfl))
@[sl_canon] theorem tileR9_name' (t : Fin grid0.N) :
    (stashR.slice (Rect.unit (s := S2x512x1024) (k0_off9 (grid0.coords t)) ![1, 512, 1024] (k0_off9_inb (grid0.coords t))) (fun _ => rfl)).squeeze S512x1024 squeezes_S1x512x1024_S512x1024 = tileR (Ring.sl 2 t.val) :=
  tileR9_name t
@[sl_canon] theorem tileR14_name (t : Fin grid0.N) (h : isLast (grid0.coords t)) :
    (stashR.slice (Rect.unit (s := S2x512x1024) (k0_off14 (grid0.coords t)) S1x512x1024.size (k0_off14_inb (grid0.coords t) h)) (fun _ => rfl)).squeeze S512x1024 squeezes_S1x512x1024_S512x1024 = tileR (Ring.sl 2 t.val) :=
  congrArg (fun M : Memref sig .tc .vmem S1x512x1024 .bf16 => M.squeeze S512x1024 squeezes_S1x512x1024_S512x1024) (Memref.slice_unit_congr _ (off14_eq t) _ _ (fun _ => rfl) (fun _ => rfl))
@[sl_canon] theorem tileR14_name' (t : Fin grid0.N) (h : isLast (grid0.coords t)) :
    (stashR.slice (Rect.unit (s := S2x512x1024) (k0_off14 (grid0.coords t)) ![1, 512, 1024] (k0_off14_inb (grid0.coords t) h)) (fun _ => rfl)).squeeze S512x1024 squeezes_S1x512x1024_S512x1024 = tileR (Ring.sl 2 t.val) :=
  tileR14_name t h
@[sl_canon] theorem tileL4_name (t : Fin grid0.N) (h : isLater (grid0.coords t)) :
    (stashL.slice (Rect.unit (s := S2x512x1024) (k0_off4 (grid0.coords t)) S1x512x1024.size (k0_off4_inb (grid0.coords t) h)) (fun _ => rfl)).squeeze S512x1024 squeezes_S1x512x1024_S512x1024 = tileL (Ring.sl 2 (t.val + 1)) :=
  congrArg (fun M : Memref sig .tc .vmem S1x512x1024 .bf16 => M.squeeze S512x1024 squeezes_S1x512x1024_S512x1024) (Memref.slice_unit_congr _ (off4_eq t) _ _ (fun _ => rfl) (fun _ => rfl))
@[sl_canon] theorem tileL4_name' (t : Fin grid0.N) (h : isLater (grid0.coords t)) :
    (stashL.slice (Rect.unit (s := S2x512x1024) (k0_off4 (grid0.coords t)) ![1, 512, 1024] (k0_off4_inb (grid0.coords t) h)) (fun _ => rfl)).squeeze S512x1024 squeezes_S1x512x1024_S512x1024 = tileL (Ring.sl 2 (t.val + 1)) :=
  tileL4_name t h
@[sl_canon] theorem tileL9_name (t : Fin grid0.N) :
    (stashL.slice (Rect.unit (s := S2x512x1024) (k0_off9 (grid0.coords t)) S1x512x1024.size (k0_off9_inb (grid0.coords t))) (fun _ => rfl)).squeeze S512x1024 squeezes_S1x512x1024_S512x1024 = tileL (Ring.sl 2 t.val) :=
  congrArg (fun M : Memref sig .tc .vmem S1x512x1024 .bf16 => M.squeeze S512x1024 squeezes_S1x512x1024_S512x1024) (Memref.slice_unit_congr _ (off9_eq t) _ _ (fun _ => rfl) (fun _ => rfl))
@[sl_canon] theorem tileL9_name' (t : Fin grid0.N) :
    (stashL.slice (Rect.unit (s := S2x512x1024) (k0_off9 (grid0.coords t)) ![1, 512, 1024] (k0_off9_inb (grid0.coords t))) (fun _ => rfl)).squeeze S512x1024 squeezes_S1x512x1024_S512x1024 = tileL (Ring.sl 2 t.val) :=
  tileL9_name t
@[sl_canon] theorem tileL14_name (t : Fin grid0.N) (h : isLast (grid0.coords t)) :
    (stashL.slice (Rect.unit (s := S2x512x1024) (k0_off14 (grid0.coords t)) S1x512x1024.size (k0_off14_inb (grid0.coords t) h)) (fun _ => rfl)).squeeze S512x1024 squeezes_S1x512x1024_S512x1024 = tileL (Ring.sl 2 t.val) :=
  congrArg (fun M : Memref sig .tc .vmem S1x512x1024 .bf16 => M.squeeze S512x1024 squeezes_S1x512x1024_S512x1024) (Memref.slice_unit_congr _ (off14_eq t) _ _ (fun _ => rfl) (fun _ => rfl))
@[sl_canon] theorem tileL14_name' (t : Fin grid0.N) (h : isLast (grid0.coords t)) :
    (stashL.slice (Rect.unit (s := S2x512x1024) (k0_off14 (grid0.coords t)) ![1, 512, 1024] (k0_off14_inb (grid0.coords t) h)) (fun _ => rfl)).squeeze S512x1024 squeezes_S1x512x1024_S512x1024 = tileL (Ring.sl 2 t.val) :=
  tileL14_name t h
@[sl_canon] theorem piece8_name (t : Fin grid0.N) :
    dest.slice (Rect.unit (s := S8192x7168) (k0_off8 (grid0.coords t)) S512x1024.size (k0_off8_inb (grid0.coords t))) (fun _ => rfl) = piece (Ring.bk 16 t.val) 0 :=
  Memref.slice_unit_congr _ (off8_eq t) _ _ (fun _ => rfl) (fun _ => rfl)
@[sl_canon] theorem piece8_name' (t : Fin grid0.N) :
    dest.slice (Rect.unit (s := S8192x7168) (k0_off8 (grid0.coords t)) ![512, 1024] (k0_off8_inb (grid0.coords t))) (fun _ => rfl) = piece (Ring.bk 16 t.val) 0 :=
  piece8_name t
@[sl_canon] theorem piece11_name (t : Fin grid0.N) :
    dest.slice (Rect.unit (s := S8192x7168) (k0_off11 (grid0.coords t)) S512x1024.size (k0_off11_inb (grid0.coords t))) (fun _ => rfl) = piece (Ring.bk 16 t.val) 1 :=
  Memref.slice_unit_congr _ (off11_eq t) _ _ (fun _ => rfl) (fun _ => rfl)
@[sl_canon] theorem piece11_name' (t : Fin grid0.N) :
    dest.slice (Rect.unit (s := S8192x7168) (k0_off11 (grid0.coords t)) ![512, 1024] (k0_off11_inb (grid0.coords t))) (fun _ => rfl) = piece (Ring.bk 16 t.val) 1 :=
  piece11_name t

end Cert.KernelIdeal.Mix

end
-- ==== Proof.MixStep.lean ====
/-
  What one step of the merge gradient computes, from the blocks it is given: the four gradient blocks it writes, the two
  tiles it packs for the projection's gradient, and the bias accumulator after it.
-/
module

public import proofs.«01_k».proof.Proof.MixRing

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-- The blocks of one step: the cotangent, the two branch outputs, the two gates, the three weights, the gates' biases. -/
structure Blocks (F : FTy → Type) where
  dx : Vec F S512x1024 .bf16
  ya : Vec F S512x1024 .bf16
  yb : Vec F S512x1024 .bf16
  gr : Vec F S512x1024 .bf16
  gl : Vec F S512x1024 .bf16
  wro : Vec F S1024x1024 .bf16
  wlo : Vec F S1024x1024 .bf16
  wout : Vec F S1024x1024 .bf16
  mb : Vec F S2x1024 .f32

/-- Row `r` of a two-row array, as a one-row array. -/
def row (r : Fin 2) (x : Vec F S2x1024 .f32) : Vec F S1x1024 .f32 := fun j => x (ix2 (n0 := 2) (n1 := 1024) r (j 1))

namespace Blocks
variable (B : Blocks F)

/-- The cotangent of the mixed branches. -/
def dmix : FVec F S512x1024 .f32 := k0_pay1 B.dx B.wout
/-- The gradients of the branch outputs, and of what was projected to them. -/
def dya : Vec F S512x1024 .bf16 := k0_pay8 B.dmix (k0_pay4 B.gr (row 0 B.mb)) k0_pay5
def dyb : Vec F S512x1024 .bf16 := k0_pay9 B.dmix B.gl (row 1 B.mb)
def da : Vec F S512x1024 .bf16 := k0_pay14 B.dya B.wro
def db : Vec F S512x1024 .bf16 := k0_pay15 B.dyb B.wlo
/-- The gradients of the two gates before rounding, and the tiles packed of them. -/
def dgr : FVec F S512x1024 .f32 := k0_pay10 B.dmix (k0_pay2 B.ya) (k0_pay4 B.gr (row 0 B.mb)) k0_pay5
def dgl : FVec F S512x1024 .f32 := k0_pay11 B.dmix (k0_pay3 B.yb) B.gl (row 1 B.mb)
def tile (m : Fin 2) : Vec F S512x1024 .bf16 := if m = 0 then truncf .bf16 B.dgr bitsLt_bf16_f32 else truncf .bf16 B.dgl bitsLt_bf16_f32
/-- The bias accumulator after the step. -/
def acc (a : Vec F S2x1024 .f32) : Vec F S2x1024 .f32 := fun j =>
  if (j 0).val = 0 then k0_pay17 B.dgr (row 0 a) (ix2 (n0 := 1) (n1 := 1024) 0 (j 1)) else k0_pay18 B.dgl (row 1 a) (ix2 (n0 := 1) (n1 := 1024) 0 (j 1))
end Blocks

end Cert.KernelIdeal.Mix

end
-- ==== Proof.MixReads.lean ====
/-
  What the merge gradient's body reads: rows of the two-row arrays, the accumulator after its two row stores, and a
  packed tile after its store.
-/
module

public import proofs.«01_k».proof.Proof.MixNames
public import proofs.«01_k».proof.Proof.MixStep
public import Idealize.ShloMosaic.Lib.VecWindow
public import Idealize.ShloMosaic.Lib.WholeRead
public import Idealize.ShloMosaic.Lib.Writes
public import Idealize.ShloMosaic.Lib.Pipeline.Value

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-- A load of row 0, and of row 1, of a two-row memref. -/
theorem load_row0 (M : Memref sig .tc .vmem S2x1024 .f32) (f : M.view.ty.Contents (Elt F)) (inb) :
    View.readAt (Elt F) M.view (Rect.unit (s := S2x1024) ![0, 0] S1x1024.size inb).toLoadRect f = row 0 (M.view.read (Elt F) f) := by
  funext j
  refine congrArg (M.view.read (Elt F) f) (funext fun a => ?_)
  match a with
  | ⟨0, _⟩ => exact Fin.ext (show 0 + 1 * (j 0).val = 0 by have : (j 0).val < 1 := (j 0).isLt; omega)
  | ⟨1, _⟩ => exact Fin.ext (show 0 + 1 * (j 1).val = (j 1).val by omega)
theorem load_row1 (M : Memref sig .tc .vmem S2x1024 .f32) (f : M.view.ty.Contents (Elt F)) (inb) :
    View.readAt (Elt F) M.view (Rect.unit (s := S2x1024) ![1, 0] S1x1024.size inb).toLoadRect f = row 1 (M.view.read (Elt F) f) := by
  funext j
  refine congrArg (M.view.read (Elt F) f) (funext fun a => ?_)
  match a with
  | ⟨0, _⟩ => exact Fin.ext (show 1 + 1 * (j 0).val = 1 by have : (j 0).val < 1 := (j 0).isLt; omega)
  | ⟨1, _⟩ => exact Fin.ext (show 0 + 1 * (j 1).val = (j 1).val by omega)

/-- The loads of a whole block, and of a row, with the sizes written out. -/
theorem load_block (M : Memref sig .tc .vmem S512x1024 .bf16) (f : M.view.ty.Contents (Elt F)) (inb) :
    View.readAt (Elt F) M.view (Rect.unit (s := S512x1024) ![0, 0] ![512, 1024] inb).toLoadRect f = M.view.read (Elt F) f :=
  View.readAt_full M.view f inb
theorem load_weight (M : Memref sig .tc .vmem S1024x1024 .bf16) (f : M.view.ty.Contents (Elt F)) (inb) :
    View.readAt (Elt F) M.view (Rect.unit (s := S1024x1024) ![0, 0] ![1024, 1024] inb).toLoadRect f = M.view.read (Elt F) f :=
  View.readAt_full M.view f inb
theorem load_row0' (M : Memref sig .tc .vmem S2x1024 .f32) (f : M.view.ty.Contents (Elt F)) (inb) :
    View.readAt (Elt F) M.view (Rect.unit (s := S2x1024) ![0, 0] ![1, 1024] inb).toLoadRect f = row 0 (M.view.read (Elt F) f) := load_row0 M f inb
theorem load_row1' (M : Memref sig .tc .vmem S2x1024 .f32) (f : M.view.ty.Contents (Elt F)) (inb) :
    View.readAt (Elt F) M.view (Rect.unit (s := S2x1024) ![1, 0] ![1, 1024] inb).toLoadRect f = row 1 (M.view.read (Elt F) f) := load_row1 M f inb

/-- Row 1 after a store of row 0 is row 1 from before. -/
theorem row1_after_row0 (M : Memref sig .tc .vmem S2x1024 .f32) (f : M.view.ty.Contents (Elt F)) (w0 : Vec F S1x1024 .f32)
    (L : List (View.Piece (Elt F) S2x1024 .f32)) :
    row 1 (M.view.read (Elt F) (M.view.writes (Elt F) f (⟨Rect.unit ![0, 0] S1x1024.size inb_S2x1024_S1x1024_0_0, w0⟩ :: L)))
      = row 1 (M.view.read (Elt F) (M.view.writes (Elt F) f L)) :=
  funext fun _ => View.read_writes_cons_miss_of_axis M.view f _ _ _ 0 0 1 rfl rfl rfl (Or.inr (Nat.le_refl 1))

/-- The rows of an accumulator filled with `w`, the second read after the first is stored again. -/
theorem cov_row0 (M : Memref sig .tc .vmem S2x1024 .f32) (w : Vec F S2x1024 .f32) (h0 h2) :
    M.view.readCov [⟨Rect.unit (s := S2x1024) ![0, 0] ![2, 1024] h2, w⟩] (Rect.unit (s := S2x1024) ![0, 0] ![1, 1024] h0).toLoadRect = row 0 w :=
  (load_row0 M _ h0).trans (congrArg (row 0) (View.read_writes_full M.view _ h2 w []))
theorem cov_row1 (M : Memref sig .tc .vmem S2x1024 .f32) (w : Vec F S2x1024 .f32) (w0 : Vec F S1x1024 .f32) (h0 h1 h2) :
    M.view.readCov [⟨Rect.unit (s := S2x1024) ![0, 0] ![1, 1024] h0, w0⟩, ⟨Rect.unit (s := S2x1024) ![0, 0] ![2, 1024] h2, w⟩]
      (Rect.unit (s := S2x1024) ![1, 0] ![1, 1024] h1).toLoadRect = row 1 w :=
  (load_row1 M _ h1).trans ((row1_after_row0 M _ w0 _).trans (congrArg (row 1) (View.read_writes_full M.view _ h2 w [])))

/-- After a store of row 0 and then of row 1 a two-row memref reads the two rows. -/
theorem read_rows (M : Memref sig .tc .vmem S2x1024 .f32) (f : M.view.ty.Contents (Elt F)) (w0 w1 : Vec F S1x1024 .f32)
    (L : List (View.Piece (Elt F) S2x1024 .f32)) :
    M.view.read (Elt F) (M.view.writes (Elt F) f
        (⟨Rect.unit ![1, 0] S1x1024.size inb_S2x1024_S1x1024_1_0, w1⟩ :: ⟨Rect.unit ![0, 0] S1x1024.size inb_S2x1024_S1x1024_0_0, w0⟩ :: L))
      = fun j => if (j 0).val = 0 then w0 (ix2 (n0 := 1) (n1 := 1024) 0 (j 1)) else w1 (ix2 (n0 := 1) (n1 := 1024) 0 (j 1)) := by
  funext j
  have h0 : (j 0).val < 2 := (j 0).isLt
  by_cases h : (j 0).val = 0
  · rw [if_pos h, View.read_writes_cons_miss_of_axis M.view f _ _ j 0 1 1 rfl rfl rfl (Or.inl (by omega))]
    refine View.read_writes_cons_hit M.view f (Rect.unit (s := S2x1024) ![0, 0] S1x1024.size inb_S2x1024_S1x1024_0_0) w0 _ (ix2 (n0 := 1) (n1 := 1024) 0 (j 1)) j (funext fun a => ?_)
    match a with
    | ⟨0, _⟩ => exact Fin.ext (show 0 + 1 * 0 = (j 0).val by omega)
    | ⟨1, _⟩ => exact Fin.ext (show 0 + 1 * (j 1).val = (j 1).val by omega)
  · rw [if_neg h]
    refine View.read_writes_cons_hit M.view f (Rect.unit (s := S2x1024) ![1, 0] S1x1024.size inb_S2x1024_S1x1024_1_0) w1 _ (ix2 (n0 := 1) (n1 := 1024) 0 (j 1)) j (funext fun a => ?_)
    match a with
    | ⟨0, _⟩ => exact Fin.ext (show 1 + 1 * 0 = (j 0).val by omega)
    | ⟨1, _⟩ => exact Fin.ext (show 0 + 1 * (j 1).val = (j 1).val by omega)

/-- A tile after the store of the step's packed block reads that block. -/
theorem read_packedR (c : Dev nD) (t : Fin grid0.N) (e : Held (F := F) c (tileR (Ring.sl 2 t.val))) (v : Vec F S512x1024 .bf16) (h) :
    (tileR (Ring.sl 2 t.val)).view.read (Elt F) (View.write (Elt F) (stashR.access (Rect.unit (k0_off1 (grid0.coords t)) S1x512x1024.size h)) e
      (shapeCast S1x512x1024 v shapeCasts_S512x1024_S1x512x1024) Finset.univ) = v := by
  have key : ∀ (off : Fin 3 → ℕ) (h), off = ![(Ring.sl 2 t.val).val, 0, 0] → (tileR (Ring.sl 2 t.val)).view.read (Elt F)
      (View.write (Elt F) (stashR.access (Rect.unit off S1x512x1024.size h)) e (shapeCast S1x512x1024 v shapeCasts_S512x1024_S1x512x1024) Finset.univ) = v := by
    intro off h ho
    subst ho
    funext x
    refine (congrFun (View.read_write_univ (v := stashR.access (Rect.unit (s := S2x512x1024) ![(Ring.sl 2 t.val).val, 0, 0] S1x512x1024.size h)) e _) _).trans ?_
    exact congrFun (Idealize.ShloMosaic.shapeCast_shapeCast v shapeCasts_S512x1024_S1x512x1024 (by decide)) x
  exact key _ h (off1_eq t)
theorem read_packedL (c : Dev nD) (t : Fin grid0.N) (e : Held (F := F) c (tileL (Ring.sl 2 t.val))) (v : Vec F S512x1024 .bf16) (h) :
    (tileL (Ring.sl 2 t.val)).view.read (Elt F) (View.write (Elt F) (stashL.access (Rect.unit (k0_off1 (grid0.coords t)) S1x512x1024.size h)) e
      (shapeCast S1x512x1024 v shapeCasts_S512x1024_S1x512x1024) Finset.univ) = v := by
  have key : ∀ (off : Fin 3 → ℕ) (h), off = ![(Ring.sl 2 t.val).val, 0, 0] → (tileL (Ring.sl 2 t.val)).view.read (Elt F)
      (View.write (Elt F) (stashL.access (Rect.unit off S1x512x1024.size h)) e (shapeCast S1x512x1024 v shapeCasts_S512x1024_S1x512x1024) Finset.univ) = v := by
    intro off h ho
    subst ho
    funext x
    refine (congrFun (View.read_write_univ (v := stashL.access (Rect.unit (s := S2x512x1024) ![(Ring.sl 2 t.val).val, 0, 0] S1x512x1024.size h)) e _) _).trans ?_
    exact congrFun (Idealize.ShloMosaic.shapeCast_shapeCast v shapeCasts_S512x1024_S1x512x1024 (by decide)) x
  exact key _ h (off1_eq t)

/-- A piece written whole reads what was written. -/
theorem read_piece (u : Fin 16) (m : Fin 2) (f : (piece u m).view.ty.Contents (Elt F)) (w : Vec F S512x1024 .bf16) :
    (piece u m).view.read (Elt F) ((piece u m).view.writes (Elt F) f [⟨Rect.whole S512x1024, w⟩]) = w := by
  funext x
  refine View.read_writes_cons_hit _ f (Rect.whole S512x1024) w [] x x (funext fun a => Fin.ext ?_)
  show 0 + 1 * (x a).val = (x a).val
  omega

end Cert.KernelIdeal.Mix

end
-- ==== Proof.MixRunFirst.lean ====
/-
  The run of the merge gradient's body at the first grid point: nothing is waited, the bias accumulator starts at zero.
-/
module

public import proofs.«01_k».proof.Proof.MixReads

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (Pipeline.UD sig nD τ) ℕ

variable (X : Fin 16 → Fin 2 → Vec F S512x1024 .bf16)

set_option maxHeartbeats 4000000 in
/-- From the step's blocks `B` and the ring's pieces of the step, the body leaves the gradient blocks of `B`, the
    accumulator after `B`, and the ring's pieces as the next step finds them, the step's copies carrying `B`'s tiles. -/
theorem run_first (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg15 : Memref sig .tc .vmem S2x1024 .f32) (harg15 : arg15.IsWhole)
    (hc0 : isFirst (grid0.coords t)) (hc1 : ¬isLater (grid0.coords t)) (hc2 : ¬isLast (grid0.coords t))
    (B : Blocks F) (hX : ∀ m, X (Ring.bk 16 t.val) m = B.tile m) (W : Waits sig Unit) (K : PUnit → sProp 𝕄) :
    iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d)
        ∗ stepAhead (F := F) c (Ring.bk 16 t.val) ∗ groupFree (F := F) c (Ring.sl 2 t.val) ∗ owes (c : Thread nD τ) 0 W
        ∗ (iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ owns (c : Thread nD τ) arg10 fullShare B.da ∗ owns (c : Thread nD τ) arg11 fullShare B.db ∗ owns (c : Thread nD τ) arg12 fullShare B.dya ∗ owns (c : Thread nD τ) arg13 fullShare B.dyb ∗ owns (c : Thread nD τ) arg15 fullShare (B.acc k0_pay16)
            ∗ groupInfl c X (Ring.sl 2 t.val) (Ring.bk 16 t.val) ∗ (∃ W', owes (c : Thread nD τ) 0 W')) -∗ K ⟨⟩))
      ⊢ wp frame (wpE (defs₀ (F := F)) Variants.none c none) Set.univ (cc0_mix_bwd (grid0.coords t) arg1 harg1 arg2 harg2 arg3 harg3 arg4 harg4 arg5 harg5 arg6 harg6 arg7 harg7 arg8 harg8 arg9 harg9 arg10 harg10 arg11 harg11 arg12 harg12 arg13 harg13 dest (Memref.isWhole_whole _) arg15 harg15 stashR (Memref.isWhole_whole _) stashL (Memref.isWhole_whole _) cc0_scratch2) K := by
  haveI : Fact (isFirst (grid0.coords t)) := ⟨hc0⟩
  haveI : Fact (¬isLater (grid0.coords t)) := ⟨hc1⟩
  haveI : Fact (¬isLast (grid0.coords t)) := ⟨hc2⟩
  simp only [cc0_mix_bwd_eq_skeleton]; unfold cc0_mix_bwd_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d15, %f15, -, H15⟩, ⟨⟨%fR, HpR⟩, ⟨%fL, HpL⟩⟩, ⟨⟨HqR, HqL⟩, ⟨%eR, HtR⟩, ⟨%eL, HtL⟩⟩, HW, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]
  isplitl [H11]
  · iexists _; isplitr; swap; · iexact H11
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]
  isplitl [H12]
  · iexists _; isplitr; swap; · iexact H12
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]
  isplitl [H13]
  · iexists _; isplitr; swap; · iexact H13
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]
  isplitl [H15]
  · iexists _; isplitr; swap; · iexact H15
    ipureintro; sl_unfold_run_names; refine (read_rows _ _ _ _ _).trans ?_; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, cov_row0, cov_row1]; rfl
  isplitl [HqR HqL]
  · isplitl [HqR]
    · iexists _, _; isplitr; swap; · iexact HqR
      ipureintro; refine (read_piece _ _ _ _).trans (Eq.trans ?_ (hX 0).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]; exact read_packedR c t _ (truncf .bf16 B.dgr bitsLt_bf16_f32) _
    iexists _, _; isplitr; swap; · iexact HqL
    ipureintro; refine (read_piece _ _ _ _).trans (Eq.trans ?_ (hX 1).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread]; exact read_packedL c t _ (truncf .bf16 B.dgl bitsLt_bf16_f32) _
  iexists _; iexact HW

end Cert.KernelIdeal.Mix

end
-- ==== Proof.MixRunMid.lean ====
/-
  The run of the merge gradient's body at a grid point that is neither the first nor the last: the copies of the step before are waited, this step's are left under way.
-/
module

public import proofs.«01_k».proof.Proof.MixReads
public import proofs.«01_k».proof.Proof.MixRunFirst

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (Pipeline.UD sig nD τ) ℕ

variable (X : Fin 16 → Fin 2 → Vec F S512x1024 .bf16)

set_option maxHeartbeats 4000000 in
/-- From the step's blocks `B`, the bias accumulator at `a` and the ring's pieces of the step, the body leaves the gradient blocks of `B`, the
    accumulator after `B`, and the ring's pieces as the next step finds them, the step's copies carrying `B`'s tiles. -/
theorem run_mid (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg15 : Memref sig .tc .vmem S2x1024 .f32) (harg15 : arg15.IsWhole)
    (hc0 : ¬isFirst (grid0.coords t)) (hc1 : isLater (grid0.coords t)) (hc2 : ¬isLast (grid0.coords t))
    (B : Blocks F) (a : Vec F S2x1024 .f32) (hX : ∀ m, X (Ring.bk 16 t.val) m = B.tile m) (u : Fin 16) (W : Waits sig Unit) (K : PUnit → sProp 𝕄) :
    iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare a
        ∗ stepAhead (F := F) c (Ring.bk 16 t.val) ∗ groupFree (F := F) c (Ring.sl 2 t.val) ∗ groupInfl c X (Ring.sl 2 (t.val + 1)) u ∗ owes (c : Thread nD τ) 0 W
        ∗ (iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ owns (c : Thread nD τ) arg10 fullShare B.da ∗ owns (c : Thread nD τ) arg11 fullShare B.db ∗ owns (c : Thread nD τ) arg12 fullShare B.dya ∗ owns (c : Thread nD τ) arg13 fullShare B.dyb ∗ owns (c : Thread nD τ) arg15 fullShare (B.acc a)
            ∗ stepBehind c X u ∗ groupFree (F := F) c (Ring.sl 2 (t.val + 1)) ∗ groupInfl c X (Ring.sl 2 t.val) (Ring.bk 16 t.val) ∗ (∃ W', owes (c : Thread nD τ) 0 W')) -∗ K ⟨⟩))
      ⊢ wp frame (wpE (defs₀ (F := F)) Variants.none c none) Set.univ (cc0_mix_bwd (grid0.coords t) arg1 harg1 arg2 harg2 arg3 harg3 arg4 harg4 arg5 harg5 arg6 harg6 arg7 harg7 arg8 harg8 arg9 harg9 arg10 harg10 arg11 harg11 arg12 harg12 arg13 harg13 dest (Memref.isWhole_whole _) arg15 harg15 stashR (Memref.isWhole_whole _) stashL (Memref.isWhole_whole _) cc0_scratch2) K := by
  haveI : Fact (¬isFirst (grid0.coords t)) := ⟨hc0⟩
  haveI : Fact (isLater (grid0.coords t)) := ⟨hc1⟩
  haveI : Fact (¬isLast (grid0.coords t)) := ⟨hc2⟩
  simp only [cc0_mix_bwd_eq_skeleton]; unfold cc0_mix_bwd_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f15, %hf15, H15⟩, ⟨⟨%fR, HpR⟩, ⟨%fL, HpL⟩⟩, ⟨⟨HqR, HqL⟩, ⟨%eR, HtR⟩, ⟨%eL, HtL⟩⟩, ⟨⟨%iR, %jR, %hiR, HIR⟩, ⟨%iL, %jL, %hiL, HIL⟩⟩, HW, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H11]
  · iexists _; isplitr; swap; · iexact H11
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H12]
  · iexists _; isplitr; swap; · iexact H12
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H13]
  · iexists _; isplitr; swap; · iexact H13
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H15]
  · iexists _; isplitr; swap; · iexact H15
    ipureintro; sl_unfold_run_names; refine (read_rows _ _ _ _ _).trans ?_; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; rfl
  isplitl [HIR_dst HIL_dst]
  · isplitl [HIR_dst]
    · iexists _; isplitr; · ipureintro; exact hiR
      iexact HIR_dst
    iexists _; isplitr; · ipureintro; exact hiL
    iexact HIL_dst
  isplitl [HIR HIL HIR_src HIL_src]
  · isplitl [HIR HIL]
    · isplitl [HIR]; · iexact HIR
      iexact HIL
    isplitl [HIR_src]; · iexists _; iexact HIR_src
    iexists _; iexact HIL_src
  isplitl [HqR HqL]
  · isplitl [HqR]
    · iexists _, _; isplitr; swap; · iexact HqR
      ipureintro; refine (read_piece _ _ _ _).trans (Eq.trans ?_ (hX 0).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; exact read_packedR c t _ (truncf .bf16 B.dgr bitsLt_bf16_f32) _
    iexists _, _; isplitr; swap; · iexact HqL
    ipureintro; refine (read_piece _ _ _ _).trans (Eq.trans ?_ (hX 1).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; exact read_packedL c t _ (truncf .bf16 B.dgl bitsLt_bf16_f32) _
  iexists _; iexact HW

end Cert.KernelIdeal.Mix

end
-- ==== Proof.MixRunLast.lean ====
/-
  The run of the merge gradient's body at the last grid point: the copies of the step before and its own are waited.
-/
module

public import proofs.«01_k».proof.Proof.MixReads
public import proofs.«01_k».proof.Proof.MixRunMid

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (Pipeline.UD sig nD τ) ℕ

variable (X : Fin 16 → Fin 2 → Vec F S512x1024 .bf16)

set_option maxHeartbeats 4000000 in
/-- From the step's blocks `B`, the bias accumulator at `a` and the ring's pieces of the step, the body leaves the gradient blocks of `B`, the
    accumulator after `B`, and the ring's pieces as the next step finds them, the step's copies carrying `B`'s tiles. -/
theorem run_last (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg15 : Memref sig .tc .vmem S2x1024 .f32) (harg15 : arg15.IsWhole)
    (hc0 : ¬isFirst (grid0.coords t)) (hc1 : isLater (grid0.coords t)) (hc2 : isLast (grid0.coords t))
    (B : Blocks F) (a : Vec F S2x1024 .f32) (hX : ∀ m, X (Ring.bk 16 t.val) m = B.tile m) (u : Fin 16) (W : Waits sig Unit) (K : PUnit → sProp 𝕄) :
    iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare a
        ∗ stepAhead (F := F) c (Ring.bk 16 t.val) ∗ groupFree (F := F) c (Ring.sl 2 t.val) ∗ groupInfl c X (Ring.sl 2 (t.val + 1)) u ∗ owes (c : Thread nD τ) 0 W
        ∗ (iprop(owns (c : Thread nD τ) arg1 fullShare B.dx ∗ owns (c : Thread nD τ) arg2 fullShare B.ya ∗ owns (c : Thread nD τ) arg3 fullShare B.yb ∗ owns (c : Thread nD τ) arg4 fullShare B.gr ∗ owns (c : Thread nD τ) arg5 fullShare B.gl ∗ owns (c : Thread nD τ) arg6 fullShare B.wro ∗ owns (c : Thread nD τ) arg7 fullShare B.wlo ∗ owns (c : Thread nD τ) arg8 fullShare B.wout ∗ owns (c : Thread nD τ) arg9 fullShare B.mb ∗ owns (c : Thread nD τ) arg10 fullShare B.da ∗ owns (c : Thread nD τ) arg11 fullShare B.db ∗ owns (c : Thread nD τ) arg12 fullShare B.dya ∗ owns (c : Thread nD τ) arg13 fullShare B.dyb ∗ owns (c : Thread nD τ) arg15 fullShare (B.acc a)
            ∗ stepBehind c X u ∗ groupFree (F := F) c (Ring.sl 2 (t.val + 1)) ∗ stepBehind c X (Ring.bk 16 t.val) ∗ groupFree (F := F) c (Ring.sl 2 t.val) ∗ (∃ W', owes (c : Thread nD τ) 0 W')) -∗ K ⟨⟩))
      ⊢ wp frame (wpE (defs₀ (F := F)) Variants.none c none) Set.univ (cc0_mix_bwd (grid0.coords t) arg1 harg1 arg2 harg2 arg3 harg3 arg4 harg4 arg5 harg5 arg6 harg6 arg7 harg7 arg8 harg8 arg9 harg9 arg10 harg10 arg11 harg11 arg12 harg12 arg13 harg13 dest (Memref.isWhole_whole _) arg15 harg15 stashR (Memref.isWhole_whole _) stashL (Memref.isWhole_whole _) cc0_scratch2) K := by
  haveI : Fact (¬isFirst (grid0.coords t)) := ⟨hc0⟩
  haveI : Fact (isLater (grid0.coords t)) := ⟨hc1⟩
  haveI : Fact (isLast (grid0.coords t)) := ⟨hc2⟩
  simp only [cc0_mix_bwd_eq_skeleton]; unfold cc0_mix_bwd_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f15, %hf15, H15⟩, ⟨⟨%fR, HpR⟩, ⟨%fL, HpL⟩⟩, ⟨⟨HqR, HqL⟩, ⟨%eR, HtR⟩, ⟨%eL, HtL⟩⟩, ⟨⟨%iR, %jR, %hiR, HIR⟩, ⟨%iL, %jL, %hiL, HIL⟩⟩, HW, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H11]
  · iexists _; isplitr; swap; · iexact H11
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H12]
  · iexists _; isplitr; swap; · iexact H12
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H13]
  · iexists _; isplitr; swap; · iexact H13
    ipureintro; refine (View.read_writes_full _ _ _ _ _).trans ?_; sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]
  isplitl [H15]
  · iexists _; isplitr; swap; · iexact H15
    ipureintro; sl_unfold_run_names; refine (read_rows _ _ _ _ _).trans ?_; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; rfl
  isplitl [HIR_dst HIL_dst]
  · isplitl [HIR_dst]
    · iexists _; isplitr; · ipureintro; exact hiR
      iexact HIR_dst
    iexists _; isplitr; · ipureintro; exact hiL
    iexact HIL_dst
  isplitl [HIR HIL HIR_src HIL_src]
  · isplitl [HIR HIL]
    · isplitl [HIR]; · iexact HIR
      iexact HIL
    isplitl [HIR_src]; · iexists _; iexact HIR_src
    iexists _; iexact HIL_src
  isplitl [HpR HpL]
  · isplitl [HpR]
    · iexists _; isplitr; swap; · iexact HpR
      ipureintro; refine (read_piece _ _ _ _).trans (Eq.trans ?_ (hX 0).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; exact read_packedR c t _ (truncf .bf16 B.dgr bitsLt_bf16_f32) _
    iexists _; isplitr; swap; · iexact HpL
    ipureintro; refine (read_piece _ _ _ _).trans (Eq.trans ?_ (hX 1).symm); sl_unfold_run_names; simp only [Blocks.da, Blocks.db, Blocks.dya, Blocks.dyb, Blocks.dgr, Blocks.dgl, Blocks.dmix, Blocks.acc, View.readAt_full, View.read_writes_full, load_block, load_weight, load_row0, load_row1, load_row0', load_row1', harg1.read_unread, harg2.read_unread, harg3.read_unread, harg4.read_unread, harg5.read_unread, harg6.read_unread, harg7.read_unread, harg8.read_unread, harg9.read_unread, harg15.read_unread]; exact read_packedL c t _ (truncf .bf16 B.dgl bitsLt_bf16_f32) _
  isplitl [HqR HqL HtR HtL]
  · isplitl [HqR HqL]
    · isplitl [HqR]; · iexact HqR
      iexact HqL
    isplitl [HtR]; · iexists _; iexact HtR
    iexists _; iexact HtL
  iexists _; iexact HW

end Cert.KernelIdeal.Mix

end
-- ==== Proof.MixData.lean ====
/-
  The proof data of the merge gradient's pipeline: what every window's buffer holds before and after each grid point,
  the ring of copies as its invariant, and the body's obligation at every point, by the three runs.
-/
module

public import proofs.«01_k».proof.Proof.MixRunLast
public import proofs.«01_k».proof.Proof.Gen.KernelIdeal.Frame

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The blocks the pipeline hands the body at point `n` (read round past the last). -/
def blocksAt (c : Dev nD) (n : ℕ) : Blocks F :=
  let t : Fin cfg0.N := ⟨n % 16, lt_of_lt_of_eq (Nat.mod_lt n (by decide)) (show 16 = cfg0.N from N_0.symm)⟩
  ⟨iblk m c 0 t, iblk m c 1 t, iblk m c 2 t, iblk m c 3 t, iblk m c 4 t, iblk m c 5 t, iblk m c 6 t, iblk m c 7 t, iblk m c 8 t⟩
theorem mod_point (t : Fin cfg0.N) (h : t.val % 16 < cfg0.N) : (⟨t.val % 16, h⟩ : Fin cfg0.N) = t :=
  Fin.ext (Nat.mod_eq_of_lt (lt_of_lt_of_eq t.isLt (show cfg0.N = 16 from N_0)))

/-- The bias accumulator after point `n`: a fold of the steps' sums from zero. -/
def accAt (c : Dev nD) : ℕ → Vec F S2x1024 .f32
  | 0 => (blocksAt m c 0).acc k0_pay16
  | n + 1 => (blocksAt m c (n + 1)).acc (accAt c n)
theorem accAt_pos (c : Dev nD) (n : ℕ) (h : n ≠ 0) : accAt m c n = (blocksAt m c n).acc (accAt m c (n - 1)) := by
  cases n with
  | zero => exact absurd rfl h
  | succ n => rfl

/-- The tiles the step at point `u` packs. -/
def tileAt (c : Dev nD) (u : Fin 16) (j : Fin 2) : Vec F S512x1024 .bf16 := (blocksAt m c u.val).tile j
theorem tileAt_bk (c : Dev nD) (t : Fin cfg0.N) (j : Fin 2) : tileAt m c (Ring.bk 16 t.val) j = (blocksAt m c t.val).tile j := by
  unfold tileAt
  rw [Ring.bk_val (NB := 16) (lt_of_lt_of_eq t.isLt (show cfg0.N = 16 from N_0))]

/-- The invariant before point `k`: the ring of copies, and the buffers' elements outside it. -/
def inv (c : Dev nD) (k : ℕ) : sProp 𝕄 :=
  iprop(ringAt c (tileAt m c) k ∗ stashRSpare c ∗ stashLSpare c ∗ destSpare c (V m c main_v9_4))

/-- The proof data: inputs keep their blocks, the four gradient blocks and the accumulator are what the step computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (blocksAt m c t.val).da
    | ⟨10, _⟩ => (blocksAt m c t.val).db
    | ⟨11, _⟩ => (blocksAt m c t.val).dya
    | ⟨12, _⟩ => (blocksAt m c t.val).dyb
    | ⟨13, _⟩ => accAt m c t.val
  Φ t := inv m c t.val
  q w := Pipeline.shareOf spec0 w
  owed _ := 0

theorem A_eq (c : Dev nD) (w : Fin cfg0.W) : (dats m 0 c).A w = V m c (Pipeline.arrRef spec0 w) := by dsimp only [dats]

/-- An input's buffer holds its block at every point: the body leaves it there. -/
theorem before_in (c : Dev nD) (w : Fin cfg0.W) (h : (cfg0.win w).isOut = false) (t : Fin cfg0.N) (d) :
    (dats m 0 c).before w t d = (dats m 0 c).after w t := by
  fin_cases w <;> first
    | exact absurd h (by decide)
    | exact ((dats m 0 c).before_in_eq_fetched _ h (fun _ => rfl) (fun _ _ _ => rfl)
        (fun t => by rw [show (dats m 0 c).after _ t = iblk m c _ t by (dsimp only [dats]; try rfl)]; unfold Dat.blockOf iblk; rw [A_eq]; try rfl) t d).trans
        (by rw [show (dats m 0 c).after _ t = iblk m c _ t by (dsimp only [dats]; try rfl)]; unfold Dat.fetched Dat.blockOf iblk; rw [A_eq]; try rfl)

/-- The accumulator's buffer holds, past the first point, what the point before left. -/
theorem before_acc (c : Dev nD) (t : Fin cfg0.N) (h : t.val ≠ 0) (d) : (dats m 0 c).before 13 t d = accAt m c (t.val - 1) := by
  have hN : t.val < 16 := lt_of_lt_of_eq t.isLt (show cfg0.N = 16 from N_0)
  rw [Dat.before_out_kept _ 13 rfl t h (Bool.eq_false_iff.mpr fun h => by have := (flush0_13 _).mp h; dsimp only at this; omega)
    (fun _ => rfl) (fun _ _ => rfl)]
  dsimp only [dats]

end Cert.KernelIdeal.Mix

end
-- ==== Proof.MixBody.lean ====
/-
  The body's obligation at every point of the merge gradient's grid: the run of the point's case, its pieces taken out of
  the ring's invariant and put back.
-/
module

public import proofs.«01_k».proof.Proof.MixData

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The blocks of point `t` are the windows' blocks there. -/
theorem blocksAt_eq (c : Dev nD) (t : Fin cfg0.N) : blocksAt m c t.val = ⟨iblk m c 0 t, iblk m c 1 t, iblk m c 2 t, iblk m c 3 t, iblk m c 4 t, iblk m c 5 t, iblk m c 6 t, iblk m c 7 t, iblk m c 8 t⟩ := by
  unfold blocksAt; rw [mod_point t]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hB := blocksAt_eq m c t
  unfold bodyPre bodyPost bodyAt0
  simp only [before_in m c 0 rfl t, before_in m c 1 rfl t, before_in m c 2 rfl t, before_in m c 3 rfl t, before_in m c 4 rfl t, before_in m c 5 rfl t, before_in m c 6 rfl t, before_in m c 7 rfl t, before_in m c 8 rfl t]
  rw [show (dats m 0 c).after 0 t = (blocksAt m c t.val).dx by rw [hB]; dsimp only [dats]]
  rw [show (dats m 0 c).after 1 t = (blocksAt m c t.val).ya by rw [hB]; dsimp only [dats]]
  rw [show (dats m 0 c).after 2 t = (blocksAt m c t.val).yb by rw [hB]; dsimp only [dats]]
  rw [show (dats m 0 c).after 3 t = (blocksAt m c t.val).gr by rw [hB]; dsimp only [dats]]
  rw [show (dats m 0 c).after 4 t = (blocksAt m c t.val).gl by rw [hB]; dsimp only [dats]]
  rw [show (dats m 0 c).after 5 t = (blocksAt m c t.val).wro by rw [hB]; dsimp only [dats]]
  rw [show (dats m 0 c).after 6 t = (blocksAt m c t.val).wlo by rw [hB]; dsimp only [dats]]
  rw [show (dats m 0 c).after 7 t = (blocksAt m c t.val).wout by rw [hB]; dsimp only [dats]]
  rw [show (dats m 0 c).after 8 t = (blocksAt m c t.val).mb by rw [hB]; dsimp only [dats]]
  rw [show (dats m 0 c).after 9 t = (blocksAt m c t.val).da by dsimp only [dats], show (dats m 0 c).after 10 t = (blocksAt m c t.val).db by dsimp only [dats],
    show (dats m 0 c).after 11 t = (blocksAt m c t.val).dya by dsimp only [dats], show (dats m 0 c).after 12 t = (blocksAt m c t.val).dyb by dsimp only [dats],
    show (dats m 0 c).after 13 t = accAt m c t.val by dsimp only [dats], show (dats m 0 c).Φ t.castSucc = inv m c t.val by dsimp only [dats]; rw [Fin.val_castSucc],
    show (dats m 0 c).Φ t.succ = inv m c (t.val + 1) by dsimp only [dats]; rw [Fin.val_succ]]
  clear hB
  unfold Dat.owesAt Pipeline.owesWithin
  rw [show (dats m 0 c).owed t.castSucc = 0 from rfl, show (dats m 0 c).owed t.succ = 0 from rfl]
  unfold inv ringAt
  by_cases h0 : t.val = 0
  · rw [Ring.AtBΦ_lt _ _ _ _ _ t.val hN, Ring.AtB2_zero' 1 _ _ _ _ t.val h0, Ring.AtBΦ_lt _ _ _ _ _ (t.val + 1) (by omega), Ring.AtB21_next_zero' _ _ _ _ t.val h0]
    rw [show accAt m c t.val = (blocksAt m c t.val).acc k0_pay16 by rw [h0]; rfl]
    iintro ⟨⟨⟨⟨HP, HA⟩, HG, HG2⟩, HS1, HS2, HS3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first (tileAt m c) c t _ _ _ _ _ _ _ _ _ _ _ _ _ _ _ _ _ _ _ _ _ _ _ _ _ _ _ _ ((isFirst_iff t).mpr h0) (fun h => (isLater_iff t).mp h h0) (fun h => by have := (isLast_iff t).mp h; omega) (blocksAt m c t.val) (tileAt_bk m c t) W _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    isplitl [HP]; · iexact HP
    isplitl [HG]; · iexact HG
    isplitl [HW]; · iexact HW
    iintro ⟨H0, H1, H2, H3, H4, H5, H6, H7, H8, H9, H10, H11, H12, H13, HI, ⟨%W', HW'⟩⟩
    isplitl [HA HG2 HI HS1 HS2 HS3]
    · isplitl [HA HG2 HI]
      · isplitl [HA]; · iexact HA
        isplitl [HG2]; · iexact HG2
        iexact HI
      isplitl [HS1]; · iexact HS1
      isplitl [HS2]; · iexact HS2
      iexact HS3
    isplitl [HW']
    · iexists W'; isplitr; · ipureintro; exact fun _ _ => Or.inl trivial
      iexact HW'
    iframe H0 H1 H2 H3 H4 H5 H6 H7 H8 H9 H10 H11 H12
    iexact H13
  rw [accAt_pos m c t.val h0]
  simp only [before_acc m c t h0]
  by_cases h1 : t.val = 15
  · rw [Ring.AtBΦ_lt _ _ _ _ _ t.val hN, Ring.AtB21_here_last _ _ _ _ t.val (by omega) (by omega), Ring.AtBΦ_end _ _ _ _ _ (t.val + 1) (by omega), Ring.AtB21_drained _ _ t.val (by omega) (by omega)]
    iintro ⟨⟨⟨HP, HB, HG, HI⟩, HS1, HS2, HS3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_last (tileAt m c) c t _ _ _ _ _ _ _ _ _ _ _ _ _ _ _ _ _ _ _ _ _ _ _ _ _ _ _ _ (fun h => h0 ((isFirst_iff t).mp h)) ((isLater_iff t).mpr h0) ((isLast_iff t).mpr h1) (blocksAt m c t.val) (accAt m c (t.val - 1)) (tileAt_bk m c t) (Ring.bk 16 (t.val - 1)) W _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexact H13
    isplitl [HP]; · iexact HP
    isplitl [HG]; · iexact HG
    isplitl [HI]; · iexact HI
    isplitl [HW]; · iexact HW
    iintro ⟨H0, H1, H2, H3, H4, H5, H6, H7, H8, H9, H10, H11, H12, H13, HB1, HG1, HB0, HG0, ⟨%W', HW'⟩⟩
    isplitl [HB HB0 HB1 HG0 HG1 HS1 HS2 HS3]
    · isplitl [HB HB0 HB1 HG0 HG1]
      · isplitl [HB HB0 HB1]
        · isplitl [HB0]; · iexact HB0
          isplitl [HB1]; · iexact HB1
          iexact HB
        isplitl [HG0]; · iexact HG0
        iexact HG1
      isplitl [HS1]; · iexact HS1
      isplitl [HS2]; · iexact HS2
      iexact HS3
    isplitl [HW']
    · iexists W'; isplitr; · ipureintro; exact fun _ _ => Or.inl trivial
      iexact HW'
    iframe H0 H1 H2 H3 H4 H5 H6 H7 H8 H9 H10 H11 H12
    iexact H13
  · rw [Ring.AtBΦ_lt _ _ _ _ _ t.val hN, Ring.AtB21_here _ _ _ _ t.val (by omega) hN, Ring.AtBΦ_lt _ _ _ _ _ (t.val + 1) (by omega), Ring.AtB21_next _ _ _ _ t.val (by omega) hN]
    iintro ⟨⟨⟨⟨HP, HA⟩, HB, HG, HI⟩, HS1, HS2, HS3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_mid (tileAt m c) c t _ _ _ _ _ _ _ _ _ _ _ _ _ _ _ _ _ _ _ _ _ _ _ _ _ _ _ _ (fun h => h0 ((isFirst_iff t).mp h)) ((isLater_iff t).mpr h0) (fun h => h1 ((isLast_iff t).mp h)) (blocksAt m c t.val) (accAt m c (t.val - 1)) (tileAt_bk m c t) (Ring.bk 16 (t.val - 1)) W _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexact H13
    isplitl [HP]; · iexact HP
    isplitl [HG]; · iexact HG
    isplitl [HI]; · iexact HI
    isplitl [HW]; · iexact HW
    iintro ⟨H0, H1, H2, H3, H4, H5, H6, H7, H8, H9, H10, H11, H12, H13, HB1, HG1, HI, ⟨%W', HW'⟩⟩
    isplitl [HA HB HB1 HG1 HI HS1 HS2 HS3]
    · isplitl [HA HB HB1 HG1 HI]
      · isplitl [HA]; · iexact HA
        isplitl [HB HB1]
        · isplitl [HB1]; · iexact HB1
          iexact HB
        isplitl [HG1]; · iexact HG1
        iexact HI
      isplitl [HS1]; · iexact HS1
      isplitl [HS2]; · iexact HS2
      iexact HS3
    isplitl [HW']
    · iexists W'; isplitr; · ipureintro; exact fun _ _ => Or.inl trivial
      iexact HW'
    iframe H0 H1 H2 H3 H4 H5 H6 H7 H8 H9 H10 H11 H12
    iexact H13

/-- The body table's row at point `t`'s slots is the body as called there. -/
theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Mix

end
-- ==== Proof.MixFrame.lean ====
/-
  The launch of the merge gradient, at any values: every run ends with the windows' arrays at what the steps wrote, the
  projection's gradient patched with the packed tiles, the arguments as launched and every counter at zero.
-/
module

public import proofs.«01_k».proof.Proof.MixBody
public import Idealize.ShloMosaic.Lib.Pipeline.FrameSuffixV
public import Idealize.ShloMosaic.Lib.Claim

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The cells the body signals and waits itself. -/
abbrev osem0 : Fin 4 → SemLoc sig := fun j => (![SemLoc.dma 23, SemLoc.dma 24, SemLoc.dma 25, SemLoc.dma 26] : Fin 4 → SemLoc sig) j
theorem ownSemFacts0 : Pipeline.OwnSemFacts spec0 osem0 := by decide
/-- The array the body writes by its own copies. -/
def written : Finset (Ref sig .tc) := {main_v9_4}
theorem written_sub : written ⊆ Pipeline.restRefs sig spec0 \ (∅ : Finset (Ref sig .tc)) := by decide

/-- What the launch leaves in it: the packed tiles, two to a grid point, over what was there. -/
def packed (c : Dev nD) : Buf (Elt F) ((c : Thread nD τ).loc main_v9_4) := patched c (tileAt m c) (V m c main_v9_4)
def left (c : Dev nD) (b : Ref sig .tc) : Buf (Elt F) ((c : Thread nD τ).loc b) := Function.update (V m c) main_v9_4 (packed m c) b
theorem left_packed (c : Dev nD) : left m c main_v9_4 = packed m c := Function.update_self ..

/-- The resources the launch hands the region and takes back, named. -/
theorem handed_eq (A G : (c : Dev nD) → (b : Ref sig .tc) → Buf (Elt F) ((c : Thread nD τ).loc b)) (c : Dev nD) :
    (Pipeline.ΦDRV osem0 spec0 ∅ written A G c : sProp 𝕄)
      = iprop(((∃ f, ((c : Thread nD τ).loc cc0_scratch0) ↦{fullShare} f) ∗ (∃ f, ((c : Thread nD τ).loc cc0_scratch1) ↦{fullShare} f))
          ∗ cells0 c ∗ emp ∗ ((c : Thread nD τ).loc main_v9_4) ↦{fullShare} G c main_v9_4) := by
  unfold Pipeline.ΦDRV
  rw [scopedRest0_eq, Pipeline.ownSems0_eq_of_list c osem0 [0, 1, 2, 3] (by decide) (by decide), bigSep_empty,
    BI.bigSep_eq_bigSepL_of_eq [main_v9_4] (show written = _ by decide) (by decide)]
  rfl

theorem inv_in (c : Dev nD) : Pipeline.ΦDRV osem0 spec0 ∅ written (V m) (V m) c ⊢ (dats m 0 c).Φ 0 := by
  rw [handed_eq, show (dats m 0 c).Φ 0 = inv m c 0 from rfl]
  unfold inv
  iintro ⟨⟨HR, HL⟩, HC, -, HD⟩
  iapply (ring_in c (tileAt m c) (V m c main_v9_4))
  isplitl [HR]; · iexact HR
  isplitl [HL]; · iexact HL
  isplitl [HC]; · iexact HC
  iexact HD
theorem inv_out (c : Dev nD) : (dats m 0 c).Φ (Fin.last cfg0.N) ⊢ Pipeline.ΦDRV osem0 spec0 ∅ written (V m) (left m) c := by
  rw [handed_eq, show (dats m 0 c).Φ (Fin.last cfg0.N) = inv m c grid0.N from rfl, left_packed]
  unfold inv packed
  rw [show grid0.N = 16 from N_0]
  iintro H
  ihave H' := (ring_out c (tileAt m c) (V m c main_v9_4)) $$ H
  icases H' with ⟨HR, HL, HC, HD⟩
  isplitl [HR HL]
  · isplitl [HR]; · iexact HR
    iexact HL
  isplitl [HC]; · iexact HC
  isplitr; · iempintro
  iexact HD

/-- @main is the host lines before the region, the region, the host lines after it. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers when the host lines after the region start. -/
abbrev atTail (c : Dev nD) : Valuation τ sig (Elt F) :=
  Pipeline.withArrays spec0 c (Pipeline.withR (V0 m c) written c (left m c)) fun w => (dats m 0 c).arrAt w cfg0.N
/-- What every final state has. -/
def Post (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = StableHlo.after (List.flatten [hostOps1]) (atTail m c) (Proc.devRef .tc b))
  ∧ r.2.sem = fun _ => 0

theorem rest_sub : Pipeline.restRefs sig spec0 ⊆ Pipeline.restRefsP sig Pipeline.Prefetch.none spec0 :=
  fun b hb => Finset.mem_sdiff.mpr ⟨hb, fun h => ((Finset.mem_image.mp h).elim fun k _ => k.elim0)⟩

set_option backward.isDefEq.respectTransparency.types false in
set_option maxHeartbeats 1600000 in
theorem run_main : θ_run defs (onTc (τ := τ) (main (F := F))) (s₀ m ρ) (Post m) :=
  (θ_run defs _ _).mono (fun r ⟨h, hz⟩ => ⟨fun c => ⟨(h c).1, fun b hb => (h c).2 b (rest_sub hb)⟩, hz⟩)
    (Pipeline.θ_run_frameP_dmaR_aroundV_shared (Q' := _) (hQ' := fun _ h => h) (fun q => (cfgs q).toPCfg (Val := Elt F)) (fun q => (cfgs q).toPCfg_adm) (dats m) (0 : Fin 1) launch₀0.toP
      osem0 defs₀ Variants.none ownSemFacts0 ∅ written (Finset.empty_subset _) (written_sub.trans (Finset.sdiff_subset_sdiff rest_sub subset_rfl))
      m ρ main (fun c => (body_obligation m c).loose) (fun _ _ _ => rfl) (fun _ _ => rfl) (V0 m) [hostOps1] sfx_sub sfx_fresh sfx_keeps (left m)
      (main_around m) (A_eq m) (fun _ k => k.elim0)
      (fun c => (show _ ⊢ Pipeline.ΦDRV osem0 spec0 ∅ written (V m) (V m) c from by iintro ⟨H, -⟩; iexact H).trans (inv_in m c)) (inv_out m))

/-- A buffer no window is on, no copy and no later line writes, ends as the region found it. -/
theorem after_untouched (c : Dev nD) (b : Ref sig .tc) (h10 : b ≠ main_v10) (hw : ∀ w, Pipeline.arrRef spec0 w ≠ b) (h4 : b ∉ written) :
    StableHlo.after (List.flatten [hostOps1]) (atTail m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h10))]
  exact (Pipeline.withArrays_of_ne _ c _ _ b hw).trans (Pipeline.withR_of_not_mem _ _ _ _ b h4)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (Pipeline.mem_restRefs_of main_arg0 (by decide) (by decide))).trans ((after_untouched m c main_arg0 (by decide) (by decide) (by decide)).trans (V_main_arg0 m c)),
    ((h.1 c).2 main_arg1 (Pipeline.mem_restRefs_of main_arg1 (by decide) (by decide))).trans ((after_untouched m c main_arg1 (by decide) (by decide) (by decide)).trans (V_main_arg1 m c)),
    ((h.1 c).2 main_arg2 (Pipeline.mem_restRefs_of main_arg2 (by decide) (by decide))).trans ((after_untouched m c main_arg2 (by decide) (by decide) (by decide)).trans (V_main_arg2 m c)),
    ((h.1 c).2 main_arg3 (Pipeline.mem_restRefs_of main_arg3 (by decide) (by decide))).trans ((after_untouched m c main_arg3 (by decide) (by decide) (by decide)).trans (V_main_arg3 m c)),
    ((h.1 c).2 main_arg4 (Pipeline.mem_restRefs_of main_arg4 (by decide) (by decide))).trans ((after_untouched m c main_arg4 (by decide) (by decide) (by decide)).trans (V_main_arg4 m c)),
    ((h.1 c).2 main_arg5 (Pipeline.mem_restRefs_of main_arg5 (by decide) (by decide))).trans ((after_untouched m c main_arg5 (by decide) (by decide) (by decide)).trans (V_main_arg5 m c)),
    ((h.1 c).2 main_arg6 (Pipeline.mem_restRefs_of main_arg6 (by decide) (by decide))).trans ((after_untouched m c main_arg6 (by decide) (by decide) (by decide)).trans (V_main_arg6 m c)),
    ((h.1 c).1 8).trans (((dats m 0 c).arrAt_in 8 rfl _).trans ((A_eq m c 8).trans (V_main_arg7 m c)))⟩, h.2⟩) (run_main m ρ)

end Cert.KernelIdeal.Mix

end
-- ==== Proof.MixWords.lean ====
/-
  The run over any numbers, read at the machine's words: the kernel's frame.
-/
module

public import proofs.«01_k».proof.Defs
public import proofs.«01_k».proof.Proof.Gen.Kernel
public import proofs.«01_k».proof.Proof.MixFrame
@[expose] public section
noncomputable section
namespace Cert.Proof
open Idealize.ShloMosaic Idealize.SL.Sem
attribute [local instance] Cert.Kernel.Gen.facts Cert.KernelIdeal.Gen.facts
/-- The two programs' one label calls the same body. -/
theorem body_same (t : Fin Cert.Kernel.grid0.N) (s : (w : Fin 14) → Fin (Cert.Kernel.win0 w).nbuf) :
    Cert.Kernel.defs₀ (F := Bits) .tc (0 : Fin 1) (t, s) =
      Cert.KernelIdeal.defs₀ (F := Bits) .tc (0 : Fin 1) (t, s) := rfl

/-- A table of bodies for the first kind of core is determined by its bodies. -/
theorem table_ext {nD : ℕ} {τ : Topo} {sig : RefSig} {Val : EltTy → Type} {Λ : Labels}
    {D E : (ℓ : Λ.Label) → Λ.Args ℓ → Prog (TpuEff nD τ sig Val Λ .tc) (Λ.Result ℓ)}
    (h : ∀ ℓ a, D ℓ a = E ℓ a) : Defs.onTc D = Defs.onTc E :=
  congrArg Defs.onTc (funext fun ℓ => funext fun a => h ℓ a)

/-- The two programs' body tables agree. -/
theorem bodies_same : Cert.Kernel.defs₀ (F := Bits) = Cert.KernelIdeal.defs₀ (F := Bits) := by
  unfold Cert.Kernel.defs₀ Cert.KernelIdeal.defs₀
  refine table_ext fun ℓ a => ?_
  have h : ℓ = (0 : Fin 1) := Fin.eq_zero (ℓ : Fin 1)
  subst h
  exact body_same a.1 a.2

/-- So do the tables with the pipeline's own labels. -/
theorem tables_same : Cert.Kernel.defs (F := Bits) = Cert.KernelIdeal.defs (F := Bits) :=
  congrArg (Pipeline.defs Cert.KernelIdeal.pcfgs) bodies_same

/-- The frame of the kernel at the machine's words, from the run written over any numbers. -/
theorem frame_kernel : Cert.quiescent_Kernel := fun m ρ _ => by
  rw [tables_same]
  exact Cert.KernelIdeal.Mix.frame (F := Bits) m ρ
end Cert.Proof
-- ==== Proof.MixIdeal.lean ====
/-
  One step of the merge gradient over the extended reals: each block it computes, read at an element.
-/
module

public import proofs.«01_k».proof.Proof.MixStep
public import proofs.«01_k».proof.Proof.MixSpec

@[expose] public section

set_option maxRecDepth 16384

noncomputable section

namespace Cert.KernelIdeal.Mix

open Idealize.ShloMosaic Cert.KernelIdeal Cert.KernelIdeal.Gen Cert.Merge

/-- The two ways of naming an element by its coordinates are one. -/
theorem ix2_same {n k : ℕ} (a : Fin n) (b : Fin k) : ValueIdx.ix2 a b = ix2 a b := by
  funext d; match d with
  | 0 => rfl
  | 1 => rfl

variable (B : Blocks Ideal)

/-- The step's gate `r`, of its own blocks. -/
def stepGate (r : Fin 2) (i : Fin 512) (j : Fin 1024) : EReal :=
  Ideal.logistic ((if r = 0 then B.gr else B.gl) (ix2 i j) + B.mb (ix2 r j))

theorem dmix_at (i : Fin 512) (j : Fin 1024) : B.dmix (ix2 i j) = rowRow B.dx B.wout i j := by
  pointwise [Blocks.dmix, k0_pay1, rowRow]

theorem gateR_at (i : Fin 512) (j : Fin 1024) : k0_pay6 (k0_pay4 B.gr (row 0 B.mb)) k0_pay5 (ix2 i j) = stepGate B 0 i j := by
  pointwise [k0_pay6, k0_pay4, k0_pay5, row, ix2_same, half_word]
  exact half_tanh _
theorem gateL_at (i : Fin 512) (j : Fin 1024) : k0_pay7 B.gl (row 1 B.mb) (ix2 i j) = stepGate B 1 i j := by
  pointwise [k0_pay7, row, ix2_same, half_word]
  exact half_tanh _

theorem dya_at (i : Fin 512) (j : Fin 1024) : B.dya (ix2 i j) = rowRow B.dx B.wout i j * stepGate B 0 i j := by
  rw [← dmix_at, ← gateR_at]; rfl
theorem dyb_at (i : Fin 512) (j : Fin 1024) : B.dyb (ix2 i j) = rowRow B.dx B.wout i j * stepGate B 1 i j := by
  rw [← dmix_at, ← gateL_at]; rfl
theorem da_at (i : Fin 512) (j : Fin 1024) : B.da (ix2 i j) = rowRow B.dya B.wro i j := by
  pointwise [Blocks.da, k0_pay14, rowRow]
theorem db_at (i : Fin 512) (j : Fin 1024) : B.db (ix2 i j) = rowRow B.dyb B.wlo i j := by
  pointwise [Blocks.db, k0_pay15, rowRow]

/-- The gates' gradients before rounding. -/
theorem dgr_at (i : Fin 512) (j : Fin 1024) : B.dgr (ix2 i j) =
    rowRow B.dx B.wout i j * B.ya (ix2 i j) * (stepGate B 0 i j * (1 - stepGate B 0 i j)) := by
  rw [← dmix_at, ← gateR_at, ← mul_assoc]
  unfold Blocks.dgr k0_pay10 k0_pay2
  generalize k0_pay6 (F := Ideal) (k0_pay4 B.gr (row 0 B.mb)) k0_pay5 = g
  generalize B.dmix = d
  pointwise []
theorem dgl_at (i : Fin 512) (j : Fin 1024) : B.dgl (ix2 i j) =
    rowRow B.dx B.wout i j * B.yb (ix2 i j) * (stepGate B 1 i j * (1 - stepGate B 1 i j)) := by
  rw [← dmix_at, ← gateL_at, ← mul_assoc]
  unfold Blocks.dgl k0_pay11 k0_pay3
  generalize k0_pay7 (F := Ideal) B.gl (row 1 B.mb) = g
  generalize B.dmix = d
  pointwise []

/-- The gradient of gate `r`, and the tile packed of it. -/
def stepDGate (r : Fin 2) : FVec Ideal S512x1024 .f32 := if r = 0 then B.dgr else B.dgl
theorem tile_at (r : Fin 2) (i : Fin 512) (j : Fin 1024) : B.tile r (ix2 i j) = stepDGate B r (ix2 i j) := by
  unfold Blocks.tile stepDGate
  split <;> rfl
/-- The bias accumulator gains each gate's column sums. -/
theorem acc_at (a : Vec Ideal S2x1024 .f32) (r : Fin 2) (j : Fin 1024) :
    B.acc a (ix2 r j) = a (ix2 r j) + ∑ i : Fin 512, stepDGate B r (ix2 i j) := by
  unfold Blocks.acc stepDGate
  generalize B.dgr = d
  generalize B.dgl = e
  match r with
  | 0 => pointwise [k0_pay17, row, ix2_same]
  | 1 => pointwise [k0_pay18, row, ix2_same]
/-- It starts from zero. -/
theorem zero_at (j : S2x1024.Idx) : k0_pay16 (F := Ideal) j = 0 := by
  pointwise [k0_pay16]

end Cert.KernelIdeal.Mix

end
-- ==== Proof.MixValue.lean ====
/-
  The merge gradient's results over the extended reals: what each array holds when the kernel is done, by the formulas.
-/
module

public import proofs.«01_k».proof.Proof.MixFrame
public import proofs.«01_k».proof.Proof.MixIdeal
public import Idealize.ShloMosaic.Lib.Pipeline.ValueKit

@[expose] public section

set_option maxRecDepth 16384

noncomputable section

namespace Cert.KernelIdeal.Mix

open Idealize.ShloMosaic Idealize.ShloMosaic.TcCoe Idealize.ShloMosaic.StableHlo Idealize.SL.Sem Cert.KernelIdeal Cert.KernelIdeal.Gen Cert.Merge
open Idealize.ShloMosaic.Pipeline (Dat)
open Idealize.ShloMosaic.Pipeline.Window (rect_emb_val)

variable (m : (ℓ : Loc nD τ sig) → Buf (Elt Ideal) ℓ) (c : Dev nD)

/-- The arguments as launched. -/
abbrev dx : Mat 8192 1024 := m ((c : Thread nD τ).loc main_arg0)
abbrev aIn : Mat 8192 1024 := m ((c : Thread nD τ).loc main_arg1)
abbrev bIn : Mat 8192 1024 := m ((c : Thread nD τ).loc main_arg2)
abbrev proj : Mat 8192 7168 := m ((c : Thread nD τ).loc main_arg3)
abbrev wA : Mat 1024 1024 := m ((c : Thread nD τ).loc main_arg4)
abbrev wB : Mat 1024 1024 := m ((c : Thread nD τ).loc main_arg5)
abbrev wOut : Mat 1024 1024 := m ((c : Thread nD τ).loc main_arg6)
abbrev bias : Mat 2 1024 := m ((c : Thread nD τ).loc main_arg7)

/-! ## The host lines before the region -/

/-- The casts leave the arguments as they are, and the two products are the branches' outputs. -/
theorem host_reads :
    (V m c main_v4 : Mat 8192 1024) = dx m c ∧ (V m c main_v5 : Mat 8192 7168) = proj m c
    ∧ (V m c main_v6 : Mat 1024 1024) = wA m c ∧ (V m c main_v7 : Mat 1024 1024) = wB m c ∧ (V m c main_v8 : Mat 1024 1024) = wOut m c
    ∧ (V m c main_v1 : Mat 8192 1024) = Host.dotGeneral (F := Ideal) (φ₁ := .f32) (φ₂ := .f32) dot_S8192x1024_S1024x1024_S8192x1024_1_0_0_1_n_n none (aIn m c) (wA m c)
    ∧ (V m c main_v3 : Mat 8192 1024) = Host.dotGeneral (F := Ideal) (φ₁ := .f32) (φ₂ := .f32) dot_S8192x1024_S1024x1024_S8192x1024_1_0_0_1_n_n none (bIn m c) (wB m c) := by
  unfold V V0
  simp only [List.flatten_cons, List.flatten_nil, List.append_nil]
  unfold hostOps0
  refine ⟨?_, ?_, ?_, ?_, ?_, ?_, ?_⟩ <;> (after_results_simp <;> rfl)

/-- A product of the host, at an element. -/
theorem host_dot (x : Mat 8192 1024) (w : Mat 1024 1024) (i : Fin 8192) (j : Fin 1024) :
    Host.dotGeneral (F := Ideal) (φ₁ := .f32) (φ₂ := .f32) dot_S8192x1024_S1024x1024_S8192x1024_1_0_0_1_n_n none x w (ix2 i j) = rowCol x w i j := by
  pointwise [rowCol]

/-! ## Where a block's elements lie -/

/-- An array read at an element whose coordinates are known. -/
theorem at_coords {N K : ℕ} (X : Mat N K) (e : (⟨2, ![N, K]⟩ : Shape).Idx) (i : Fin N) (j : Fin K)
    (h0 : (e 0).val = i.val) (h1 : (e 1).val = j.val) : X e = X (ix2 i j) := by
  congr 1
  funext a
  match a with
  | 0 => exact Fin.ext h0
  | 1 => exact Fin.ext h1

theorem row_lt (t : Fin cfg0.N) (i : Fin 512) : 512 * t.val + i.val < 8192 := by
  have : t.val < 16 := lt_of_lt_of_eq t.isLt N_0
  omega
/-- Row `i` of the block at point `t`, in the whole array. -/
def rowOf (t : Fin cfg0.N) (i : Fin 512) : Fin 8192 := ⟨512 * t.val + i.val, row_lt t i⟩
theorem rows_at {b : ℕ} {t : Fin cfg0.N} {i : Fin 512} (h : b = t.val) : b * 512 + i.val = (rowOf t i).val := by
  show _ = 512 * t.val + i.val; omega
theorem cols_at {b i s : ℕ} (h : b = 0) : b * s + i = i := by subst h; omega
theorem gate_cols_at {b : ℕ} {r : Fin 2} {j : Fin 1024} (h : b = 5 + r.val) : b * 1024 + j.val = 5120 + 1024 * r.val + j.val := by
  subst h; omega

theorem index_rows : ∀ t : Fin cfg0.N, win0_0.index t = ![t.val, 0] ∧ win0_1.index t = ![t.val, 0] ∧ win0_2.index t = ![t.val, 0]
    ∧ win0_9.index t = ![t.val, 0] ∧ win0_10.index t = ![t.val, 0] ∧ win0_11.index t = ![t.val, 0] ∧ win0_12.index t = ![t.val, 0] := by
  decide +kernel
theorem index_gates : ∀ t : Fin cfg0.N, win0_3.index t = ![t.val, 5 + (0 : Fin 2).val] ∧ win0_4.index t = ![t.val, 5 + (1 : Fin 2).val] := by
  decide +kernel
theorem index_whole : ∀ t : Fin cfg0.N, win0_5.index t = ![0, 0] ∧ win0_6.index t = ![0, 0] ∧ win0_7.index t = ![0, 0]
    ∧ win0_8.index t = ![0, 0] := by
  decide +kernel

/-! ## The blocks of a point -/

section Point
variable (t : Fin cfg0.N) (i : Fin 512) (j k : Fin 1024)

theorem dx_at : (iblk m c 0 t : Vec Ideal S512x1024 .bf16) (ix2 i j) = dx m c (ix2 (rowOf t i) j) := by
  rw [← (host_reads m c).1]
  exact at_coords (V m c main_v4) _ _ _ ((rect_emb_val win0_0 t (ix2 i j) 0).trans (rows_at (congrFun (index_rows t).1 0)))
    ((rect_emb_val win0_0 t (ix2 i j) 1).trans (cols_at (congrFun (index_rows t).1 1)))
theorem ya_at : (iblk m c 1 t : Vec Ideal S512x1024 .bf16) (ix2 i j) = rowCol (aIn m c) (wA m c) (rowOf t i) j := by
  rw [← host_dot, ← (host_reads m c).2.2.2.2.2.1]
  exact at_coords (V m c main_v1) _ _ _ ((rect_emb_val win0_1 t (ix2 i j) 0).trans (rows_at (congrFun (index_rows t).2.1 0)))
    ((rect_emb_val win0_1 t (ix2 i j) 1).trans (cols_at (congrFun (index_rows t).2.1 1)))
theorem yb_at : (iblk m c 2 t : Vec Ideal S512x1024 .bf16) (ix2 i j) = rowCol (bIn m c) (wB m c) (rowOf t i) j := by
  rw [← host_dot, ← (host_reads m c).2.2.2.2.2.2]
  exact at_coords (V m c main_v3) _ _ _ ((rect_emb_val win0_2 t (ix2 i j) 0).trans (rows_at (congrFun (index_rows t).2.2.1 0)))
    ((rect_emb_val win0_2 t (ix2 i j) 1).trans (cols_at (congrFun (index_rows t).2.2.1 1)))
theorem gr_at : (iblk m c 3 t : Vec Ideal S512x1024 .bf16) (ix2 i j) = proj m c (ix2 (rowOf t i) ⟨5120 + 1024 * (0 : Fin 2).val + j.val, by omega⟩) := by
  rw [← (host_reads m c).2.1]
  exact at_coords (V m c main_v5) _ _ _ ((rect_emb_val win0_3 t (ix2 i j) 0).trans (rows_at (congrFun (index_gates t).1 0)))
    ((rect_emb_val win0_3 t (ix2 i j) 1).trans (gate_cols_at (congrFun (index_gates t).1 1)))
theorem gl_at : (iblk m c 4 t : Vec Ideal S512x1024 .bf16) (ix2 i j) = proj m c (ix2 (rowOf t i) ⟨5120 + 1024 * (1 : Fin 2).val + j.val, by omega⟩) := by
  rw [← (host_reads m c).2.1]
  exact at_coords (V m c main_v5) _ _ _ ((rect_emb_val win0_4 t (ix2 i j) 0).trans (rows_at (congrFun (index_gates t).2 0)))
    ((rect_emb_val win0_4 t (ix2 i j) 1).trans (gate_cols_at (congrFun (index_gates t).2 1)))
theorem wro_at : (iblk m c 5 t : Vec Ideal S1024x1024 .bf16) (ix2 k j) = wA m c (ix2 k j) := by
  rw [← (host_reads m c).2.2.1]
  exact at_coords (V m c main_v6) _ _ _ ((rect_emb_val win0_5 t (ix2 k j) 0).trans (cols_at (congrFun (index_whole t).1 0)))
    ((rect_emb_val win0_5 t (ix2 k j) 1).trans (cols_at (congrFun (index_whole t).1 1)))
theorem wlo_at : (iblk m c 6 t : Vec Ideal S1024x1024 .bf16) (ix2 k j) = wB m c (ix2 k j) := by
  rw [← (host_reads m c).2.2.2.1]
  exact at_coords (V m c main_v7) _ _ _ ((rect_emb_val win0_6 t (ix2 k j) 0).trans (cols_at (congrFun (index_whole t).2.1 0)))
    ((rect_emb_val win0_6 t (ix2 k j) 1).trans (cols_at (congrFun (index_whole t).2.1 1)))
theorem wout_at : (iblk m c 7 t : Vec Ideal S1024x1024 .bf16) (ix2 k j) = wOut m c (ix2 k j) := by
  rw [← (host_reads m c).2.2.2.2.1]
  exact at_coords (V m c main_v8) _ _ _ ((rect_emb_val win0_7 t (ix2 k j) 0).trans (cols_at (congrFun (index_whole t).2.2.1 0)))
    ((rect_emb_val win0_7 t (ix2 k j) 1).trans (cols_at (congrFun (index_whole t).2.2.1 1)))
theorem mb_at (r : Fin 2) : (iblk m c 8 t : Vec Ideal S2x1024 .f32) (ix2 r j) = bias m c (ix2 r j) := by
  rw [show bias m c = (V m c main_arg7 : Mat 2 1024) from (V_main_arg7 m c).symm]
  exact at_coords (V m c main_arg7) _ _ _ ((rect_emb_val win0_8 t (ix2 r j) 0).trans (cols_at (congrFun (index_whole t).2.2.2 0)))
    ((rect_emb_val win0_8 t (ix2 r j) 1).trans (cols_at (congrFun (index_whole t).2.2.2 1)))

/-- What the step at point `t` computes, element by element, is the formulas' at that point's rows. -/
theorem step_rowRow : rowRow (blocksAt m c t.val).dx (blocksAt m c t.val).wout i j = rowRow (dx m c) (wOut m c) (rowOf t i) j := by
  rw [blocksAt_eq]
  exact Finset.sum_congr rfl fun l _ => congrArg₂ (· * ·) (dx_at m c t i l) (wout_at m c t l j)
theorem step_gate (r : Fin 2) : stepGate (blocksAt m c t.val) r i j = gate (proj m c) (bias m c) r (rowOf t i) j := by
  rw [blocksAt_eq]
  match r with
  | 0 => exact congrArg Ideal.logistic (congrArg₂ (· + ·) (gr_at m c t i j) (mb_at m c t j 0))
  | 1 => exact congrArg Ideal.logistic (congrArg₂ (· + ·) (gl_at m c t i j) (mb_at m c t j 1))
theorem step_ya : (blocksAt m c t.val).ya (ix2 i j) = rowCol (aIn m c) (wA m c) (rowOf t i) j := by
  rw [blocksAt_eq]; exact ya_at m c t i j
theorem step_yb : (blocksAt m c t.val).yb (ix2 i j) = rowCol (bIn m c) (wB m c) (rowOf t i) j := by
  rw [blocksAt_eq]; exact yb_at m c t i j
theorem step_wro : (blocksAt m c t.val).wro (ix2 k j) = wA m c (ix2 k j) := by
  rw [blocksAt_eq]; exact wro_at m c t j k
theorem step_wlo : (blocksAt m c t.val).wlo (ix2 k j) = wB m c (ix2 k j) := by
  rw [blocksAt_eq]; exact wlo_at m c t j k

theorem step_dya : (blocksAt m c t.val).dya (ix2 i j) = dBranch (dx m c) (proj m c) (wOut m c) (bias m c) 0 (ix2 (rowOf t i) j) := by
  rw [dya_at, step_rowRow, step_gate]; rfl
theorem step_dyb : (blocksAt m c t.val).dyb (ix2 i j) = dBranch (dx m c) (proj m c) (wOut m c) (bias m c) 1 (ix2 (rowOf t i) j) := by
  rw [dyb_at, step_rowRow, step_gate]; rfl
theorem step_da : (blocksAt m c t.val).da (ix2 i j) = dInput (dx m c) (proj m c) (wOut m c) (bias m c) (wA m c) 0 (ix2 (rowOf t i) j) := by
  rw [da_at]
  exact Finset.sum_congr rfl fun l _ => congrArg₂ (· * ·) (step_dya m c t i l) (step_wro m c t l j)
theorem step_db : (blocksAt m c t.val).db (ix2 i j) = dInput (dx m c) (proj m c) (wOut m c) (bias m c) (wB m c) 1 (ix2 (rowOf t i) j) := by
  rw [db_at]
  exact Finset.sum_congr rfl fun l _ => congrArg₂ (· * ·) (step_dyb m c t i l) (step_wlo m c t l j)

/-- The gradient of gate `r`. -/
def dGateOf (r : Fin 2) (i : Fin 8192) (j : Fin 1024) : EReal :=
  if r.val = 0 then dGate (dx m c) (proj m c) (wOut m c) (bias m c) (aIn m c) (wA m c) 0 i j
  else dGate (dx m c) (proj m c) (wOut m c) (bias m c) (bIn m c) (wB m c) 1 i j
theorem step_dGate (r : Fin 2) : stepDGate (blocksAt m c t.val) r (ix2 i j) = dGateOf m c r (rowOf t i) j := by
  match r with
  | 0 => refine (dgr_at _ i j).trans ?_; rw [step_rowRow, step_gate, step_ya]; rfl
  | 1 => refine (dgl_at _ i j).trans ?_; rw [step_rowRow, step_gate, step_yb]; rfl
end Point

/-! ## The arrays at the end -/

theorem final_da : ((dats m 0 c).arrAt 9 cfg0.N : Mat 8192 1024) = dInput (dx m c) (proj m c) (wOut m c) (bias m c) (wA m c) 0 := by
  refine (dats m 0 c).arrAt_eq_of_covers 9 _ (by decide +kernel) fun t hf y => ?_
  blk_simp
  obtain ⟨i, j, rfl⟩ : ∃ (i : Fin 512) (j : Fin 1024), y = ix2 i j := ⟨y 0, y 1, eq_ix2 y⟩
  exact (step_da m c t i j).trans (at_coords (dInput (dx m c) (proj m c) (wOut m c) (bias m c) (wA m c) 0) _ _ _
    ((rect_emb_val win0_9 t (ix2 i j) 0).trans (rows_at (congrFun (index_rows t).2.2.2.1 0)))
    ((rect_emb_val win0_9 t (ix2 i j) 1).trans (cols_at (congrFun (index_rows t).2.2.2.1 1)))).symm
theorem final_db : ((dats m 0 c).arrAt 10 cfg0.N : Mat 8192 1024) = dInput (dx m c) (proj m c) (wOut m c) (bias m c) (wB m c) 1 := by
  refine (dats m 0 c).arrAt_eq_of_covers 10 _ (by decide +kernel) fun t hf y => ?_
  blk_simp
  obtain ⟨i, j, rfl⟩ : ∃ (i : Fin 512) (j : Fin 1024), y = ix2 i j := ⟨y 0, y 1, eq_ix2 y⟩
  exact (step_db m c t i j).trans (at_coords (dInput (dx m c) (proj m c) (wOut m c) (bias m c) (wB m c) 1) _ _ _
    ((rect_emb_val win0_10 t (ix2 i j) 0).trans (rows_at (congrFun (index_rows t).2.2.2.2.1 0)))
    ((rect_emb_val win0_10 t (ix2 i j) 1).trans (cols_at (congrFun (index_rows t).2.2.2.2.1 1)))).symm
theorem final_dya : ((dats m 0 c).arrAt 11 cfg0.N : Mat 8192 1024) = dBranch (dx m c) (proj m c) (wOut m c) (bias m c) 0 := by
  refine (dats m 0 c).arrAt_eq_of_covers 11 _ (by decide +kernel) fun t hf y => ?_
  blk_simp
  obtain ⟨i, j, rfl⟩ : ∃ (i : Fin 512) (j : Fin 1024), y = ix2 i j := ⟨y 0, y 1, eq_ix2 y⟩
  exact (step_dya m c t i j).trans (at_coords (dBranch (dx m c) (proj m c) (wOut m c) (bias m c) 0) _ _ _
    ((rect_emb_val win0_11 t (ix2 i j) 0).trans (rows_at (congrFun (index_rows t).2.2.2.2.2.1 0)))
    ((rect_emb_val win0_11 t (ix2 i j) 1).trans (cols_at (congrFun (index_rows t).2.2.2.2.2.1 1)))).symm
theorem final_dyb : ((dats m 0 c).arrAt 12 cfg0.N : Mat 8192 1024) = dBranch (dx m c) (proj m c) (wOut m c) (bias m c) 1 := by
  refine (dats m 0 c).arrAt_eq_of_covers 12 _ (by decide +kernel) fun t hf y => ?_
  blk_simp
  obtain ⟨i, j, rfl⟩ : ∃ (i : Fin 512) (j : Fin 1024), y = ix2 i j := ⟨y 0, y 1, eq_ix2 y⟩
  exact (step_dyb m c t i j).trans (at_coords (dBranch (dx m c) (proj m c) (wOut m c) (bias m c) 1) _ _ _
    ((rect_emb_val win0_12 t (ix2 i j) 0).trans (rows_at (congrFun (index_rows t).2.2.2.2.2.2 0)))
    ((rect_emb_val win0_12 t (ix2 i j) 1).trans (cols_at (congrFun (index_rows t).2.2.2.2.2.2 1)))).symm

/-- The accumulator after point `n` has summed the points up to it. -/
theorem accAt_sum (r : Fin 2) (j : Fin 1024) (n : ℕ) (hn : n < 16) :
    accAt m c n (ix2 r j) = ∑ s : Fin (n + 1), ∑ i : Fin 512, dGateOf m c r ⟨512 * s.val + i.val, by omega⟩ j := by
  induction n with
  | zero =>
    rw [Fin.sum_univ_one]
    refine (acc_at _ _ r j).trans ?_
    rw [zero_at, zero_add]
    exact Finset.sum_congr rfl fun i _ => step_dGate m c ⟨0, by decide⟩ i j r
  | succ n ih =>
    rw [Fin.sum_univ_castSucc]
    refine (acc_at _ _ r j).trans (congrArg₂ (· + ·) (ih (by omega)) ?_)
    exact Finset.sum_congr rfl fun i _ => step_dGate m c ⟨n + 1, lt_of_lt_of_eq hn (show 16 = cfg0.N from N_0.symm)⟩ i j r

theorem final_dmb : ((dats m 0 c).arrAt 13 cfg0.N : Mat 2 1024) =
    dBias (dx m c) (proj m c) (wOut m c) (bias m c) (aIn m c) (bIn m c) (wA m c) (wB m c) := by
  refine (dats m 0 c).arrAt_eq_of_after_last 13 ⟨15, by decide⟩ (by decide +kernel) _ fun j => ?_
  blk_simp
  obtain ⟨r, j, rfl⟩ : ∃ (r : Fin 2) (k : Fin 1024), j = ix2 r k := ⟨j 0, j 1, eq_ix2 j⟩
  refine Eq.trans (b := accAt m c 15 (ix2 r j)) (congrArg (accAt m c 15) ?_) ?_
  · rfl
  · rw [accAt_sum m c r j 15 (by decide)]
    exact (sum_blocks fun i => dGateOf m c r i j).symm

/-- The tile packed for block `u` and gate `r`. -/
theorem tileAt_at (u : Fin 16) (r : Fin 2) (p : Fin 512) (q : Fin 1024) :
    tileAt m c u r (ix2 p q) = dGateOf m c r ⟨512 * u.val + p.val, by omega⟩ q :=
  (tile_at _ r p q).trans (step_dGate m c ⟨u.val, lt_of_lt_of_eq u.isLt N_0.symm⟩ p q r)

/-- The packed array, past the columns of the other gradients, holds the two gates' gradients. -/
theorem packed_at (i : Fin 8192) (j : Fin 2048) : (packed m c : Mat 8192 7168) (ix2 i ⟨5120 + j.val, by omega⟩) =
    dGates (dx m c) (proj m c) (wOut m c) (bias m c) (aIn m c) (bIn m c) (wA m c) (wB m c) (ix2 i j) := by
  refine (if_pos (show 5120 ≤ 5120 + j.val by omega)).trans ((tileAt_at m c _ _ _ _).trans ?_)
  have hi : (⟨512 * (Fin.ofNat 16 (i.val / 512)).val + i.val % 512, by
      have := (Fin.ofNat 16 (i.val / 512)).isLt; omega⟩ : Fin 8192) = i := Fin.ext (by simp [Fin.ofNat]; omega)
  have hr : (Fin.ofNat 2 ((5120 + j.val - 5120) / 1024)).val = j.val / 1024 := by simp [Fin.ofNat]; omega
  by_cases h : j.val < 1024
  · have hq : (⟨(5120 + j.val - 5120) % 1024, Nat.mod_lt _ (by decide)⟩ : Fin 1024) = ⟨j.val, h⟩ := Fin.ext (by simp; omega)
    refine (if_pos (hr.trans (by omega))).trans (Eq.trans ?_ (dif_pos h).symm)
    exact congrArg₂ (dGate (dx m c) (proj m c) (wOut m c) (bias m c) (aIn m c) (wA m c) 0) hi hq
  · have hq : (⟨(5120 + j.val - 5120) % 1024, Nat.mod_lt _ (by decide)⟩ : Fin 1024) = ⟨j.val - 1024, by omega⟩ := Fin.ext (by simp; omega)
    refine (if_neg (fun e => h (by have := hr.symm.trans e; omega))).trans (Eq.trans ?_ (dif_neg h).symm)
    exact congrArg₂ (dGate (dx m c) (proj m c) (wOut m c) (bias m c) (bIn m c) (wB m c) 1) hi hq

/-- The line after the region cuts the gates' columns out. -/
theorem tail_gates : (StableHlo.after (List.flatten [hostOps1]) (atTail m c) (Proc.devRef .tc main_v10) : Mat 8192 2048) =
    dGates (dx m c) (proj m c) (wOut m c) (bias m c) (aIn m c) (bIn m c) (wA m c) (wB m c) := by
  have h : atTail m c (Proc.devRef .tc main_v9_4) = packed m c :=
    (Pipeline.withArrays_of_ne spec0 c _ _ main_v9_4 (by decide)).trans
      ((Pipeline.withR_of_mem _ _ _ _ main_v9_4 (by decide)).trans (left_packed m c))
  have e : (StableHlo.after (List.flatten [hostOps1]) (atTail m c) (Proc.devRef .tc main_v10) : Mat 8192 2048) =
      extractStridedSlice S8192x2048 ![0, 5120] (packed m c : FVec Ideal S8192x7168 .bf16) slices_S8192x7168_S8192x2048_0_5120 := by
    rw [← h]
    simp only [List.flatten_cons, List.flatten_nil, List.append_nil]
    unfold hostOps1
    after_results_simp <;> rfl
  rw [e]
  funext y
  obtain ⟨i, j, rfl⟩ : ∃ (i : Fin 8192) (j : Fin 2048), y = ix2 i j := ⟨y 0, y 1, eq_ix2 y⟩
  refine Eq.trans ?_ (packed_at m c i j)
  pointwise

/-- From any memory the kernel ends with every result at its formula, and the arguments as launched. -/
theorem results (ρ : Dev nD → PrngReg) : θ_run defs (onTc (τ := τ) (main (F := Ideal))) ⟨m, fun _ => 0, ρ⟩ (fun r => ∀ c : Dev nD,
      r.2.mem ((c.tc : Thread nD τ).loc main_v9_0) = dInput (dx m c) (proj m c) (wOut m c) (bias m c) (wA m c) 0
      ∧ r.2.mem ((c.tc : Thread nD τ).loc main_v9_1) = dInput (dx m c) (proj m c) (wOut m c) (bias m c) (wB m c) 1
      ∧ r.2.mem ((c.tc : Thread nD τ).loc main_v9_2) = dBranch (dx m c) (proj m c) (wOut m c) (bias m c) 0
      ∧ r.2.mem ((c.tc : Thread nD τ).loc main_v9_3) = dBranch (dx m c) (proj m c) (wOut m c) (bias m c) 1
      ∧ r.2.mem ((c.tc : Thread nD τ).loc main_v10) = dGates (dx m c) (proj m c) (wOut m c) (bias m c) (aIn m c) (bIn m c) (wA m c) (wB m c)
      ∧ r.2.mem ((c.tc : Thread nD τ).loc main_v9_5) = dBias (dx m c) (proj m c) (wOut m c) (bias m c) (aIn m c) (bIn m c) (wA m c) (wB m c)) :=
  (θ_run defs _ _).mono (fun r h c => ⟨((h.1 c).1 9).trans (final_da m c), ((h.1 c).1 10).trans (final_db m c), ((h.1 c).1 11).trans (final_dya m c),
    ((h.1 c).1 12).trans (final_dyb m c), ((h.1 c).2 main_v10 (Pipeline.mem_restRefs_of main_v10 (by decide) (by decide))).trans (tail_gates m c),
    ((h.1 c).1 13).trans (final_dmb m c)⟩) (run_main m ρ)

end Cert.KernelIdeal.Mix

end
-- ==== Proof.MixRef.lean ====
/-
  The reference's results over the extended reals: each is the formula of Proof/MixSpec.lean.
-/
module

public import proofs.«01_k».proof.Proof.MixSpec
public import proofs.«01_k».proof.Proof.Gen.ReferenceIdeal.Run
public import Idealize.ShloMosaic.Lib.Pointwise

@[expose] public section

set_option maxRecDepth 16384

noncomputable section

namespace Cert.ReferenceIdeal.Merge

open Idealize.ShloMosaic Idealize.ShloMosaic.TcCoe Idealize.ShloMosaic.StableHlo Idealize.SL.Sem Cert.ReferenceIdeal Cert.ReferenceIdeal.Gen Cert.Merge

/-! ## The reference's lines, each as it writes them -/

/-- The array of ones. -/
def ones : FVec Ideal S8192x1024 .f32 := broadcastInDim S8192x1024 ![] bcast_S_S8192x1024 (constant S_ .f32 0x3F800000#32)
/-- The logistic function, written with an exponential. -/
def sigmoid (x : FVec Ideal S8192x1024 .f32) : FVec Ideal S8192x1024 .f32 := Host.divf ones (addf ones (Host.exp (Host.negf x)))
/-- What the first gate is the logistic function of, and the second. -/
def pre0 (p : FVec Ideal S8192x7168 .f32) (mb : FVec Ideal S2x1024 .f32) : FVec Ideal S8192x1024 .f32 :=
  addf (extractStridedSlice S8192x1024 ![0, 0] (extractStridedSlice S8192x2048 ![0, 5120] p slices_S8192x7168_S8192x2048_0_5120) slices_S8192x2048_S8192x1024_0_0)
    (broadcastInDim S8192x1024 ![0, 1] bcast_S1x1024_S8192x1024_0_1 (broadcastInDim S1x1024 ![1] bcast_S1024_S1x1024_1
      (shapeCast _ (extractStridedSlice S1x1024 ![0, 0] mb slices_S2x1024_S1x1024_0_0) shapeCasts_S1x1024_S1024)))
def pre1 (p : FVec Ideal S8192x7168 .f32) (mb : FVec Ideal S2x1024 .f32) : FVec Ideal S8192x1024 .f32 :=
  addf (extractStridedSlice S8192x1024 ![0, 1024] (extractStridedSlice S8192x2048 ![0, 5120] p slices_S8192x7168_S8192x2048_0_5120) slices_S8192x2048_S8192x1024_0_1024)
    (broadcastInDim S8192x1024 ![0, 1] bcast_S1x1024_S8192x1024_0_1 (broadcastInDim S1x1024 ![1] bcast_S1024_S1x1024_1
      (shapeCast _ (extractStridedSlice S1x1024 ![1, 0] mb slices_S2x1024_S1x1024_1_0) shapeCasts_S1x1024_S1024)))
/-- A product with a weight, and with its transpose. -/
def forth (x : FVec Ideal S8192x1024 .f32) (w : FVec Ideal S1024x1024 .f32) : FVec Ideal S8192x1024 .f32 :=
  Host.dotGeneral dot_S8192x1024_S1024x1024_S8192x1024_1_0_0_1_n_n none x w
def back (x : FVec Ideal S8192x1024 .f32) (w : FVec Ideal S1024x1024 .f32) : FVec Ideal S8192x1024 .f32 :=
  Host.dotGeneral dot_S8192x1024_S1024x1024_S8192x1024_1_1_0_0_n_n none x w
/-- The gradient of a gate. -/
def gateGrad (dx : FVec Ideal S8192x1024 .f32) (wout : FVec Ideal S1024x1024 .f32) (a : FVec Ideal S8192x1024 .f32) (w : FVec Ideal S1024x1024 .f32)
    (pre : FVec Ideal S8192x1024 .f32) : FVec Ideal S8192x1024 .f32 :=
  mulf (mulf (back dx wout) (forth a w)) (mulf (sigmoid pre) (subf ones (sigmoid pre)))
/-- Two arrays side by side, and two rows of column sums one above the other, as the derivative writes them. -/
def beside (x y : FVec Ideal S8192x1024 .f32) : FVec Ideal S8192x2048 .f32 :=
  addf (pad S8192x2048 ![0, 1024] ![0, 0] ![0, 0] y (constant S_ .f32 0x00000000#32) pads_S8192x1024_S8192x2048_000_102400 h_S_)
    (pad S8192x2048 ![0, 0] ![0, 1024] ![0, 0] x (constant S_ .f32 0x00000000#32) pads_S8192x1024_S8192x2048_000_010240 h_S_)
def columnSums (x : FVec Ideal S8192x1024 .f32) : FVec Ideal S1x1024 .f32 :=
  broadcastInDim S1x1024 ![1] bcast_S1024_S1x1024_1 (Host.reduceAdd (shapeCast _ (Host.reduceAdd x (constant S_ .f32 0x00000000#32)
    reducesTo_S8192x1024_S1024_d0 h_S_) shapeCasts_S1024_S1x1024) (constant S_ .f32 0x00000000#32) reducesTo_S1x1024_S1024_d0 h_S_)
def above (x y : FVec Ideal S1x1024 .f32) : FVec Ideal S2x1024 .f32 :=
  addf (pad S2x1024 ![1, 0] ![0, 0] ![0, 0] y (constant S_ .f32 0x00000000#32) pads_S1x1024_S2x1024_100_000 h_S_)
    (pad S2x1024 ![0, 0] ![1, 0] ![0, 0] x (constant S_ .f32 0x00000000#32) pads_S1x1024_S2x1024_010_000 h_S_)

/-! ## Each of them, at an element -/

theorem ones_at (i : Fin 8192) (j : Fin 1024) : ones (ix2 i j) = 1 := by
  pointwise [ones]
theorem sigmoid_at (x : FVec Ideal S8192x1024 .f32) (i : Fin 8192) (j : Fin 1024) : sigmoid x (ix2 i j) = Ideal.logistic (x (ix2 i j)) := by
  pointwise [sigmoid, ones]
  rfl
theorem pre0_at (p : FVec Ideal S8192x7168 .f32) (mb : FVec Ideal S2x1024 .f32) (i : Fin 8192) (j : Fin 1024) :
    pre0 p mb (ix2 i j) = p (ix2 i ⟨5120 + 1024 * (0 : Fin 2).val + j.val, by omega⟩) + mb (ix2 0 j) := by
  pointwise [pre0]
theorem pre1_at (p : FVec Ideal S8192x7168 .f32) (mb : FVec Ideal S2x1024 .f32) (i : Fin 8192) (j : Fin 1024) :
    pre1 p mb (ix2 i j) = p (ix2 i ⟨5120 + 1024 * (1 : Fin 2).val + j.val, by omega⟩) + mb (ix2 1 j) := by
  refine Eq.trans (b := p (ix2 i ⟨6144 + j.val, by omega⟩) + mb (ix2 1 j)) ?_ ?_
  · pointwise [pre1]
    exact congrArg (fun k => p (ix2 i k) + mb (ix2 1 j)) (Fin.ext (by simp; omega))
  · exact congrArg (fun k => p (ix2 i k) + mb (ix2 1 j)) (Fin.ext (by simp))
theorem forth_at (x : FVec Ideal S8192x1024 .f32) (w : FVec Ideal S1024x1024 .f32) (i : Fin 8192) (j : Fin 1024) :
    forth x w (ix2 i j) = rowCol x w i j := by
  pointwise [forth, rowCol]
theorem back_at (x : FVec Ideal S8192x1024 .f32) (w : FVec Ideal S1024x1024 .f32) (i : Fin 8192) (j : Fin 1024) :
    back x w (ix2 i j) = rowRow x w i j := by
  pointwise [back, rowRow]
theorem beside_at (x y : FVec Ideal S8192x1024 .f32) (i : Fin 8192) (j : Fin 2048) :
    beside x y (ix2 i j) = if h : j.val < 1024 then x (ix2 i ⟨j.val, h⟩) else y (ix2 i ⟨j.val - 1024, by omega⟩) := by
  pointwise [beside]
  by_cases h : j.val < 1024
  · rw [dif_neg (by omega), dif_pos h, dif_pos h, zero_add]
  · rw [dif_pos (by omega), dif_neg h, dif_neg h, add_zero]
theorem columnSums_at (x : FVec Ideal S8192x1024 .f32) (j : Fin 1024) : columnSums x (ix2 0 j) = ∑ i : Fin 8192, x (ix2 i j) := by
  pointwise [columnSums]
  exact Fin.sum_univ_one _
theorem above_at (x y : FVec Ideal S1x1024 .f32) (r : Fin 2) (j : Fin 1024) :
    above x y (ix2 r j) = if r.val = 0 then x (ix2 0 j) else y (ix2 0 j) := by
  pointwise [above]
  match r with
  | 0 => simp
  | 1 => simp

theorem gateGrad_at (dx : FVec Ideal S8192x1024 .f32) (p : FVec Ideal S8192x7168 .f32) (wout : FVec Ideal S1024x1024 .f32) (mb : FVec Ideal S2x1024 .f32)
    (a : FVec Ideal S8192x1024 .f32) (w : FVec Ideal S1024x1024 .f32) (i : Fin 8192) (j : Fin 1024) :
    gateGrad dx wout a w (pre0 p mb) (ix2 i j) = dGate dx p wout mb a w 0 i j
    ∧ gateGrad dx wout a w (pre1 p mb) (ix2 i j) = dGate dx p wout mb a w 1 i j := by
  constructor
  · show back dx wout (ix2 i j) * forth a w (ix2 i j) * (sigmoid _ (ix2 i j) * (ones (ix2 i j) - sigmoid _ (ix2 i j))) = _
    rw [back_at, forth_at, sigmoid_at, ones_at, pre0_at]; rfl
  · show back dx wout (ix2 i j) * forth a w (ix2 i j) * (sigmoid _ (ix2 i j) * (ones (ix2 i j) - sigmoid _ (ix2 i j))) = _
    rw [back_at, forth_at, sigmoid_at, ones_at, pre1_at]; rfl

/-! ## The results -/

section Values
variable (dx a b : FVec Ideal S8192x1024 .f32) (p : FVec Ideal S8192x7168 .f32) (wa wb wout : FVec Ideal S1024x1024 .f32) (mb : FVec Ideal S2x1024 .f32)

theorem branch0 : mulf (sigmoid (pre0 p mb)) (back dx wout) = dBranch dx p wout mb 0 := by
  funext y
  obtain ⟨i, j, rfl⟩ : ∃ (i : Fin 8192) (j : Fin 1024), y = ix2 i j := ⟨y 0, y 1, eq_ix2 y⟩
  show sigmoid _ (ix2 i j) * back dx wout (ix2 i j) = _
  rw [back_at, sigmoid_at, pre0_at, mul_comm]; rfl
theorem branch1 : mulf (sigmoid (pre1 p mb)) (back dx wout) = dBranch dx p wout mb 1 := by
  funext y
  obtain ⟨i, j, rfl⟩ : ∃ (i : Fin 8192) (j : Fin 1024), y = ix2 i j := ⟨y 0, y 1, eq_ix2 y⟩
  show sigmoid _ (ix2 i j) * back dx wout (ix2 i j) = _
  rw [back_at, sigmoid_at, pre1_at, mul_comm]; rfl
theorem input0 : back (mulf (sigmoid (pre0 p mb)) (back dx wout)) wa = dInput dx p wout mb wa 0 := by
  rw [branch0]
  funext y
  obtain ⟨i, j, rfl⟩ : ∃ (i : Fin 8192) (j : Fin 1024), y = ix2 i j := ⟨y 0, y 1, eq_ix2 y⟩
  exact back_at _ _ i j
theorem input1 : back (mulf (sigmoid (pre1 p mb)) (back dx wout)) wb = dInput dx p wout mb wb 1 := by
  rw [branch1]
  funext y
  obtain ⟨i, j, rfl⟩ : ∃ (i : Fin 8192) (j : Fin 1024), y = ix2 i j := ⟨y 0, y 1, eq_ix2 y⟩
  exact back_at _ _ i j
theorem gates : beside (gateGrad dx wout a wa (pre0 p mb)) (gateGrad dx wout b wb (pre1 p mb)) = dGates dx p wout mb a b wa wb := by
  funext y
  obtain ⟨i, j, rfl⟩ : ∃ (i : Fin 8192) (j : Fin 2048), y = ix2 i j := ⟨y 0, y 1, eq_ix2 y⟩
  refine (beside_at _ _ i j).trans ?_
  by_cases h : j.val < 1024
  · refine (dif_pos h).trans (Eq.trans ?_ (dif_pos h).symm)
    exact (gateGrad_at dx p wout mb a wa i _).1
  · refine (dif_neg h).trans (Eq.trans ?_ (dif_neg h).symm)
    exact (gateGrad_at dx p wout mb b wb i _).2
theorem biases : above (columnSums (gateGrad dx wout a wa (pre0 p mb))) (columnSums (gateGrad dx wout b wb (pre1 p mb))) = dBias dx p wout mb a b wa wb := by
  funext y
  obtain ⟨r, j, rfl⟩ : ∃ (r : Fin 2) (j : Fin 1024), y = ix2 r j := ⟨y 0, y 1, eq_ix2 y⟩
  refine (above_at _ _ r j).trans ?_
  match r with
  | 0 => exact (columnSums_at _ j).trans (Finset.sum_congr rfl fun i _ => (gateGrad_at dx p wout mb a wa i j).1)
  | 1 => exact (columnSums_at _ j).trans (Finset.sum_congr rfl fun i _ => (gateGrad_at dx p wout mb b wb i j).2)
end Values

/-- From any memory the reference ends with every result at its formula. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      let x k := m ((c.tc : Thread nD τ).loc k)
      (r.2.mem ((c.tc : Thread nD τ).loc main_v62) : Mat 8192 1024) = dInput (x main_arg0) (x main_arg3) (x main_arg6) (x main_arg7) (x main_arg4) 0
      ∧ (r.2.mem ((c.tc : Thread nD τ).loc main_v63) : Mat 8192 1024) = dInput (x main_arg0) (x main_arg3) (x main_arg6) (x main_arg7) (x main_arg5) 1
      ∧ (r.2.mem ((c.tc : Thread nD τ).loc main_v64) : Mat 8192 1024) = dBranch (x main_arg0) (x main_arg3) (x main_arg6) (x main_arg7) 0
      ∧ (r.2.mem ((c.tc : Thread nD τ).loc main_v65) : Mat 8192 1024) = dBranch (x main_arg0) (x main_arg3) (x main_arg6) (x main_arg7) 1
      ∧ (r.2.mem ((c.tc : Thread nD τ).loc main_v66) : Mat 8192 2048)
          = dGates (x main_arg0) (x main_arg3) (x main_arg6) (x main_arg7) (x main_arg1) (x main_arg2) (x main_arg4) (x main_arg5)
      ∧ (r.2.mem ((c.tc : Thread nD τ).loc main_v56) : Mat 2 1024)
          = dBias (x main_arg0) (x main_arg3) (x main_arg6) (x main_arg7) (x main_arg1) (x main_arg2) (x main_arg4) (x main_arg5)) :=
  (θ_run defs _ _).mono (fun r h c => ⟨(h c).1.trans (input0 _ _ _ _ _), (h c).2.1.trans (input1 _ _ _ _ _), (h c).2.2.1.trans (branch0 _ _ _ _),
    (h c).2.2.2.1.trans (branch1 _ _ _ _), (h c).2.2.2.2.1.trans (gates _ _ _ _ _ _ _ _), (h c).2.2.2.2.2.1.trans (biases _ _ _ _ _ _ _ _)⟩)
    (Cert.ReferenceIdeal.Value.run (F := Ideal) m ρ)

end Cert.ReferenceIdeal.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.NormBack
public import proofs.«01_k».proof.Proof.NormBackRef
public import proofs.«01_k».proof.Proof.FirstNormBack
public import proofs.«01_k».proof.Proof.FirstNormBackRef
public import proofs.«01_k».proof.Proof.Head
public import proofs.«01_k».proof.Proof.HeadRef
public import proofs.«01_k».proof.Proof.Gen.Kernel16.Frame
public import proofs.«01_k».proof.Proof.Gen.Kernel16Ideal.Value
public import proofs.«01_k».proof.Proof.Gen.Reference16Ideal.Run
public import proofs.«01_k».proof.Proof.Act
public import proofs.«01_k».proof.Proof.ActRef
public import proofs.«01_k».proof.Proof.UpGrad
public import proofs.«01_k».proof.Proof.DownGrad
public import proofs.«01_k».proof.Proof.OutGrad
public import proofs.«01_k».proof.Proof.UpForward
public import proofs.«01_k».proof.Proof.DownForward
public import proofs.«01_k».proof.Proof.MixForward
public import proofs.«01_k».proof.Proof.MixForwardRef
public import proofs.«01_k».proof.Proof.ProjForward
public import proofs.«01_k».proof.Proof.ProjGrad
public import proofs.«01_k».proof.Proof.DownBack
public import proofs.«01_k».proof.Proof.UpBack
public import proofs.«01_k».proof.Proof.ProjBack
public import proofs.«01_k».proof.Proof.MixWords
public import proofs.«01_k».proof.Proof.MixValue
public import proofs.«01_k».proof.Proof.MixRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The frame of the reference: its arguments end unchanged, and it has no semaphores. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

open Cert.Merge Cert.KernelIdeal.Mix in
/-- Over the extended reals the kernel and the reference end with the same six arrays. -/
theorem algebraic : Cert.algebraic_KernelIdeal_ReferenceIdeal := by
  intro m g m' g' _ hm
  refine ⟨fun c => dInput (dx m c) (proj m c) (wOut m c) (bias m c) (wA m c) 0, fun c => dInput (dx m c) (proj m c) (wOut m c) (bias m c) (wB m c) 1,
    fun c => dBranch (dx m c) (proj m c) (wOut m c) (bias m c) 0, fun c => dBranch (dx m c) (proj m c) (wOut m c) (bias m c) 1,
    fun c => dGates (dx m c) (proj m c) (wOut m c) (bias m c) (aIn m c) (bIn m c) (wA m c) (wB m c),
    fun c => dBias (dx m c) (proj m c) (wOut m c) (bias m c) (aIn m c) (bIn m c) (wA m c) (wB m c),
    (θ_run _ _ _).mono (fun r h c => ?_) (θ_run_and (Cert.KernelIdeal.Mix.results m g) (Cert.KernelIdeal.Mix.frame m g)),
    (θ_run _ _ _).mono (fun r h c => ?_) (θ_run_and (Cert.ReferenceIdeal.Merge.results m' g') (Cert.ReferenceIdeal.Value.run (F := Ideal) m' g'))⟩
  · obtain ⟨h1, h2, h3, h4, h5, h6⟩ := h.1 c
    exact ⟨h1, h2, h3, h4, h5, h6, h.2.1 c⟩
  · obtain ⟨h1, h2, h3, h4, h5, h6⟩ := h.1 c
    obtain ⟨e0, e1, e2, e3, e4, e5, e6, e7⟩ := hm c
    simp only [e0, e1, e2, e3, e4, e5, e6, e7] at h1 h2 h3 h4 h5 h6
    exact ⟨h1, h2, h3, h4, h5, h6, (h.2 c).2.2.2.2.2.2⟩

/-- Kernel 2: the gradient of the feed-forward's first weight. The reference's frame, and the same result over the extended reals. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)
theorem algebraic2 : Cert.algebraic_Kernel2Ideal_Reference2Ideal := by
  intro m g m' g' _ hm
  refine ⟨fun c => Cert.Products.tn (Cert.Kernel2Ideal.Up.lhs m c) (Cert.Kernel2Ideal.Up.rhs m c), Cert.Kernel2Ideal.Up.results m g,
    (θ_run _ _ _).mono (fun r h c => ?_) (Cert.Reference2Ideal.Value.run (F := Ideal) m' g')⟩
  obtain ⟨e0, e1⟩ := hm c
  refine ⟨(h c).1.trans ((Cert.Reference2Ideal.Up.product _ _).trans ?_), (h c).2⟩
  rw [e0, e1]

/-- Kernel 3: the gradient of its second weight. The reference's frame, and the same result over the extended reals. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)
theorem algebraic3 : Cert.algebraic_Kernel3Ideal_Reference3Ideal := by
  intro m g m' g' _ hm
  refine ⟨fun c => Cert.Products.tn (Cert.Kernel3Ideal.Down.lhs m c) (Cert.Kernel3Ideal.Down.rhs m c), Cert.Kernel3Ideal.Down.results m g,
    (θ_run _ _ _).mono (fun r h c => ?_) (Cert.Reference3Ideal.Value.run (F := Ideal) m' g')⟩
  obtain ⟨e0, e1⟩ := hm c
  refine ⟨(h c).1.trans ((Cert.Reference3Ideal.Down.product _ _).trans ?_), (h c).2⟩
  rw [e0, e1]

/-- Kernel 4: the gradient of an output weight. The reference's frame, and the same result over the extended reals. -/
theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)
theorem algebraic4 : Cert.algebraic_Kernel4Ideal_Reference4Ideal := by
  intro m g m' g' _ hm
  refine ⟨fun c => Cert.Products.tn (Cert.Kernel4Ideal.Out.lhs m c) (Cert.Kernel4Ideal.Out.rhs m c), Cert.Kernel4Ideal.Out.results m g,
    (θ_run _ _ _).mono (fun r h c => ?_) (Cert.Reference4Ideal.Value.run (F := Ideal) m' g')⟩
  obtain ⟨e0, e1⟩ := hm c
  refine ⟨(h c).1.trans ((Cert.Reference4Ideal.Out.product _ _).trans ?_), (h c).2⟩
  rw [e0, e1]

/-- Kernel 5: the feed-forward's first product. The reference's frame, and the same result over the extended reals. -/
theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)
theorem algebraic5 : Cert.algebraic_Kernel5Ideal_Reference5Ideal := by
  intro m g m' g' _ hm
  refine ⟨fun c => Cert.Products.nn (Cert.Kernel5Ideal.UpForward.lhs m c) (Cert.Kernel5Ideal.UpForward.rhs m c), Cert.Kernel5Ideal.UpForward.results m g,
    (θ_run _ _ _).mono (fun r h c => ?_) (Cert.Reference5Ideal.Value.run (F := Ideal) m' g')⟩
  obtain ⟨e0, e1⟩ := hm c
  refine ⟨(h c).1.trans ((Cert.Reference5Ideal.UpForward.product _ _).trans ?_), (h c).2⟩
  rw [e0, e1]

/-- Kernel 6: the residual and the feed-forward's second product. The reference's frame, and the same result over the extended reals. -/
theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)
theorem algebraic6 : Cert.algebraic_Kernel6Ideal_Reference6Ideal := by
  intro m g m' g' _ hm
  refine ⟨fun c => Cert.Kernel6Ideal.DownForward.sum (Cert.Kernel6Ideal.DownForward.lhs m c) (Cert.Kernel6Ideal.DownForward.rhs m c) (Cert.Kernel6Ideal.DownForward.res m c), Cert.Kernel6Ideal.DownForward.results m g,
    (θ_run _ _ _).mono (fun r h c => ?_) (Cert.Reference6Ideal.Value.run (F := Ideal) m' g')⟩
  obtain ⟨e0, e1, e2⟩ := hm c
  refine ⟨(h c).1.trans ((Cert.Reference6Ideal.DownForward.product _ _ _).trans ?_), (h c).2⟩
  rw [e0, e1, e2]

/-- Kernel 7: the merge's forward pass. The reference's frame, and the same results over the extended reals. -/
theorem frame_reference7 : Cert.quiescent_Reference7Ideal := fun m ρ _ =>
  (θ_run Cert.Reference7Ideal.defs _ _).mono (fun r h => ⟨fun c => (h c).2.2.2.2.2, sem_eq_zero_of_no_sems (by decide) r.2⟩) (Cert.Reference7Ideal.Value.run (F := Ideal) m ρ)
theorem algebraic7 : Cert.algebraic_Kernel7Ideal_Reference7Ideal := by
  intro m g m' g' _ hm
  refine ⟨fun c => Cert.Kernel7Ideal.MixForward.residualOf m c, fun c => Cert.Kernel7Ideal.MixForward.mixedOf m c,
    fun c => Cert.MixForward.rms (Cert.Kernel7Ideal.MixForward.residualOf m c) (Cert.Kernel7Ideal.MixForward.scale m c),
    fun c => Cert.Products.nn (Cert.Kernel7Ideal.MixForward.aIn m c) (Cert.Kernel7Ideal.MixForward.wA m c),
    fun c => Cert.Products.nn (Cert.Kernel7Ideal.MixForward.bIn m c) (Cert.Kernel7Ideal.MixForward.wB m c), Cert.Kernel7Ideal.MixForward.results m g,
    (θ_run _ _ _).mono (fun r h c => ?_) (θ_run_and (Cert.Reference7Ideal.MixForward.results m' g') (Cert.Reference7Ideal.Value.run (F := Ideal) m' g'))⟩
  obtain ⟨h1, h2, h3, h4, h5⟩ := h.1 c
  obtain ⟨e0, e1, e2, e3, e4, e5, e6, e7, e8⟩ := hm c
  simp only [e0, e1, e2, e3, e4, e5, e6, e7, e8] at h1 h2 h3 h4 h5
  exact ⟨h1, h2, h3, h4, h5, (h.2 c).2.2.2.2.2⟩

/-- Kernel 8: the combined projection. The reference's frame, and the same result over the extended reals. -/
theorem frame_reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)
theorem algebraic8 : Cert.algebraic_Kernel8Ideal_Reference8Ideal := by
  intro m g m' g' _ hm
  refine ⟨fun c => Cert.Products.nn (Cert.Kernel8Ideal.ProjForward.lhs m c) (Cert.Kernel8Ideal.ProjForward.rhs m c), Cert.Kernel8Ideal.ProjForward.results m g,
    (θ_run _ _ _).mono (fun r h c => ?_) (Cert.Reference8Ideal.Value.run (F := Ideal) m' g')⟩
  obtain ⟨e0, e1⟩ := hm c
  refine ⟨(h c).1.trans ((Cert.Reference8Ideal.ProjForward.product _ _).trans ?_), (h c).2⟩
  rw [e0, e1]

/-- Kernel 9: the gradient of the combined projection's weight. The reference's frame, and the same result over the extended reals. -/
theorem frame_reference9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)
theorem algebraic9 : Cert.algebraic_Kernel9Ideal_Reference9Ideal := by
  intro m g m' g' _ hm
  refine ⟨fun c => Cert.Products.tn (Cert.Kernel9Ideal.Proj.lhs m c) (Cert.Kernel9Ideal.Proj.rhs m c), Cert.Kernel9Ideal.Proj.results m g,
    (θ_run _ _ _).mono (fun r h c => ?_) (Cert.Reference9Ideal.Value.run (F := Ideal) m' g')⟩
  obtain ⟨e0, e1⟩ := hm c
  refine ⟨(h c).1.trans ((Cert.Reference9Ideal.Proj.product _ _).trans ?_), (h c).2⟩
  rw [e0, e1]

/-- Kernel 10: the gradient back through the feed-forward's second weight. The reference's frame, and the same result over the extended reals. -/
theorem frame_reference10 : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)
theorem algebraic10 : Cert.algebraic_Kernel10Ideal_Reference10Ideal := by
  intro m g m' g' _ hm
  refine ⟨fun c => Cert.Products.nt (Cert.Kernel10Ideal.DownBack.lhs m c) (Cert.Kernel10Ideal.DownBack.rhs m c), Cert.Kernel10Ideal.DownBack.results m g,
    (θ_run _ _ _).mono (fun r h c => ?_) (Cert.Reference10Ideal.Value.run (F := Ideal) m' g')⟩
  obtain ⟨e0, e1⟩ := hm c
  refine ⟨(h c).1.trans ((Cert.Reference10Ideal.DownBack.product _ _).trans ?_), (h c).2⟩
  rw [e0, e1]

/-- Kernel 11: the gradient back through its first weight. The reference's frame, and the same result over the extended reals. -/
theorem frame_reference11 : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)
theorem algebraic11 : Cert.algebraic_Kernel11Ideal_Reference11Ideal := by
  intro m g m' g' _ hm
  refine ⟨fun c => Cert.Products.nt (Cert.Kernel11Ideal.UpBack.lhs m c) (Cert.Kernel11Ideal.UpBack.rhs m c), Cert.Kernel11Ideal.UpBack.results m g,
    (θ_run _ _ _).mono (fun r h c => ?_) (Cert.Reference11Ideal.Value.run (F := Ideal) m' g')⟩
  obtain ⟨e0, e1⟩ := hm c
  refine ⟨(h c).1.trans ((Cert.Reference11Ideal.UpBack.product _ _).trans ?_), (h c).2⟩
  rw [e0, e1]

/-- Kernel 12: the gradient back through the combined projection's weight. The reference's frame, and the same result over the extended reals. -/
theorem frame_reference12 : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)
theorem algebraic12 : Cert.algebraic_Kernel12Ideal_Reference12Ideal := by
  intro m g m' g' _ hm
  refine ⟨fun c => Cert.Products.nt (Cert.Kernel12Ideal.ProjBack.lhs m c) (Cert.Kernel12Ideal.ProjBack.rhs m c), Cert.Kernel12Ideal.ProjBack.results m g,
    (θ_run _ _ _).mono (fun r h c => ?_) (Cert.Reference12Ideal.Value.run (F := Ideal) m' g')⟩
  obtain ⟨e0, e1⟩ := hm c
  refine ⟨(h c).1.trans ((Cert.Reference12Ideal.ProjBack.product _ _).trans ?_), (h c).2⟩
  rw [e0, e1]

/-- Kernel 13: the gradient of the second norm. The reference's frame, and the same results over the extended reals. -/
theorem frame_reference13 : Cert.quiescent_Reference13Ideal := fun m ρ _ =>
  (θ_run Cert.Reference13Ideal.defs _ _).mono (fun r h => ⟨fun c => (h c).2.2.2, sem_eq_zero_of_no_sems (by decide) r.2⟩) (Cert.Reference13Ideal.Value.run (F := Ideal) m ρ)
theorem algebraic13 : Cert.algebraic_Kernel13Ideal_Reference13Ideal := by
  intro m g m' g' _ hm
  refine ⟨fun c => Cert.Kernel13Ideal.NormBack.rowsResult m c, fun c => Cert.Kernel13Ideal.NormBack.rowsResult m c, fun c => Cert.NormGrad.weightGrad (Cert.Kernel13Ideal.NormBack.flow m c) (Cert.Kernel13Ideal.NormBack.input m c), Cert.Kernel13Ideal.NormBack.results m g,
    (θ_run _ _ _).mono (fun r h c => ?_) (Cert.Reference13Ideal.NormBack.results m' g')⟩
  obtain ⟨h1, h2, h3, hk⟩ := h c
  obtain ⟨e0, e1, e2, e3⟩ := hm c
  simp only [e0, e1, e2, e3] at h1 h2 h3
  exact ⟨h1, h2, h3, hk⟩

/-- Kernel 14: the gradient of the first norm. The reference's frame, and the same results over the extended reals. -/
theorem frame_reference14 : Cert.quiescent_Reference14Ideal := fun m ρ _ =>
  (θ_run Cert.Reference14Ideal.defs _ _).mono (fun r h => ⟨fun c => (h c).2.2, sem_eq_zero_of_no_sems (by decide) r.2⟩) (Cert.Reference14Ideal.Value.run (F := Ideal) m ρ)
theorem algebraic14 : Cert.algebraic_Kernel14Ideal_Reference14Ideal := by
  intro m g m' g' _ hm
  refine ⟨fun c => Cert.Kernel14Ideal.FirstNormBack.rowsResult m c, fun c => Cert.NormGrad.weightGrad (Cert.Kernel14Ideal.FirstNormBack.flow m c) (Cert.Kernel14Ideal.FirstNormBack.input m c), Cert.Kernel14Ideal.FirstNormBack.results m g,
    (θ_run _ _ _).mono (fun r h c => ?_) (Cert.Reference14Ideal.FirstNormBack.results m' g')⟩
  obtain ⟨h1, h2, hk⟩ := h c
  obtain ⟨e0, e1, e2, e3⟩ := hm c
  simp only [e0, e1, e2, e3] at h1 h2
  exact ⟨h1, h2, hk⟩

/-- Kernel 15: the loss, and the gradients of the last norm. The reference's frame, and the same results over the extended reals. -/
theorem frame_reference15 : Cert.quiescent_Reference15Ideal := fun m ρ _ =>
  (θ_run Cert.Reference15Ideal.defs _ _).mono (fun r h => ⟨fun c => (h c).2.2.2.2, sem_eq_zero_of_no_sems (by decide) r.2⟩) (Cert.Reference15Ideal.Value.run (F := Ideal) m ρ)
theorem algebraic15 : Cert.algebraic_Kernel15Ideal_Reference15Ideal := by
  intro m g m' g' _ hm
  refine ⟨fun c => Cert.Kernel15Ideal.Head.rowsResult m c, fun c => Cert.Kernel15Ideal.Head.rowsResult m c, fun c => Cert.Kernel15Ideal.Head.lossResult m c, fun c => Cert.Kernel15Ideal.Head.weightResult m c, Cert.Kernel15Ideal.Head.results m g,
    (θ_run _ _ _).mono (fun r h c => ?_) (Cert.Reference15Ideal.Head.results m' g')⟩
  obtain ⟨h1, h2, h3, h4, hk⟩ := h c
  obtain ⟨e0, e1, e2⟩ := hm c
  simp only [e0, e1, e2] at h1 h2 h3 h4
  exact ⟨h1, h2, h3, h4, hk⟩

/-- Kernel 16: the feed-forward's activation. The reference's frame, and the same results over the extended reals. -/
theorem frame_reference16 : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)
theorem algebraic16 : Cert.algebraic_Kernel16Ideal_Reference16Ideal := by
  intro m g m' g' _ hm
  refine ⟨fun c => Cert.Act.act (Cert.Kernel16Ideal.Act.up m c) (Cert.Kernel16Ideal.Act.weight m c) (Cert.Kernel16Ideal.Act.bias m c), Cert.Kernel16Ideal.Act.results m g,
    (θ_run _ _ _).mono (fun r h c => ?_) (Cert.Reference16Ideal.Act.results m' g')⟩
  obtain ⟨h1, hk⟩ := h c
  obtain ⟨e0, e1, e2⟩ := hm c
  simp only [e0, e1, e2] at h1
  exact ⟨h1, hk⟩

/-- Its ideal program names the one constant that the reference writes as a product of two. -/
theorem preserves16 : Cert.preserves_Kernel16_Kernel16Ideal :=
  IdealRules.named_const.statement Cert.Kernel16Ideal.κ "gelu_cubic" .f32 0x3D122279#32 ((80338380498831 / 2251799813685248 : ℝ) : EReal) rfl

/-- The claims, of each kernel: the three frames, the ideal program as the kernel's own text, and the same results over the extended reals. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
  frame_kernel, fun m ρ _ => Cert.KernelIdeal.Mix.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, preserves16, algebraic16⟩

end Cert.Proof

end
